-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v392) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x512 : Shape := ⟨2, ![1024, 512]⟩
abbrev S1024 : Shape := ⟨1, ![1024]⟩
abbrev S1024x1024 : Shape := ⟨2, ![1024, 1024]⟩
abbrev S3x4096x1024 : Shape := ⟨3, ![3, 4096, 1024]⟩
abbrev S3x4096 : Shape := ⟨2, ![3, 4096]⟩
abbrev S3x1024x4096 : Shape := ⟨3, ![3, 1024, 4096]⟩
abbrev S3x1024 : Shape := ⟨2, ![3, 1024]⟩
abbrev S4096x1024 : Shape := ⟨2, ![4096, 1024]⟩
abbrev S4096 : Shape := ⟨1, ![4096]⟩
abbrev S128x4096 : Shape := ⟨2, ![128, 4096]⟩
abbrev S128 : Shape := ⟨1, ![128]⟩
abbrev S_ : Shape := ⟨0, ![]⟩

class Facts : Prop where
  bcast_S_S1024x512 : S_.BroadcastsInDim S1024x512 (![] : Fin 0 → Fin S1024x512.rank)
  bcast_S_S1024x1024 : S_.BroadcastsInDim S1024x1024 (![] : Fin 0 → Fin S1024x1024.rank)
  bcast_S_S1024 : S_.BroadcastsInDim S1024 (![] : Fin 0 → Fin S1024.rank)
  bcast_S_S3x4096x1024 : S_.BroadcastsInDim S3x4096x1024 (![] : Fin 0 → Fin S3x4096x1024.rank)
  bcast_S_S3x4096 : S_.BroadcastsInDim S3x4096 (![] : Fin 0 → Fin S3x4096.rank)
  bcast_S_S3x1024x4096 : S_.BroadcastsInDim S3x1024x4096 (![] : Fin 0 → Fin S3x1024x4096.rank)
  bcast_S_S3x1024 : S_.BroadcastsInDim S3x1024 (![] : Fin 0 → Fin S3x1024.rank)

variable [Facts]

def fn_part3 {F : FTy → Type} [FloatOps F] (main_arg15 : FVec F S3x1024 .f32) (main_arg16 : FVec F S3x1024 .f32) (main_arg17 : FVec F S3x1024 .f32) (main_arg18 : FVec F S3x1024 .f32) (main_v6 : IVec S1024x512 1) (main_v21 : IVec S1024x1024 1) (main_v44 : IVec S1024 1) (main_v47 : IVec S3x4096x1024 1) (main_v50 : IVec S3x4096 1) (main_v53 : IVec S3x1024x4096 1) (main_v54 : FVec F S3x1024 .f32) (main_v55 : FVec F S3x1024 .f32) : IVec S1024x512 1 × IVec S1024x1024 1 × IVec S1024 1 × IVec S3x4096x1024 1 × IVec S3x4096 1 × IVec S3x1024x4096 1 × IVec S3x1024 1 :=
  let main_v56 : IVec S3x1024 1 := cmpf .olt main_v54 main_v55
  let main_v57 : FVec F S3x1024 .f32 := Host.absf main_arg15
  let main_cst_15 : FVec F S_ .f32 := constant S_ .f32 0x7F800000#32
  let main_v58 : FVec F S3x1024 .f32 := broadcastInDim S3x1024 ![] bcast_S_S3x1024 main_cst_15
  let main_v59 : IVec S3x1024 1 := cmpf .olt main_v57 main_v58
  let main_v60 : IVec S3x1024 1 := andi main_v56 main_v59
  let main_v61 : FVec F S3x1024 .f32 := Host.absf main_arg16
  let main_cst_16 : FVec F S_ .f32 := constant S_ .f32 0x7F800000#32
  let main_v62 : FVec F S3x1024 .f32 := broadcastInDim S3x1024 ![] bcast_S_S3x1024 main_cst_16
  let main_v63 : IVec S3x1024 1 := cmpf .olt main_v61 main_v62
  let main_v64 : IVec S3x1024 1 := andi main_v60 main_v63
  let main_v65 : FVec F S3x1024 .f32 := Host.absf main_arg17
  let main_cst_17 : FVec F S_ .f32 := constant S_ .f32 0x7F800000#32
  let main_v66 : FVec F S3x1024 .f32 := broadcastInDim S3x1024 ![] bcast_S_S3x1024 main_cst_17
  let main_v67 : IVec S3x1024 1 := cmpf .olt main_v65 main_v66
  let main_v68 : IVec S3x1024 1 := andi main_v64 main_v67
  let main_v69 : FVec F S3x1024 .f32 := Host.absf main_arg18
  let main_cst_18 : FVec F S_ .f32 := constant S_ .f32 0x7F800000#32
  let main_v70 : FVec F S3x1024 .f32 := broadcastInDim S3x1024 ![] bcast_S_S3x1024 main_cst_18
  let main_v71 : IVec S3x1024 1 := cmpf .olt main_v69 main_v70
  let main_v72 : IVec S3x1024 1 := andi main_v68 main_v71
  (main_v6, main_v21, main_v44, main_v47, main_v50, main_v53, main_v72)

def fn_part2 {F : FTy → Type} [FloatOps F] (main_arg11 : FVec F S3x4096x1024 .f32) (main_arg12 : FVec F S3x4096 .f32) (main_arg13 : FVec F S3x1024x4096 .f32) (main_arg14 : FVec F S3x1024 .f32) (main_arg15 : FVec F S3x1024 .f32) (main_arg16 : FVec F S3x1024 .f32) (main_arg17 : FVec F S3x1024 .f32) (main_arg18 : FVec F S3x1024 .f32) (main_arg19 : FVec F S1024 .f32) (main_v6 : IVec S1024x512 1) (main_v21 : IVec S1024x1024 1) (main_v36 : IVec S1024 1) (main_v37 : FVec F S1024 .f32) : IVec S1024x512 1 × IVec S1024x1024 1 × IVec S1024 1 × IVec S3x4096x1024 1 × IVec S3x4096 1 × IVec S3x1024x4096 1 × IVec S3x1024 1 :=
  let main_cst_9 : FVec F S_ .f32 := constant S_ .f32 0x7F800000#32
  let main_v38 : FVec F S1024 .f32 := broadcastInDim S1024 ![] bcast_S_S1024 main_cst_9
  let main_v39 : IVec S1024 1 := cmpf .olt main_v37 main_v38
  let main_v40 : IVec S1024 1 := andi main_v36 main_v39
  let main_v41 : FVec F S1024 .f32 := Host.absf main_arg19
  let main_cst_10 : FVec F S_ .f32 := constant S_ .f32 0x7F800000#32
  let main_v42 : FVec F S1024 .f32 := broadcastInDim S1024 ![] bcast_S_S1024 main_cst_10
  let main_v43 : IVec S1024 1 := cmpf .olt main_v41 main_v42
  let main_v44 : IVec S1024 1 := andi main_v40 main_v43
  let main_v45 : FVec F S3x4096x1024 .f32 := Host.absf main_arg11
  let main_cst_11 : FVec F S_ .f32 := constant S_ .f32 0x7F800000#32
  let main_v46 : FVec F S3x4096x1024 .f32 := broadcastInDim S3x4096x1024 ![] bcast_S_S3x4096x1024 main_cst_11
  let main_v47 : IVec S3x4096x1024 1 := cmpf .olt main_v45 main_v46
  let main_v48 : FVec F S3x4096 .f32 := Host.absf main_arg12
  let main_cst_12 : FVec F S_ .f32 := constant S_ .f32 0x7F800000#32
  let main_v49 : FVec F S3x4096 .f32 := broadcastInDim S3x4096 ![] bcast_S_S3x4096 main_cst_12
  let main_v50 : IVec S3x4096 1 := cmpf .olt main_v48 main_v49
  let main_v51 : FVec F S3x1024x4096 .f32 := Host.absf main_arg13
  let main_cst_13 : FVec F S_ .f32 := constant S_ .f32 0x7F800000#32
  let main_v52 : FVec F S3x1024x4096 .f32 := broadcastInDim S3x1024x4096 ![] bcast_S_S3x1024x4096 main_cst_13
  let main_v53 : IVec S3x1024x4096 1 := cmpf .olt main_v51 main_v52
  let main_v54 : FVec F S3x1024 .f32 := Host.absf main_arg14
  let main_cst_14 : FVec F S_ .f32 := constant S_ .f32 0x7F800000#32
  let main_v55 : FVec F S3x1024 .f32 := broadcastInDim S3x1024 ![] bcast_S_S3x1024 main_cst_14
  fn_part3 (F := F) main_arg15 main_arg16 main_arg17 main_arg18 main_v6 main_v21 main_v44 main_v47 main_v50 main_v53 main_v54 main_v55

def fn_part1 {F : FTy → Type} [FloatOps F] (main_arg2 : FVec F S1024 .f32) (main_arg4 : FVec F S1024 .f32) (main_arg6 : FVec F S1024 .f32) (main_arg8 : FVec F S1024 .f32) (main_arg10 : FVec F S1024 .f32) (main_arg11 : FVec F S3x4096x1024 .f32) (main_arg12 : FVec F S3x4096 .f32) (main_arg13 : FVec F S3x1024x4096 .f32) (main_arg14 : FVec F S3x1024 .f32) (main_arg15 : FVec F S3x1024 .f32) (main_arg16 : FVec F S3x1024 .f32) (main_arg17 : FVec F S3x1024 .f32) (main_arg18 : FVec F S3x1024 .f32) (main_arg19 : FVec F S1024 .f32) (main_v6 : IVec S1024x512 1) (main_v17 : IVec S1024x1024 1) (main_v18 : FVec F S1024x1024 .f32) : IVec S1024x512 1 × IVec S1024x1024 1 × IVec S1024 1 × IVec S3x4096x1024 1 × IVec S3x4096 1 × IVec S3x1024x4096 1 × IVec S3x1024 1 :=
  let main_cst_4 : FVec F S_ .f32 := constant S_ .f32 0x7F800000#32
  let main_v19 : FVec F S1024x1024 .f32 := broadcastInDim S1024x1024 ![] bcast_S_S1024x1024 main_cst_4
  let main_v20 : IVec S1024x1024 1 := cmpf .olt main_v18 main_v19
  let main_v21 : IVec S1024x1024 1 := andi main_v17 main_v20
  let main_v22 : FVec F S1024 .f32 := Host.absf main_arg2
  let main_cst_5 : FVec F S_ .f32 := constant S_ .f32 0x7F800000#32
  let main_v23 : FVec F S1024 .f32 := broadcastInDim S1024 ![] bcast_S_S1024 main_cst_5
  let main_v24 : IVec S1024 1 := cmpf .olt main_v22 main_v23
  let main_v25 : FVec F S1024 .f32 := Host.absf main_arg4
  let main_cst_6 : FVec F S_ .f32 := constant S_ .f32 0x7F800000#32
  let main_v26 : FVec F S1024 .f32 := broadcastInDim S1024 ![] bcast_S_S1024 main_cst_6
  let main_v27 : IVec S1024 1 := cmpf .olt main_v25 main_v26
  let main_v28 : IVec S1024 1 := andi main_v24 main_v27
  let main_v29 : FVec F S1024 .f32 := Host.absf main_arg6
  let main_cst_7 : FVec F S_ .f32 := constant S_ .f32 0x7F800000#32
  let main_v30 : FVec F S1024 .f32 := broadcastInDim S1024 ![] bcast_S_S1024 main_cst_7
  let main_v31 : IVec S1024 1 := cmpf .olt main_v29 main_v30
  let main_v32 : IVec S1024 1 := andi main_v28 main_v31
  let main_v33 : FVec F S1024 .f32 := Host.absf main_arg8
  let main_cst_8 : FVec F S_ .f32 := constant S_ .f32 0x7F800000#32
  let main_v34 : FVec F S1024 .f32 := broadcastInDim S1024 ![] bcast_S_S1024 main_cst_8
  let main_v35 : IVec S1024 1 := cmpf .olt main_v33 main_v34
  let main_v36 : IVec S1024 1 := andi main_v32 main_v35
  let main_v37 : FVec F S1024 .f32 := Host.absf main_arg10
  fn_part2 (F := F) main_arg11 main_arg12 main_arg13 main_arg14 main_arg15 main_arg16 main_arg17 main_arg18 main_arg19 main_v6 main_v21 main_v36 main_v37

def fn {F : FTy → Type} [FloatOps F] (main_arg0 : FVec F S1024x512 .f32) (main_arg1 : FVec F S1024x512 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S3x4096x1024 .f32) (main_arg12 : FVec F S3x4096 .f32) (main_arg13 : FVec F S3x1024x4096 .f32) (main_arg14 : FVec F S3x1024 .f32) (main_arg15 : FVec F S3x1024 .f32) (main_arg16 : FVec F S3x1024 .f32) (main_arg17 : FVec F S3x1024 .f32) (main_arg18 : FVec F S3x1024 .f32) (main_arg19 : FVec F S1024 .f32) (main_arg20 : FVec F S1024 .f32) (main_arg21 : FVec F S4096x1024 .f32) (main_arg22 : FVec F S4096 .f32) (main_arg23 : FVec F S128x4096 .f32) (main_arg24 : FVec F S128 .f32) : IVec S1024x512 1 × IVec S1024x1024 1 × IVec S1024 1 × IVec S3x4096x1024 1 × IVec S3x4096 1 × IVec S3x1024x4096 1 × IVec S3x1024 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_v3 : FVec F S1024x512 .f32 := Host.absf main_arg1
  let main_cst_0 : FVec F S_ .f32 := constant S_ .f32 0x7F800000#32
  let main_v4 : FVec F S1024x512 .f32 := broadcastInDim S1024x512 ![] bcast_S_S1024x512 main_cst_0
  let main_v5 : IVec S1024x512 1 := cmpf .olt main_v3 main_v4
  let main_v6 : IVec S1024x512 1 := andi main_v2 main_v5
  let main_v7 : FVec F S1024x1024 .f32 := Host.absf main_arg3
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : FVec F S1024x1024 .f32 := Host.absf main_arg5
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_v13 : IVec S1024x1024 1 := andi main_v9 main_v12
  let main_v14 : FVec F S1024x1024 .f32 := Host.absf main_arg7
  let main_cst_3 : FVec F S_ .f32 := constant S_ .f32 0x7F800000#32
  let main_v15 : FVec F S1024x1024 .f32 := broadcastInDim S1024x1024 ![] bcast_S_S1024x1024 main_cst_3
  let main_v16 : IVec S1024x1024 1 := cmpf .olt main_v14 main_v15
  let main_v17 : IVec S1024x1024 1 := andi main_v13 main_v16
  let main_v18 : FVec F S1024x1024 .f32 := Host.absf main_arg9
  fn_part1 (F := F) main_arg2 main_arg4 main_arg6 main_arg8 main_arg10 main_arg11 main_arg12 main_arg13 main_arg14 main_arg15 main_arg16 main_arg17 main_arg18 main_arg19 main_v6 main_v17 main_v18
-- ==== Kernel.lean ====
abbrev S1024x512 : Shape := ⟨2, ![1024, 512]⟩
abbrev S1024 : Shape := ⟨1, ![1024]⟩
abbrev S1024x1024 : Shape := ⟨2, ![1024, 1024]⟩
abbrev S3x4096x1024 : Shape := ⟨3, ![3, 4096, 1024]⟩
abbrev S3x4096 : Shape := ⟨2, ![3, 4096]⟩
abbrev S3x1024x4096 : Shape := ⟨3, ![3, 1024, 4096]⟩
abbrev S3x1024 : Shape := ⟨2, ![3, 1024]⟩
abbrev S4096x1024 : Shape := ⟨2, ![4096, 1024]⟩
abbrev S4096 : Shape := ⟨1, ![4096]⟩
abbrev S128x4096 : Shape := ⟨2, ![128, 4096]⟩
abbrev S128 : Shape := ⟨1, ![128]⟩
abbrev S1x1024 : Shape := ⟨2, ![1, 1024]⟩
abbrev S3x1x4096 : Shape := ⟨3, ![3, 1, 4096]⟩
abbrev S3x1x1024 : Shape := ⟨3, ![3, 1, 1024]⟩
abbrev S1x4096 : Shape := ⟨2, ![1, 4096]⟩
abbrev S1x128 : Shape := ⟨2, ![1, 128]⟩
abbrev S1x1024x1024 : Shape := ⟨3, ![1, 1024, 1024]⟩
abbrev S1x1x1024 : Shape := ⟨3, ![1, 1, 1024]⟩
abbrev S1x256x4096 : Shape := ⟨3, ![1, 256, 4096]⟩
abbrev S1024x4096 : Shape := ⟨2, ![1024, 4096]⟩
abbrev S1024x1 : Shape := ⟨2, ![1024, 1]⟩
abbrev S256x4096 : Shape := ⟨2, ![256, 4096]⟩
abbrev S1024x256 : Shape := ⟨2, ![1024, 256]⟩
abbrev S1x1x256 : Shape := ⟨3, ![1, 1, 256]⟩
abbrev S1x256 : Shape := ⟨2, ![1, 256]⟩
abbrev S1024x128 : Shape := ⟨2, ![1024, 128]⟩
abbrev S512x1024 : Shape := ⟨2, ![512, 1024]⟩
abbrev S2048x1024 : Shape := ⟨2, ![2048, 1024]⟩
abbrev S1x2048 : Shape := ⟨2, ![1, 2048]⟩
abbrev S128x2048 : Shape := ⟨2, ![128, 2048]⟩
abbrev S512x128 : Shape := ⟨2, ![512, 128]⟩
abbrev S512x2048 : Shape := ⟨2, ![512, 2048]⟩

abbrev nBuf : Space → Nat
  | .hbm => 40
  | .vmem => 41
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S3x4096x1024, .f32⟩
  | .hbm, ⟨12, _⟩ => ⟨S3x4096, .f32⟩
  | .hbm, ⟨13, _⟩ => ⟨S3x1024x4096, .f32⟩
  | .hbm, ⟨14, _⟩ => ⟨S3x1024, .f32⟩
  | .hbm, ⟨15, _⟩ => ⟨S3x1024, .f32⟩
  | .hbm, ⟨16, _⟩ => ⟨S3x1024, .f32⟩
  | .hbm, ⟨17, _⟩ => ⟨S3x1024, .f32⟩
  | .hbm, ⟨18, _⟩ => ⟨S3x1024, .f32⟩
  | .hbm, ⟨19, _⟩ => ⟨S1024, .f32⟩
  | .hbm, ⟨20, _⟩ => ⟨S1024, .f32⟩
  | .hbm, ⟨21, _⟩ => ⟨S4096x1024, .f32⟩
  | .hbm, ⟨22, _⟩ => ⟨S4096, .f32⟩
  | .hbm, ⟨23, _⟩ => ⟨S128x4096, .f32⟩
  | .hbm, ⟨24, _⟩ => ⟨S128, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S3x1x4096, .f32⟩
  | .hbm, ⟨29, _⟩ => ⟨S3x1x1024, .f32⟩
  | .hbm, ⟨30, _⟩ => ⟨S3x1x1024, .f32⟩
  | .hbm, ⟨31, _⟩ => ⟨S3x1x1024, .f32⟩
  | .hbm, ⟨32, _⟩ => ⟨S3x1x1024, .f32⟩
  | .hbm, ⟨33, _⟩ => ⟨S3x1x1024, .f32⟩
  | .hbm, ⟨34, _⟩ => ⟨S1x1024, .f32⟩
  | .hbm, ⟨35, _⟩ => ⟨S1x1024, .f32⟩
  | .hbm, ⟨36, _⟩ => ⟨S1x4096, .f32⟩
  | .hbm, ⟨37, _⟩ => ⟨S1x128, .f32⟩
  | .hbm, ⟨38, _⟩ => ⟨S1024x1024, .f32⟩
  | .hbm, ⟨39, _⟩ => ⟨S1024x128, .f32⟩
  | .local _ .vmem, ⟨0, _⟩ => ⟨S1024x512, .f32⟩
  | .local _ .vmem, ⟨1, _⟩ => ⟨S1024x512, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x256x4096, .f32⟩
  | .local _ .vmem, ⟨12, _⟩ => ⟨S1x256x4096, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S1x1024, .f32⟩
  | .local _ .vmem, ⟨25, _⟩ => ⟨S1024x1024, .f32⟩
  | .local _ .vmem, ⟨26, _⟩ => ⟨S1024x1024, .f32⟩
  | .local _ .vmem, ⟨27, _⟩ => ⟨S1024x4096, .bf16⟩
  | .local _ .vmem, ⟨28, _⟩ => ⟨S1024x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | .local _ .vmem, ⟨32, _⟩ => ⟨S2048x1024, .f32⟩
  | .local _ .vmem, ⟨33, _⟩ => ⟨S2048x1024, .f32⟩
  | .local _ .vmem, ⟨34, _⟩ => ⟨S1x2048, .f32⟩
  | .local _ .vmem, ⟨35, _⟩ => ⟨S1x2048, .f32⟩
  | .local _ .vmem, ⟨36, _⟩ => ⟨S128x2048, .f32⟩
  | .local _ .vmem, ⟨37, _⟩ => ⟨S128x2048, .f32⟩
  | .local _ .vmem, ⟨38, _⟩ => ⟨S1x128, .f32⟩
  | .local _ .vmem, ⟨39, _⟩ => ⟨S512x128, .f32⟩
  | .local _ .vmem, ⟨40, _⟩ => ⟨S512x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg5_0 : Ref sig .tc := ⟨.vmem, 39, rfl⟩
abbrev cc1_stg5_1 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem5_0 : DmaSem sig := 35
abbrev cc1_sem5_1 : DmaSem sig := 36

abbrev nD : Nat := 1
abbrev τ : Topo := Topo.v7x

variable {F : FTy → Type} [FloatOps F]

abbrev grid0 : Pipeline.Grid := ⟨2, ![3, 8], ![false, false]⟩

def k0_cond3 (i : grid0.Coords) : BitVec 1 :=
  let arg1 : BitVec 32 := BitVec.ofNat 32 (i 1).val
  let c4_i32 : BitVec 32 := 4#32
  let v8 : BitVec 1 := Scalar.cmpi .slt arg1 c4_i32
  let v9 : BitVec 32 := Scalar.extui v8
  let c0_i32_4 : BitVec 32 := 0#32
  let v10 : BitVec 1 := Scalar.cmpi .ne v9 c0_i32_4
  v10

def k0_off1 (i : grid0.Coords) : Fin 2 → Nat :=
  let c0_20 : Index := 0#32
  let arg1 : BitVec 32 := BitVec.ofNat 32 (i 1).val
  let c1024_i32 : BitVec 32 := 1024#32
  let v39 : BitVec 32 := Scalar.muli arg1 c1024_i32
  let v40 : Index := Scalar.indexCast v39
  ![0, v40.toNat]
def k0_cond4 (i : grid0.Coords) : BitVec 1 :=
  let arg1 : BitVec 32 := BitVec.ofNat 32 (i 1).val
  let c4_i32_5 : BitVec 32 := 4#32
  let v11 : BitVec 1 := Scalar.cmpi .sge arg1 c4_i32_5
  let v12 : BitVec 32 := Scalar.extui v11
  let c0_i32_6 : BitVec 32 := 0#32
  let v13 : BitVec 1 := Scalar.cmpi .ne v12 c0_i32_6
  v13

def k0_off2 (i : grid0.Coords) : Fin 2 → Nat :=
  let c0_15 : Index := 0#32
  let arg1 : BitVec 32 := BitVec.ofNat 32 (i 1).val
  let c4_i32_10 : BitVec 32 := 4#32
  let v22 : BitVec 32 := Scalar.subi arg1 c4_i32_10
  let c256_i32 : BitVec 32 := 256#32
  let v28 : BitVec 32 := Scalar.muli v22 c256_i32
  let v29 : Index := Scalar.indexCast v28
  ![0, v29.toNat]
def k0_off3 (i : grid0.Coords) : Fin 3 → Nat :=
  let c0_16 : Index := 0#32
  let c0_17 : Index := 0#32
  let arg1 : BitVec 32 := BitVec.ofNat 32 (i 1).val
  let c4_i32_10 : BitVec 32 := 4#32
  let v22 : BitVec 32 := Scalar.subi arg1 c4_i32_10
  let c256_i32 : BitVec 32 := 256#32
  let v28 : BitVec 32 := Scalar.muli v22 c256_i32
  let v32 : Index := Scalar.indexCast v28
  ![0, 0, v32.toNat]
def k0_cond6 (i : grid0.Coords) : BitVec 1 :=
  let arg1 : BitVec 32 := BitVec.ofNat 32 (i 1).val
  let c7_i32_8 : BitVec 32 := 7#32
  let v17 : BitVec 1 := Scalar.cmpi .eq arg1 c7_i32_8
  let arg0 : BitVec 32 := BitVec.ofNat 32 (i 0).val
  let c2_i32 : BitVec 32 := 2#32
  let v18 : BitVec 1 := Scalar.cmpi .eq arg0 c2_i32
  let v19 : BitVec 1 := Scalar.andi v17 v18
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev grid1 : Pipeline.Grid := ⟨2, ![2, 2], ![false, false]⟩

def k1_cond1 (i : grid1.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_11 : BitVec 32 := 0#32
  let v20 : BitVec 1 := Scalar.cmpi .ne v19 c0_i32_11
  v20

def k1_cond2 (i : grid1.Coords) : BitVec 1 :=
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S1024x512 : Shape := ⟨2, ![1024, 512]⟩
abbrev S1024 : Shape := ⟨1, ![1024]⟩
abbrev S1024x1024 : Shape := ⟨2, ![1024, 1024]⟩
abbrev S3x4096x1024 : Shape := ⟨3, ![3, 4096, 1024]⟩
abbrev S3x4096 : Shape := ⟨2, ![3, 4096]⟩
abbrev S3x1024x4096 : Shape := ⟨3, ![3, 1024, 4096]⟩
abbrev S3x1024 : Shape := ⟨2, ![3, 1024]⟩
abbrev S4096x1024 : Shape := ⟨2, ![4096, 1024]⟩
abbrev S4096 : Shape := ⟨1, ![4096]⟩
abbrev S128x4096 : Shape := ⟨2, ![128, 4096]⟩
abbrev S128 : Shape := ⟨1, ![128]⟩
abbrev S512x1024 : Shape := ⟨2, ![512, 1024]⟩
abbrev S1x1024 : Shape := ⟨2, ![1, 1024]⟩
abbrev S1024x1x1024 : Shape := ⟨3, ![1024, 1, 1024]⟩
abbrev S1x1x1024 : Shape := ⟨3, ![1, 1, 1024]⟩
abbrev S1024x1x16x64 : Shape := ⟨4, ![1024, 1, 16, 64]⟩
abbrev S1024x16x1x64 : Shape := ⟨4, ![1024, 16, 1, 64]⟩
abbrev S1024x16x1x1 : Shape := ⟨4, ![1024, 16, 1, 1]⟩
abbrev S_ : Shape := ⟨0, ![]⟩
abbrev S1024x16x1 : Shape := ⟨3, ![1024, 16, 1]⟩
abbrev S1024x16x64 : Shape := ⟨3, ![1024, 16, 64]⟩
abbrev S1024x1 : Shape := ⟨2, ![1024, 1]⟩
abbrev S1024x1x1 : Shape := ⟨3, ![1024, 1, 1]⟩
abbrev S1x4096x1024 : Shape := ⟨3, ![1, 4096, 1024]⟩
abbrev S1024x4096 : Shape := ⟨2, ![1024, 4096]⟩
abbrev S1024x1x4096 : Shape := ⟨3, ![1024, 1, 4096]⟩
abbrev S1x4096 : Shape := ⟨2, ![1, 4096]⟩
abbrev S1x1x4096 : Shape := ⟨3, ![1, 1, 4096]⟩
abbrev S1x1024x4096 : Shape := ⟨3, ![1, 1024, 4096]⟩
abbrev S4096x128 : Shape := ⟨2, ![4096, 128]⟩
abbrev S1024x128 : Shape := ⟨2, ![1024, 128]⟩
abbrev S1x128 : Shape := ⟨2, ![1, 128]⟩

abbrev nBuf : Space → Nat
  | .hbm => 638
  | .vmem => 0
  | .smem => 0
  | _ => 0

abbrev hbmTy0_0 (i : Nat) : BufTy := match i % 128 with
  | 0 => ⟨S1024x512, .f32⟩
  | 1 => ⟨S1024x512, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S3x4096x1024, .f32⟩
  | 12 => ⟨S3x4096, .f32⟩
  | 13 => ⟨S3x1024x4096, .f32⟩
  | 14 => ⟨S3x1024, .f32⟩
  | 15 => ⟨S3x1024, .f32⟩
  | 16 => ⟨S3x1024, .f32⟩
  | 17 => ⟨S3x1024, .f32⟩
  | 18 => ⟨S3x1024, .f32⟩
  | 19 => ⟨S1024, .f32⟩
  | 20 => ⟨S1024, .f32⟩
  | 21 => ⟨S4096x1024, .f32⟩
  | 22 => ⟨S4096, .f32⟩
  | 23 => ⟨S128x4096, .f32⟩
  | 24 => ⟨S128, .f32⟩
  | 25 => ⟨S512x1024, .f32⟩
  | 26 => ⟨S1024x1024, .f32⟩
  | 27 => ⟨S1x1024, .f32⟩
  | 28 => ⟨S1024x1024, .f32⟩
  | 29 => ⟨S1024x1024, .f32⟩
  | 30 => ⟨S1024x1x1024, .f32⟩
  | 31 => ⟨S1024x1024, .f32⟩
  | 32 => ⟨S1024x1x1024, .f32⟩
  | 33 => ⟨S1x1x1024, .f32⟩
  | 34 => ⟨S1024x1x1024, .f32⟩
  | 35 => ⟨S1024x1x1024, .f32⟩
  | 36 => ⟨S1024x1x16x64, .f32⟩
  | 37 => ⟨S1024x16x1x64, .f32⟩
  | 38 => ⟨S1024x1024, .f32⟩
  | 39 => ⟨S1024x1x1024, .f32⟩
  | 40 => ⟨S1x1x1024, .f32⟩
  | 41 => ⟨S1024x1x1024, .f32⟩
  | 42 => ⟨S1024x1x1024, .f32⟩
  | 43 => ⟨S1024x1x16x64, .f32⟩
  | 44 => ⟨S1024x16x1x64, .f32⟩
  | 45 => ⟨S1024x1024, .f32⟩
  | 46 => ⟨S1024x1x1024, .f32⟩
  | 47 => ⟨S1x1x1024, .f32⟩
  | 48 => ⟨S1024x1x1024, .f32⟩
  | 49 => ⟨S1024x1x1024, .f32⟩
  | 50 => ⟨S1024x1x16x64, .f32⟩
  | 51 => ⟨S1024x16x1x64, .f32⟩
  | 52 => ⟨S1024x16x1x1, .f32⟩
  | 53 => ⟨S_, .f32⟩
  | 54 => ⟨S1024x16x1x1, .f32⟩
  | 55 => ⟨S1024x16x1x1, .f32⟩
  | 56 => ⟨S_, .f32⟩
  | 57 => ⟨S1024x16x1, .f32⟩
  | 58 => ⟨S_, .f32⟩
  | 59 => ⟨S1024x16x1, .f32⟩
  | 60 => ⟨S1024x16x1, .f32⟩
  | 61 => ⟨S1024x16x1x1, .f32⟩
  | 62 => ⟨S1024x16x1x1, .f32⟩
  | 63 => ⟨S1024x16x1x1, .f32⟩
  | 64 => ⟨S_, .f32⟩
  | 65 => ⟨S1024x16x1, .f32⟩
  | 66 => ⟨S1024x16x1x1, .f32⟩
  | 67 => ⟨S1024x16x1x1, .f32⟩
  | 68 => ⟨S_, .f32⟩
  | 69 => ⟨S1024x16x64, .f32⟩
  | 70 => ⟨S1024x16x1x64, .f32⟩
  | 71 => ⟨S_, .f32⟩
  | 72 => ⟨S1024x16x1x64, .f32⟩
  | 73 => ⟨S1024x16x1x64, .f32⟩
  | 74 => ⟨S1024x16x1x64, .f32⟩
  | 75 => ⟨S_, .i32⟩
  | 76 => ⟨S_, .i32⟩
  | 77 => ⟨S_, .i32⟩
  | 78 => ⟨S_, .i32⟩
  | 79 => ⟨S1024x16x1x64, .f32⟩
  | 80 => ⟨S1024x1x16x64, .f32⟩
  | 81 => ⟨S1024x1x1024, .f32⟩
  | 82 => ⟨S1024x1024, .f32⟩
  | 83 => ⟨S1024x1x1024, .f32⟩
  | 84 => ⟨S1x1x1024, .f32⟩
  | 85 => ⟨S1024x1x1024, .f32⟩
  | 86 => ⟨S1024x1x1024, .f32⟩
  | 87 => ⟨S1024x1x1024, .f32⟩
  | 88 => ⟨S1x1024, .f32⟩
  | 89 => ⟨S1024, .f32⟩
  | 90 => ⟨S1x1024, .f32⟩
  | 91 => ⟨S1024, .f32⟩
  | 92 => ⟨S_, .f32⟩
  | 93 => ⟨S1024x1, .f32⟩
  | 94 => ⟨S1024x1x1, .f32⟩
  | 95 => ⟨S_, .f32⟩
  | 96 => ⟨S1024x1x1, .f32⟩
  | 97 => ⟨S1024x1x1, .f32⟩
  | 98 => ⟨S_, .i32⟩
  | 99 => ⟨S_, .f32⟩
  | 100 => ⟨S1024x1, .f32⟩
  | 101 => ⟨S1024x1x1, .f32⟩
  | 102 => ⟨S_, .f32⟩
  | 103 => ⟨S1024x1x1, .f32⟩
  | 104 => ⟨S1024x1x1, .f32⟩
  | 105 => ⟨S1024x1x1024, .f32⟩
  | 106 => ⟨S1024x1x1024, .f32⟩
  | 107 => ⟨S1024x1x1024, .f32⟩
  | 108 => ⟨S_, .f32⟩
  | 109 => ⟨S_, .f32⟩
  | 110 => ⟨S_, .f32⟩
  | 111 => ⟨S_, .f32⟩
  | 112 => ⟨S1024x1, .f32⟩
  | 113 => ⟨S1024x1x1, .f32⟩
  | 114 => ⟨S1024x1x1, .f32⟩
  | 115 => ⟨S1024x1x1, .f32⟩
  | 116 => ⟨S_, .f32⟩
  | 117 => ⟨S_, .i1⟩
  | 118 => ⟨S_, .f32⟩
  | 119 => ⟨S_, .f32⟩
  | 120 => ⟨S1024x1x1, .f32⟩
  | 121 => ⟨S1024x1x1, .f32⟩
  | 122 => ⟨S1024x1x1024, .f32⟩
  | 123 => ⟨S1024x1x1024, .f32⟩
  | 124 => ⟨S_, .f32⟩
  | 125 => ⟨S1024x1x1, .f32⟩
  | 126 => ⟨S1024x1x1, .f32⟩
  | 127 => ⟨S1024x1x1, .f32⟩
  | _ => ⟨S1024x512, .f32⟩

abbrev hbmTy0_1 (i : Nat) : BufTy := match i % 128 with
  | 0 => ⟨S1024x1x1024, .f32⟩
  | 1 => ⟨S1024x1x1024, .f32⟩
  | 2 => ⟨S1x1x1024, .f32⟩
  | 3 => ⟨S1024x1x1024, .f32⟩
  | 4 => ⟨S1024x1x1024, .f32⟩
  | 5 => ⟨S1x1x1024, .f32⟩
  | 6 => ⟨S1024x1x1024, .f32⟩
  | 7 => ⟨S1024x1x1024, .f32⟩
  | 8 => ⟨S1x4096x1024, .f32⟩
  | 9 => ⟨S4096x1024, .f32⟩
  | 10 => ⟨S1024x4096, .f32⟩
  | 11 => ⟨S1024x1x4096, .f32⟩
  | 12 => ⟨S1x4096, .f32⟩
  | 13 => ⟨S4096, .f32⟩
  | 14 => ⟨S1x1x4096, .f32⟩
  | 15 => ⟨S1024x1x4096, .f32⟩
  | 16 => ⟨S1024x1x4096, .f32⟩
  | 17 => ⟨S_, .f32⟩
  | 18 => ⟨S1024x1x4096, .f32⟩
  | 19 => ⟨S1024x1x4096, .f32⟩
  | 20 => ⟨S1024x1x4096, .f32⟩
  | 21 => ⟨S_, .f32⟩
  | 22 => ⟨S1024x1x4096, .f32⟩
  | 23 => ⟨S1024x1x4096, .f32⟩
  | 24 => ⟨S1024x1x4096, .f32⟩
  | 25 => ⟨S1024x1x4096, .f32⟩
  | 26 => ⟨S1x1024x4096, .f32⟩
  | 27 => ⟨S1024x4096, .f32⟩
  | 28 => ⟨S4096x1024, .f32⟩
  | 29 => ⟨S1024x1x1024, .f32⟩
  | 30 => ⟨S1x1024, .f32⟩
  | 31 => ⟨S1024, .f32⟩
  | 32 => ⟨S1x1x1024, .f32⟩
  | 33 => ⟨S1024x1x1024, .f32⟩
  | 34 => ⟨S1024x1x1024, .f32⟩
  | 35 => ⟨S1024x1x1024, .f32⟩
  | 36 => ⟨S1x1024, .f32⟩
  | 37 => ⟨S1024, .f32⟩
  | 38 => ⟨S1x1024, .f32⟩
  | 39 => ⟨S1024, .f32⟩
  | 40 => ⟨S_, .f32⟩
  | 41 => ⟨S1024x1, .f32⟩
  | 42 => ⟨S1024x1x1, .f32⟩
  | 43 => ⟨S_, .f32⟩
  | 44 => ⟨S1024x1x1, .f32⟩
  | 45 => ⟨S1024x1x1, .f32⟩
  | 46 => ⟨S_, .i32⟩
  | 47 => ⟨S_, .f32⟩
  | 48 => ⟨S1024x1, .f32⟩
  | 49 => ⟨S1024x1x1, .f32⟩
  | 50 => ⟨S_, .f32⟩
  | 51 => ⟨S1024x1x1, .f32⟩
  | 52 => ⟨S1024x1x1, .f32⟩
  | 53 => ⟨S1024x1x1024, .f32⟩
  | 54 => ⟨S1024x1x1024, .f32⟩
  | 55 => ⟨S1024x1x1024, .f32⟩
  | 56 => ⟨S_, .f32⟩
  | 57 => ⟨S_, .f32⟩
  | 58 => ⟨S_, .f32⟩
  | 59 => ⟨S_, .f32⟩
  | 60 => ⟨S1024x1, .f32⟩
  | 61 => ⟨S1024x1x1, .f32⟩
  | 62 => ⟨S1024x1x1, .f32⟩
  | 63 => ⟨S1024x1x1, .f32⟩
  | 64 => ⟨S_, .f32⟩
  | 65 => ⟨S_, .i1⟩
  | 66 => ⟨S_, .f32⟩
  | 67 => ⟨S_, .f32⟩
  | 68 => ⟨S1024x1x1, .f32⟩
  | 69 => ⟨S1024x1x1, .f32⟩
  | 70 => ⟨S1024x1x1024, .f32⟩
  | 71 => ⟨S1024x1x1024, .f32⟩
  | 72 => ⟨S_, .f32⟩
  | 73 => ⟨S1024x1x1, .f32⟩
  | 74 => ⟨S1024x1x1, .f32⟩
  | 75 => ⟨S1024x1x1, .f32⟩
  | 76 => ⟨S1024x1x1024, .f32⟩
  | 77 => ⟨S1024x1x1024, .f32⟩
  | 78 => ⟨S1x1x1024, .f32⟩
  | 79 => ⟨S1024x1x1024, .f32⟩
  | 80 => ⟨S1024x1x1024, .f32⟩
  | 81 => ⟨S1x1x1024, .f32⟩
  | 82 => ⟨S1024x1x1024, .f32⟩
  | 83 => ⟨S1024x1x1024, .f32⟩
  | 84 => ⟨S1024x1024, .f32⟩
  | 85 => ⟨S1024x1x1024, .f32⟩
  | 86 => ⟨S1x1x1024, .f32⟩
  | 87 => ⟨S1024x1x1024, .f32⟩
  | 88 => ⟨S1024x1x1024, .f32⟩
  | 89 => ⟨S1024x1x16x64, .f32⟩
  | 90 => ⟨S1024x16x1x64, .f32⟩
  | 91 => ⟨S1024x1024, .f32⟩
  | 92 => ⟨S1024x1x1024, .f32⟩
  | 93 => ⟨S1x1x1024, .f32⟩
  | 94 => ⟨S1024x1x1024, .f32⟩
  | 95 => ⟨S1024x1x1024, .f32⟩
  | 96 => ⟨S1024x1x16x64, .f32⟩
  | 97 => ⟨S1024x16x1x64, .f32⟩
  | 98 => ⟨S1024x1024, .f32⟩
  | 99 => ⟨S1024x1x1024, .f32⟩
  | 100 => ⟨S1x1x1024, .f32⟩
  | 101 => ⟨S1024x1x1024, .f32⟩
  | 102 => ⟨S1024x1x1024, .f32⟩
  | 103 => ⟨S1024x1x16x64, .f32⟩
  | 104 => ⟨S1024x16x1x64, .f32⟩
  | 105 => ⟨S1024x16x1x1, .f32⟩
  | 106 => ⟨S_, .f32⟩
  | 107 => ⟨S1024x16x1x1, .f32⟩
  | 108 => ⟨S1024x16x1x1, .f32⟩
  | 109 => ⟨S_, .f32⟩
  | 110 => ⟨S1024x16x1, .f32⟩
  | 111 => ⟨S_, .f32⟩
  | 112 => ⟨S1024x16x1, .f32⟩
  | 113 => ⟨S1024x16x1, .f32⟩
  | 114 => ⟨S1024x16x1x1, .f32⟩
  | 115 => ⟨S1024x16x1x1, .f32⟩
  | 116 => ⟨S1024x16x1x1, .f32⟩
  | 117 => ⟨S_, .f32⟩
  | 118 => ⟨S1024x16x1, .f32⟩
  | 119 => ⟨S1024x16x1x1, .f32⟩
  | 120 => ⟨S1024x16x1x1, .f32⟩
  | 121 => ⟨S_, .f32⟩
  | 122 => ⟨S1024x16x64, .f32⟩
  | 123 => ⟨S1024x16x1x64, .f32⟩
  | 124 => ⟨S_, .f32⟩
  | 125 => ⟨S1024x16x1x64, .f32⟩
  | 126 => ⟨S1024x16x1x64, .f32⟩
  | 127 => ⟨S1024x16x1x64, .f32⟩
  | _ => ⟨S1024x512, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S1024x16x1x64, .f32⟩
  | 5 => ⟨S1024x1x16x64, .f32⟩
  | 6 => ⟨S1024x1x1024, .f32⟩
  | 7 => ⟨S1024x1024, .f32⟩
  | 8 => ⟨S1024x1x1024, .f32⟩
  | 9 => ⟨S1x1x1024, .f32⟩
  | 10 => ⟨S1024x1x1024, .f32⟩
  | 11 => ⟨S1024x1x1024, .f32⟩
  | 12 => ⟨S1024x1x1024, .f32⟩
  | 13 => ⟨S1x1024, .f32⟩
  | 14 => ⟨S1024, .f32⟩
  | 15 => ⟨S1x1024, .f32⟩
  | 16 => ⟨S1024, .f32⟩
  | 17 => ⟨S_, .f32⟩
  | 18 => ⟨S1024x1, .f32⟩
  | 19 => ⟨S1024x1x1, .f32⟩
  | 20 => ⟨S_, .f32⟩
  | 21 => ⟨S1024x1x1, .f32⟩
  | 22 => ⟨S1024x1x1, .f32⟩
  | 23 => ⟨S_, .i32⟩
  | 24 => ⟨S_, .f32⟩
  | 25 => ⟨S1024x1, .f32⟩
  | 26 => ⟨S1024x1x1, .f32⟩
  | 27 => ⟨S_, .f32⟩
  | 28 => ⟨S1024x1x1, .f32⟩
  | 29 => ⟨S1024x1x1, .f32⟩
  | 30 => ⟨S1024x1x1024, .f32⟩
  | 31 => ⟨S1024x1x1024, .f32⟩
  | 32 => ⟨S1024x1x1024, .f32⟩
  | 33 => ⟨S_, .f32⟩
  | 34 => ⟨S_, .f32⟩
  | 35 => ⟨S_, .f32⟩
  | 36 => ⟨S_, .f32⟩
  | 37 => ⟨S1024x1, .f32⟩
  | 38 => ⟨S1024x1x1, .f32⟩
  | 39 => ⟨S1024x1x1, .f32⟩
  | 40 => ⟨S1024x1x1, .f32⟩
  | 41 => ⟨S_, .f32⟩
  | 42 => ⟨S_, .i1⟩
  | 43 => ⟨S_, .f32⟩
  | 44 => ⟨S_, .f32⟩
  | 45 => ⟨S1024x1x1, .f32⟩
  | 46 => ⟨S1024x1x1, .f32⟩
  | 47 => ⟨S1024x1x1024, .f32⟩
  | 48 => ⟨S1024x1x1024, .f32⟩
  | 49 => ⟨S_, .f32⟩
  | 50 => ⟨S1024x1x1, .f32⟩
  | 51 => ⟨S1024x1x1, .f32⟩
  | 52 => ⟨S1024x1x1, .f32⟩
  | 53 => ⟨S1024x1x1024, .f32⟩
  | 54 => ⟨S1024x1x1024, .f32⟩
  | 55 => ⟨S1x1x1024, .f32⟩
  | 56 => ⟨S1024x1x1024, .f32⟩
  | 57 => ⟨S1024x1x1024, .f32⟩
  | 58 => ⟨S1x1x1024, .f32⟩
  | 59 => ⟨S1024x1x1024, .f32⟩
  | 60 => ⟨S1024x1x1024, .f32⟩
  | 61 => ⟨S1x4096x1024, .f32⟩
  | 62 => ⟨S4096x1024, .f32⟩
  | 63 => ⟨S1024x4096, .f32⟩
  | 64 => ⟨S1024x1x4096, .f32⟩
  | 65 => ⟨S1x4096, .f32⟩
  | 66 => ⟨S4096, .f32⟩
  | 67 => ⟨S1x1x4096, .f32⟩
  | 68 => ⟨S1024x1x4096, .f32⟩
  | 69 => ⟨S1024x1x4096, .f32⟩
  | 70 => ⟨S_, .f32⟩
  | 71 => ⟨S1024x1x4096, .f32⟩
  | 72 => ⟨S1024x1x4096, .f32⟩
  | 73 => ⟨S1024x1x4096, .f32⟩
  | 74 => ⟨S_, .f32⟩
  | 75 => ⟨S1024x1x4096, .f32⟩
  | 76 => ⟨S1024x1x4096, .f32⟩
  | 77 => ⟨S1024x1x4096, .f32⟩
  | 78 => ⟨S1024x1x4096, .f32⟩
  | 79 => ⟨S1x1024x4096, .f32⟩
  | 80 => ⟨S1024x4096, .f32⟩
  | 81 => ⟨S4096x1024, .f32⟩
  | 82 => ⟨S1024x1x1024, .f32⟩
  | 83 => ⟨S1x1024, .f32⟩
  | 84 => ⟨S1024, .f32⟩
  | 85 => ⟨S1x1x1024, .f32⟩
  | 86 => ⟨S1024x1x1024, .f32⟩
  | 87 => ⟨S1024x1x1024, .f32⟩
  | 88 => ⟨S1024x1x1024, .f32⟩
  | 89 => ⟨S1x1024, .f32⟩
  | 90 => ⟨S1024, .f32⟩
  | 91 => ⟨S1x1024, .f32⟩
  | 92 => ⟨S1024, .f32⟩
  | 93 => ⟨S_, .f32⟩
  | 94 => ⟨S1024x1, .f32⟩
  | 95 => ⟨S1024x1x1, .f32⟩
  | 96 => ⟨S_, .f32⟩
  | 97 => ⟨S1024x1x1, .f32⟩
  | 98 => ⟨S1024x1x1, .f32⟩
  | 99 => ⟨S_, .i32⟩
  | 100 => ⟨S_, .f32⟩
  | 101 => ⟨S1024x1, .f32⟩
  | 102 => ⟨S1024x1x1, .f32⟩
  | 103 => ⟨S_, .f32⟩
  | 104 => ⟨S1024x1x1, .f32⟩
  | 105 => ⟨S1024x1x1, .f32⟩
  | 106 => ⟨S1024x1x1024, .f32⟩
  | 107 => ⟨S1024x1x1024, .f32⟩
  | 108 => ⟨S1024x1x1024, .f32⟩
  | 109 => ⟨S_, .f32⟩
  | 110 => ⟨S_, .f32⟩
  | 111 => ⟨S_, .f32⟩
  | 112 => ⟨S_, .f32⟩
  | 113 => ⟨S1024x1, .f32⟩
  | 114 => ⟨S1024x1x1, .f32⟩
  | 115 => ⟨S1024x1x1, .f32⟩
  | 116 => ⟨S1024x1x1, .f32⟩
  | 117 => ⟨S_, .f32⟩
  | 118 => ⟨S_, .i1⟩
  | 119 => ⟨S_, .f32⟩
  | 120 => ⟨S_, .f32⟩
  | 121 => ⟨S1024x1x1, .f32⟩
  | 122 => ⟨S1024x1x1, .f32⟩
  | 123 => ⟨S1024x1x1024, .f32⟩
  | 124 => ⟨S1024x1x1024, .f32⟩
  | 125 => ⟨S_, .f32⟩
  | 126 => ⟨S1024x1x1, .f32⟩
  | 127 => ⟨S1024x1x1, .f32⟩
  | _ => ⟨S1024x512, .f32⟩

abbrev hbmTy0_3 (i : Nat) : BufTy := match i % 128 with
  | 0 => ⟨S1024x1x1, .f32⟩
  | 1 => ⟨S1024x1x1024, .f32⟩
  | 2 => ⟨S1024x1x1024, .f32⟩
  | 3 => ⟨S1x1x1024, .f32⟩
  | 4 => ⟨S1024x1x1024, .f32⟩
  | 5 => ⟨S1024x1x1024, .f32⟩
  | 6 => ⟨S1x1x1024, .f32⟩
  | 7 => ⟨S1024x1x1024, .f32⟩
  | 8 => ⟨S1024x1x1024, .f32⟩
  | 9 => ⟨S1024x1024, .f32⟩
  | 10 => ⟨S1024x1x1024, .f32⟩
  | 11 => ⟨S1x1x1024, .f32⟩
  | 12 => ⟨S1024x1x1024, .f32⟩
  | 13 => ⟨S1024x1x1024, .f32⟩
  | 14 => ⟨S1024x1x16x64, .f32⟩
  | 15 => ⟨S1024x16x1x64, .f32⟩
  | 16 => ⟨S1024x1024, .f32⟩
  | 17 => ⟨S1024x1x1024, .f32⟩
  | 18 => ⟨S1x1x1024, .f32⟩
  | 19 => ⟨S1024x1x1024, .f32⟩
  | 20 => ⟨S1024x1x1024, .f32⟩
  | 21 => ⟨S1024x1x16x64, .f32⟩
  | 22 => ⟨S1024x16x1x64, .f32⟩
  | 23 => ⟨S1024x1024, .f32⟩
  | 24 => ⟨S1024x1x1024, .f32⟩
  | 25 => ⟨S1x1x1024, .f32⟩
  | 26 => ⟨S1024x1x1024, .f32⟩
  | 27 => ⟨S1024x1x1024, .f32⟩
  | 28 => ⟨S1024x1x16x64, .f32⟩
  | 29 => ⟨S1024x16x1x64, .f32⟩
  | 30 => ⟨S1024x16x1x1, .f32⟩
  | 31 => ⟨S_, .f32⟩
  | 32 => ⟨S1024x16x1x1, .f32⟩
  | 33 => ⟨S1024x16x1x1, .f32⟩
  | 34 => ⟨S_, .f32⟩
  | 35 => ⟨S1024x16x1, .f32⟩
  | 36 => ⟨S_, .f32⟩
  | 37 => ⟨S1024x16x1, .f32⟩
  | 38 => ⟨S1024x16x1, .f32⟩
  | 39 => ⟨S1024x16x1x1, .f32⟩
  | 40 => ⟨S1024x16x1x1, .f32⟩
  | 41 => ⟨S1024x16x1x1, .f32⟩
  | 42 => ⟨S_, .f32⟩
  | 43 => ⟨S1024x16x1, .f32⟩
  | 44 => ⟨S1024x16x1x1, .f32⟩
  | 45 => ⟨S1024x16x1x1, .f32⟩
  | 46 => ⟨S_, .f32⟩
  | 47 => ⟨S1024x16x64, .f32⟩
  | 48 => ⟨S1024x16x1x64, .f32⟩
  | 49 => ⟨S_, .f32⟩
  | 50 => ⟨S1024x16x1x64, .f32⟩
  | 51 => ⟨S1024x16x1x64, .f32⟩
  | 52 => ⟨S1024x16x1x64, .f32⟩
  | 53 => ⟨S_, .i32⟩
  | 54 => ⟨S_, .i32⟩
  | 55 => ⟨S_, .i32⟩
  | 56 => ⟨S_, .i32⟩
  | 57 => ⟨S1024x16x1x64, .f32⟩
  | 58 => ⟨S1024x1x16x64, .f32⟩
  | 59 => ⟨S1024x1x1024, .f32⟩
  | 60 => ⟨S1024x1024, .f32⟩
  | 61 => ⟨S1024x1x1024, .f32⟩
  | 62 => ⟨S1x1x1024, .f32⟩
  | 63 => ⟨S1024x1x1024, .f32⟩
  | 64 => ⟨S1024x1x1024, .f32⟩
  | 65 => ⟨S1024x1x1024, .f32⟩
  | 66 => ⟨S1x1024, .f32⟩
  | 67 => ⟨S1024, .f32⟩
  | 68 => ⟨S1x1024, .f32⟩
  | 69 => ⟨S1024, .f32⟩
  | 70 => ⟨S_, .f32⟩
  | 71 => ⟨S1024x1, .f32⟩
  | 72 => ⟨S1024x1x1, .f32⟩
  | 73 => ⟨S_, .f32⟩
  | 74 => ⟨S1024x1x1, .f32⟩
  | 75 => ⟨S1024x1x1, .f32⟩
  | 76 => ⟨S_, .i32⟩
  | 77 => ⟨S_, .f32⟩
  | 78 => ⟨S1024x1, .f32⟩
  | 79 => ⟨S1024x1x1, .f32⟩
  | 80 => ⟨S_, .f32⟩
  | 81 => ⟨S1024x1x1, .f32⟩
  | 82 => ⟨S1024x1x1, .f32⟩
  | 83 => ⟨S1024x1x1024, .f32⟩
  | 84 => ⟨S1024x1x1024, .f32⟩
  | 85 => ⟨S1024x1x1024, .f32⟩
  | 86 => ⟨S_, .f32⟩
  | 87 => ⟨S_, .f32⟩
  | 88 => ⟨S_, .f32⟩
  | 89 => ⟨S_, .f32⟩
  | 90 => ⟨S1024x1, .f32⟩
  | 91 => ⟨S1024x1x1, .f32⟩
  | 92 => ⟨S1024x1x1, .f32⟩
  | 93 => ⟨S1024x1x1, .f32⟩
  | 94 => ⟨S_, .f32⟩
  | 95 => ⟨S_, .i1⟩
  | 96 => ⟨S_, .f32⟩
  | 97 => ⟨S_, .f32⟩
  | 98 => ⟨S1024x1x1, .f32⟩
  | 99 => ⟨S1024x1x1, .f32⟩
  | 100 => ⟨S1024x1x1024, .f32⟩
  | 101 => ⟨S1024x1x1024, .f32⟩
  | 102 => ⟨S_, .f32⟩
  | 103 => ⟨S1024x1x1, .f32⟩
  | 104 => ⟨S1024x1x1, .f32⟩
  | 105 => ⟨S1024x1x1, .f32⟩
  | 106 => ⟨S1024x1x1024, .f32⟩
  | 107 => ⟨S1024x1x1024, .f32⟩
  | 108 => ⟨S1x1x1024, .f32⟩
  | 109 => ⟨S1024x1x1024, .f32⟩
  | 110 => ⟨S1024x1x1024, .f32⟩
  | 111 => ⟨S1x1x1024, .f32⟩
  | 112 => ⟨S1024x1x1024, .f32⟩
  | 113 => ⟨S1024x1x1024, .f32⟩
  | 114 => ⟨S1x4096x1024, .f32⟩
  | 115 => ⟨S4096x1024, .f32⟩
  | 116 => ⟨S1024x4096, .f32⟩
  | 117 => ⟨S1024x1x4096, .f32⟩
  | 118 => ⟨S1x4096, .f32⟩
  | 119 => ⟨S4096, .f32⟩
  | 120 => ⟨S1x1x4096, .f32⟩
  | 121 => ⟨S1024x1x4096, .f32⟩
  | 122 => ⟨S1024x1x4096, .f32⟩
  | 123 => ⟨S_, .f32⟩
  | 124 => ⟨S1024x1x4096, .f32⟩
  | 125 => ⟨S1024x1x4096, .f32⟩
  | 126 => ⟨S1024x1x4096, .f32⟩
  | 127 => ⟨S_, .f32⟩
  | _ => ⟨S1024x512, .f32⟩

abbrev hbmTy0_4 (i : Nat) : BufTy := match i % 128 with
  | 0 => ⟨S1024x1x4096, .f32⟩
  | 1 => ⟨S1024x1x4096, .f32⟩
  | 2 => ⟨S1024x1x4096, .f32⟩
  | 3 => ⟨S1024x1x4096, .f32⟩
  | 4 => ⟨S1x1024x4096, .f32⟩
  | 5 => ⟨S1024x4096, .f32⟩
  | 6 => ⟨S4096x1024, .f32⟩
  | 7 => ⟨S1024x1x1024, .f32⟩
  | 8 => ⟨S1x1024, .f32⟩
  | 9 => ⟨S1024, .f32⟩
  | 10 => ⟨S1x1x1024, .f32⟩
  | 11 => ⟨S1024x1x1024, .f32⟩
  | 12 => ⟨S1024x1x1024, .f32⟩
  | 13 => ⟨S1024x1x1024, .f32⟩
  | 14 => ⟨S1x1024, .f32⟩
  | 15 => ⟨S1024, .f32⟩
  | 16 => ⟨S1x1024, .f32⟩
  | 17 => ⟨S1024, .f32⟩
  | 18 => ⟨S_, .f32⟩
  | 19 => ⟨S1024x1, .f32⟩
  | 20 => ⟨S1024x1x1, .f32⟩
  | 21 => ⟨S_, .f32⟩
  | 22 => ⟨S1024x1x1, .f32⟩
  | 23 => ⟨S1024x1x1, .f32⟩
  | 24 => ⟨S_, .i32⟩
  | 25 => ⟨S_, .f32⟩
  | 26 => ⟨S1024x1, .f32⟩
  | 27 => ⟨S1024x1x1, .f32⟩
  | 28 => ⟨S_, .f32⟩
  | 29 => ⟨S1024x1x1, .f32⟩
  | 30 => ⟨S1024x1x1, .f32⟩
  | 31 => ⟨S1024x1x1024, .f32⟩
  | 32 => ⟨S1024x1x1024, .f32⟩
  | 33 => ⟨S1024x1x1024, .f32⟩
  | 34 => ⟨S_, .f32⟩
  | 35 => ⟨S_, .f32⟩
  | 36 => ⟨S_, .f32⟩
  | 37 => ⟨S_, .f32⟩
  | 38 => ⟨S1024x1, .f32⟩
  | 39 => ⟨S1024x1x1, .f32⟩
  | 40 => ⟨S1024x1x1, .f32⟩
  | 41 => ⟨S1024x1x1, .f32⟩
  | 42 => ⟨S_, .f32⟩
  | 43 => ⟨S_, .i1⟩
  | 44 => ⟨S_, .f32⟩
  | 45 => ⟨S_, .f32⟩
  | 46 => ⟨S1024x1x1, .f32⟩
  | 47 => ⟨S1024x1x1, .f32⟩
  | 48 => ⟨S1024x1x1024, .f32⟩
  | 49 => ⟨S1024x1x1024, .f32⟩
  | 50 => ⟨S_, .f32⟩
  | 51 => ⟨S1024x1x1, .f32⟩
  | 52 => ⟨S1024x1x1, .f32⟩
  | 53 => ⟨S1024x1x1, .f32⟩
  | 54 => ⟨S1024x1x1024, .f32⟩
  | 55 => ⟨S1024x1x1024, .f32⟩
  | 56 => ⟨S1x1x1024, .f32⟩
  | 57 => ⟨S1024x1x1024, .f32⟩
  | 58 => ⟨S1024x1x1024, .f32⟩
  | 59 => ⟨S1x1x1024, .f32⟩
  | 60 => ⟨S1024x1x1024, .f32⟩
  | 61 => ⟨S1024x1x1024, .f32⟩
  | 62 => ⟨S_, .f32⟩
  | 63 => ⟨S1024x1, .f32⟩
  | 64 => ⟨S1024x1x1, .f32⟩
  | 65 => ⟨S_, .f32⟩
  | 66 => ⟨S1024x1x1, .f32⟩
  | 67 => ⟨S1024x1x1, .f32⟩
  | 68 => ⟨S_, .i32⟩
  | 69 => ⟨S_, .f32⟩
  | 70 => ⟨S1024x1, .f32⟩
  | 71 => ⟨S1024x1x1, .f32⟩
  | 72 => ⟨S_, .f32⟩
  | 73 => ⟨S1024x1x1, .f32⟩
  | 74 => ⟨S1024x1x1, .f32⟩
  | 75 => ⟨S1024x1x1024, .f32⟩
  | 76 => ⟨S1024x1x1024, .f32⟩
  | 77 => ⟨S1024x1x1024, .f32⟩
  | 78 => ⟨S_, .f32⟩
  | 79 => ⟨S_, .f32⟩
  | 80 => ⟨S_, .f32⟩
  | 81 => ⟨S_, .f32⟩
  | 82 => ⟨S1024x1, .f32⟩
  | 83 => ⟨S1024x1x1, .f32⟩
  | 84 => ⟨S1024x1x1, .f32⟩
  | 85 => ⟨S1024x1x1, .f32⟩
  | 86 => ⟨S_, .f32⟩
  | 87 => ⟨S_, .i1⟩
  | 88 => ⟨S_, .f32⟩
  | 89 => ⟨S_, .f32⟩
  | 90 => ⟨S1024x1x1, .f32⟩
  | 91 => ⟨S1024x1x1, .f32⟩
  | 92 => ⟨S1024x1x1024, .f32⟩
  | 93 => ⟨S1024x1x1024, .f32⟩
  | 94 => ⟨S_, .f32⟩
  | 95 => ⟨S1024x1x1, .f32⟩
  | 96 => ⟨S1024x1x1, .f32⟩
  | 97 => ⟨S1024x1x1, .f32⟩
  | 98 => ⟨S1024x1x1024, .f32⟩
  | 99 => ⟨S1024x1x1024, .f32⟩
  | 100 => ⟨S1x1x1024, .f32⟩
  | 101 => ⟨S1024x1x1024, .f32⟩
  | 102 => ⟨S1024x1x1024, .f32⟩
  | 103 => ⟨S1x1x1024, .f32⟩
  | 104 => ⟨S1024x1x1024, .f32⟩
  | 105 => ⟨S1024x1x1024, .f32⟩
  | 106 => ⟨S1024x1024, .f32⟩
  | 107 => ⟨S1024x4096, .f32⟩
  | 108 => ⟨S1024x4096, .f32⟩
  | 109 => ⟨S1x4096, .f32⟩
  | 110 => ⟨S1024x4096, .f32⟩
  | 111 => ⟨S1024x4096, .f32⟩
  | 112 => ⟨S_, .f32⟩
  | 113 => ⟨S1024x4096, .f32⟩
  | 114 => ⟨S1024x4096, .f32⟩
  | 115 => ⟨S1024x4096, .f32⟩
  | 116 => ⟨S_, .f32⟩
  | 117 => ⟨S1024x4096, .f32⟩
  | 118 => ⟨S1024x4096, .f32⟩
  | 119 => ⟨S1024x4096, .f32⟩
  | 120 => ⟨S1024x4096, .f32⟩
  | 121 => ⟨S4096x128, .f32⟩
  | 122 => ⟨S1024x128, .f32⟩
  | 123 => ⟨S1x128, .f32⟩
  | 124 => ⟨S1024x128, .f32⟩
  | 125 => ⟨S1024x128, .f32⟩
  | _ => ⟨S1024x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_cst_0 : Ref sig .tc := ⟨.hbm, 56, rfl⟩
abbrev main_v30 : Ref sig .tc := ⟨.hbm, 57, rfl⟩
abbrev main_cst_1 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_cst_4 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c : Ref sig .tc := ⟨.hbm, 75, rfl⟩
abbrev main_c_5 : Ref sig .tc := ⟨.hbm, 76, rfl⟩
abbrev main_c_6 : Ref sig .tc := ⟨.hbm, 77, rfl⟩
abbrev main_c_7 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_8 : Ref sig .tc := ⟨.hbm, 92, rfl⟩
abbrev main_v57 : Ref sig .tc := ⟨.hbm, 93, rfl⟩
abbrev main_v58 : Ref sig .tc := ⟨.hbm, 94, rfl⟩
abbrev main_cst_9 : Ref sig .tc := ⟨.hbm, 95, rfl⟩
abbrev main_v59 : Ref sig .tc := ⟨.hbm, 96, rfl⟩
abbrev main_v60 : Ref sig .tc := ⟨.hbm, 97, rfl⟩
abbrev main_c_10 : Ref sig .tc := ⟨.hbm, 98, rfl⟩
abbrev main_call0_cst : Ref sig .tc := ⟨.hbm, 99, rfl⟩
abbrev main_call0_v0 : Ref sig .tc := ⟨.hbm, 100, rfl⟩
abbrev main_call0_v1 : Ref sig .tc := ⟨.hbm, 101, rfl⟩
abbrev main_call0_cst_0 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_call0_v5 : Ref sig .tc := ⟨.hbm, 106, rfl⟩
abbrev main_call0_v6 : Ref sig .tc := ⟨.hbm, 107, rfl⟩
abbrev main_call0_v7 : Ref sig .tc := ⟨.hbm, 108, rfl⟩
abbrev main_call0_cst_1 : Ref sig .tc := ⟨.hbm, 109, rfl⟩
abbrev main_call0_v8 : Ref sig .tc := ⟨.hbm, 110, rfl⟩
abbrev main_call0_cst_2 : Ref sig .tc := ⟨.hbm, 111, rfl⟩
abbrev main_call0_v9 : Ref sig .tc := ⟨.hbm, 112, rfl⟩
abbrev main_call0_v10 : Ref sig .tc := ⟨.hbm, 113, rfl⟩
abbrev main_call0_v11 : Ref sig .tc := ⟨.hbm, 114, rfl⟩
abbrev main_call0_v12 : Ref sig .tc := ⟨.hbm, 115, rfl⟩
abbrev main_call0_cst_3 : Ref sig .tc := ⟨.hbm, 116, rfl⟩
abbrev main_call0_v13 : Ref sig .tc := ⟨.hbm, 117, rfl⟩
abbrev main_call0_cst_4 : Ref sig .tc := ⟨.hbm, 118, rfl⟩
abbrev main_call0_call0_v0 : Ref sig .tc := ⟨.hbm, 119, rfl⟩
abbrev main_call0_call0_v1 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_11 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_cst_12 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_13 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_14 : Ref sig .tc := ⟨.hbm, 168, rfl⟩
abbrev main_v105 : Ref sig .tc := ⟨.hbm, 169, rfl⟩
abbrev main_v106 : Ref sig .tc := ⟨.hbm, 170, rfl⟩
abbrev main_cst_15 : Ref sig .tc := ⟨.hbm, 171, rfl⟩
abbrev main_v107 : Ref sig .tc := ⟨.hbm, 172, rfl⟩
abbrev main_v108 : Ref sig .tc := ⟨.hbm, 173, rfl⟩
abbrev main_c_16 : Ref sig .tc := ⟨.hbm, 174, rfl⟩
abbrev main_call1_cst : Ref sig .tc := ⟨.hbm, 175, rfl⟩
abbrev main_call1_v0 : Ref sig .tc := ⟨.hbm, 176, rfl⟩
abbrev main_call1_v1 : Ref sig .tc := ⟨.hbm, 177, rfl⟩
abbrev main_call1_cst_0 : Ref sig .tc := ⟨.hbm, 178, rfl⟩
abbrev main_call1_v2 : Ref sig .tc := ⟨.hbm, 179, rfl⟩
abbrev main_call1_v3 : Ref sig .tc := ⟨.hbm, 180, rfl⟩
abbrev main_call1_v4 : Ref sig .tc := ⟨.hbm, 181, rfl⟩
abbrev main_call1_v5 : Ref sig .tc := ⟨.hbm, 182, rfl⟩
abbrev main_call1_v6 : Ref sig .tc := ⟨.hbm, 183, rfl⟩
abbrev main_call1_v7 : Ref sig .tc := ⟨.hbm, 184, rfl⟩
abbrev main_call1_cst_1 : Ref sig .tc := ⟨.hbm, 185, rfl⟩
abbrev main_call1_v8 : Ref sig .tc := ⟨.hbm, 186, rfl⟩
abbrev main_call1_cst_2 : Ref sig .tc := ⟨.hbm, 187, rfl⟩
abbrev main_call1_v9 : Ref sig .tc := ⟨.hbm, 188, rfl⟩
abbrev main_call1_v10 : Ref sig .tc := ⟨.hbm, 189, rfl⟩
abbrev main_call1_v11 : Ref sig .tc := ⟨.hbm, 190, rfl⟩
abbrev main_call1_v12 : Ref sig .tc := ⟨.hbm, 191, rfl⟩
abbrev main_call1_cst_3 : Ref sig .tc := ⟨.hbm, 192, rfl⟩
abbrev main_call1_v13 : Ref sig .tc := ⟨.hbm, 193, rfl⟩
abbrev main_call1_cst_4 : Ref sig .tc := ⟨.hbm, 194, rfl⟩
abbrev main_call1_call0_v0 : Ref sig .tc := ⟨.hbm, 195, rfl⟩
abbrev main_call1_call0_v1 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_cst_17 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_cst_18 : Ref sig .tc := ⟨.hbm, 234, rfl⟩
abbrev main_v145 : Ref sig .tc := ⟨.hbm, 235, rfl⟩
abbrev main_v146 : Ref sig .tc := ⟨.hbm, 236, rfl⟩
abbrev main_cst_19 : Ref sig .tc := ⟨.hbm, 237, rfl⟩
abbrev main_v147 : Ref sig .tc := ⟨.hbm, 238, rfl⟩
abbrev main_cst_20 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_cst_21 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_cst_22 : Ref sig .tc := ⟨.hbm, 249, rfl⟩
abbrev main_v156 : Ref sig .tc := ⟨.hbm, 250, rfl⟩
abbrev main_v157 : Ref sig .tc := ⟨.hbm, 251, rfl⟩
abbrev main_cst_23 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_c_24 : Ref sig .tc := ⟨.hbm, 256, rfl⟩
abbrev main_c_25 : Ref sig .tc := ⟨.hbm, 257, rfl⟩
abbrev main_c_26 : Ref sig .tc := ⟨.hbm, 258, rfl⟩
abbrev main_c_27 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_cst_28 : Ref sig .tc := ⟨.hbm, 273, rfl⟩
abbrev main_v174 : Ref sig .tc := ⟨.hbm, 274, rfl⟩
abbrev main_v175 : Ref sig .tc := ⟨.hbm, 275, rfl⟩
abbrev main_cst_29 : Ref sig .tc := ⟨.hbm, 276, rfl⟩
abbrev main_v176 : Ref sig .tc := ⟨.hbm, 277, rfl⟩
abbrev main_v177 : Ref sig .tc := ⟨.hbm, 278, rfl⟩
abbrev main_c_30 : Ref sig .tc := ⟨.hbm, 279, rfl⟩
abbrev main_call2_cst : Ref sig .tc := ⟨.hbm, 280, rfl⟩
abbrev main_call2_v0 : Ref sig .tc := ⟨.hbm, 281, rfl⟩
abbrev main_call2_v1 : Ref sig .tc := ⟨.hbm, 282, rfl⟩
abbrev main_call2_cst_0 : Ref sig .tc := ⟨.hbm, 283, rfl⟩
abbrev main_call2_v2 : Ref sig .tc := ⟨.hbm, 284, rfl⟩
abbrev main_call2_v3 : Ref sig .tc := ⟨.hbm, 285, rfl⟩
abbrev main_call2_v4 : Ref sig .tc := ⟨.hbm, 286, rfl⟩
abbrev main_call2_v5 : Ref sig .tc := ⟨.hbm, 287, rfl⟩
abbrev main_call2_v6 : Ref sig .tc := ⟨.hbm, 288, rfl⟩
abbrev main_call2_v7 : Ref sig .tc := ⟨.hbm, 289, rfl⟩
abbrev main_call2_cst_1 : Ref sig .tc := ⟨.hbm, 290, rfl⟩
abbrev main_call2_v8 : Ref sig .tc := ⟨.hbm, 291, rfl⟩
abbrev main_call2_cst_2 : Ref sig .tc := ⟨.hbm, 292, rfl⟩
abbrev main_call2_v9 : Ref sig .tc := ⟨.hbm, 293, rfl⟩
abbrev main_call2_v10 : Ref sig .tc := ⟨.hbm, 294, rfl⟩
abbrev main_call2_v11 : Ref sig .tc := ⟨.hbm, 295, rfl⟩
abbrev main_call2_v12 : Ref sig .tc := ⟨.hbm, 296, rfl⟩
abbrev main_call2_cst_3 : Ref sig .tc := ⟨.hbm, 297, rfl⟩
abbrev main_call2_v13 : Ref sig .tc := ⟨.hbm, 298, rfl⟩
abbrev main_call2_cst_4 : Ref sig .tc := ⟨.hbm, 299, rfl⟩
abbrev main_call2_call0_v0 : Ref sig .tc := ⟨.hbm, 300, rfl⟩
abbrev main_call2_call0_v1 : Ref sig .tc := ⟨.hbm, 301, rfl⟩
abbrev main_v178 : Ref sig .tc := ⟨.hbm, 302, rfl⟩
abbrev main_v179 : Ref sig .tc := ⟨.hbm, 303, rfl⟩
abbrev main_v180 : Ref sig .tc := ⟨.hbm, 304, rfl⟩
abbrev main_cst_31 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_cst_32 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_cst_33 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_cst_34 : Ref sig .tc := ⟨.hbm, 349, rfl⟩
abbrev main_v222 : Ref sig .tc := ⟨.hbm, 350, rfl⟩
abbrev main_v223 : Ref sig .tc := ⟨.hbm, 351, rfl⟩
abbrev main_cst_35 : Ref sig .tc := ⟨.hbm, 352, rfl⟩
abbrev main_v224 : Ref sig .tc := ⟨.hbm, 353, rfl⟩
abbrev main_v225 : Ref sig .tc := ⟨.hbm, 354, rfl⟩
abbrev main_c_36 : Ref sig .tc := ⟨.hbm, 355, rfl⟩
abbrev main_call3_cst : Ref sig .tc := ⟨.hbm, 356, rfl⟩
abbrev main_call3_v0 : Ref sig .tc := ⟨.hbm, 357, rfl⟩
abbrev main_call3_v1 : Ref sig .tc := ⟨.hbm, 358, rfl⟩
abbrev main_call3_cst_0 : Ref sig .tc := ⟨.hbm, 359, rfl⟩
abbrev main_call3_v2 : Ref sig .tc := ⟨.hbm, 360, rfl⟩
abbrev main_call3_v3 : Ref sig .tc := ⟨.hbm, 361, rfl⟩
abbrev main_call3_v4 : Ref sig .tc := ⟨.hbm, 362, rfl⟩
abbrev main_call3_v5 : Ref sig .tc := ⟨.hbm, 363, rfl⟩
abbrev main_call3_v6 : Ref sig .tc := ⟨.hbm, 364, rfl⟩
abbrev main_call3_v7 : Ref sig .tc := ⟨.hbm, 365, rfl⟩
abbrev main_call3_cst_1 : Ref sig .tc := ⟨.hbm, 366, rfl⟩
abbrev main_call3_v8 : Ref sig .tc := ⟨.hbm, 367, rfl⟩
abbrev main_call3_cst_2 : Ref sig .tc := ⟨.hbm, 368, rfl⟩
abbrev main_call3_v9 : Ref sig .tc := ⟨.hbm, 369, rfl⟩
abbrev main_call3_v10 : Ref sig .tc := ⟨.hbm, 370, rfl⟩
abbrev main_call3_v11 : Ref sig .tc := ⟨.hbm, 371, rfl⟩
abbrev main_call3_v12 : Ref sig .tc := ⟨.hbm, 372, rfl⟩
abbrev main_call3_cst_3 : Ref sig .tc := ⟨.hbm, 373, rfl⟩
abbrev main_call3_v13 : Ref sig .tc := ⟨.hbm, 374, rfl⟩
abbrev main_call3_cst_4 : Ref sig .tc := ⟨.hbm, 375, rfl⟩
abbrev main_call3_call0_v0 : Ref sig .tc := ⟨.hbm, 376, rfl⟩
abbrev main_call3_call0_v1 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_cst_37 : Ref sig .tc := ⟨.hbm, 381, rfl⟩
abbrev main_v229 : Ref sig .tc := ⟨.hbm, 382, rfl⟩
abbrev main_v230 : Ref sig .tc := ⟨.hbm, 383, rfl⟩
abbrev main_v231 : Ref sig .tc := ⟨.hbm, 384, rfl⟩
abbrev main_v232 : Ref sig .tc := ⟨.hbm, 385, rfl⟩
abbrev main_v233 : Ref sig .tc := ⟨.hbm, 386, rfl⟩
abbrev main_v234 : Ref sig .tc := ⟨.hbm, 387, rfl⟩
abbrev main_v235 : Ref sig .tc := ⟨.hbm, 388, rfl⟩
abbrev main_v236 : Ref sig .tc := ⟨.hbm, 389, rfl⟩
abbrev main_v237 : Ref sig .tc := ⟨.hbm, 390, rfl⟩
abbrev main_v238 : Ref sig .tc := ⟨.hbm, 391, rfl⟩
abbrev main_v239 : Ref sig .tc := ⟨.hbm, 392, rfl⟩
abbrev main_v240 : Ref sig .tc := ⟨.hbm, 393, rfl⟩
abbrev main_v241 : Ref sig .tc := ⟨.hbm, 394, rfl⟩
abbrev main_v242 : Ref sig .tc := ⟨.hbm, 395, rfl⟩
abbrev main_v243 : Ref sig .tc := ⟨.hbm, 396, rfl⟩
abbrev main_v244 : Ref sig .tc := ⟨.hbm, 397, rfl⟩
abbrev main_v245 : Ref sig .tc := ⟨.hbm, 398, rfl⟩
abbrev main_v246 : Ref sig .tc := ⟨.hbm, 399, rfl⟩
abbrev main_v247 : Ref sig .tc := ⟨.hbm, 400, rfl⟩
abbrev main_v248 : Ref sig .tc := ⟨.hbm, 401, rfl⟩
abbrev main_v249 : Ref sig .tc := ⟨.hbm, 402, rfl⟩
abbrev main_v250 : Ref sig .tc := ⟨.hbm, 403, rfl⟩
abbrev main_v251 : Ref sig .tc := ⟨.hbm, 404, rfl⟩
abbrev main_v252 : Ref sig .tc := ⟨.hbm, 405, rfl⟩
abbrev main_v253 : Ref sig .tc := ⟨.hbm, 406, rfl⟩
abbrev main_v254 : Ref sig .tc := ⟨.hbm, 407, rfl⟩
abbrev main_v255 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_cst_38 : Ref sig .tc := ⟨.hbm, 415, rfl⟩
abbrev main_v262 : Ref sig .tc := ⟨.hbm, 416, rfl⟩
abbrev main_v263 : Ref sig .tc := ⟨.hbm, 417, rfl⟩
abbrev main_cst_39 : Ref sig .tc := ⟨.hbm, 418, rfl⟩
abbrev main_v264 : Ref sig .tc := ⟨.hbm, 419, rfl⟩
abbrev main_cst_40 : Ref sig .tc := ⟨.hbm, 420, rfl⟩
abbrev main_v265 : Ref sig .tc := ⟨.hbm, 421, rfl⟩
abbrev main_v266 : Ref sig .tc := ⟨.hbm, 422, rfl⟩
abbrev main_v267 : Ref sig .tc := ⟨.hbm, 423, rfl⟩
abbrev main_v268 : Ref sig .tc := ⟨.hbm, 424, rfl⟩
abbrev main_v269 : Ref sig .tc := ⟨.hbm, 425, rfl⟩
abbrev main_cst_41 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_cst_42 : Ref sig .tc := ⟨.hbm, 430, rfl⟩
abbrev main_v273 : Ref sig .tc := ⟨.hbm, 431, rfl⟩
abbrev main_v274 : Ref sig .tc := ⟨.hbm, 432, rfl⟩
abbrev main_cst_43 : Ref sig .tc := ⟨.hbm, 433, rfl⟩
abbrev main_v275 : Ref sig .tc := ⟨.hbm, 434, rfl⟩
abbrev main_v276 : Ref sig .tc := ⟨.hbm, 435, rfl⟩
abbrev main_v277 : Ref sig .tc := ⟨.hbm, 436, rfl⟩
abbrev main_c_44 : Ref sig .tc := ⟨.hbm, 437, rfl⟩
abbrev main_c_45 : Ref sig .tc := ⟨.hbm, 438, rfl⟩
abbrev main_c_46 : Ref sig .tc := ⟨.hbm, 439, rfl⟩
abbrev main_c_47 : Ref sig .tc := ⟨.hbm, 440, rfl⟩
abbrev main_v278 : Ref sig .tc := ⟨.hbm, 441, rfl⟩
abbrev main_v279 : Ref sig .tc := ⟨.hbm, 442, rfl⟩
abbrev main_v280 : Ref sig .tc := ⟨.hbm, 443, rfl⟩
abbrev main_v281 : Ref sig .tc := ⟨.hbm, 444, rfl⟩
abbrev main_v282 : Ref sig .tc := ⟨.hbm, 445, rfl⟩
abbrev main_v283 : Ref sig .tc := ⟨.hbm, 446, rfl⟩
abbrev main_v284 : Ref sig .tc := ⟨.hbm, 447, rfl⟩
abbrev main_v285 : Ref sig .tc := ⟨.hbm, 448, rfl⟩
abbrev main_v286 : Ref sig .tc := ⟨.hbm, 449, rfl⟩
abbrev main_v287 : Ref sig .tc := ⟨.hbm, 450, rfl⟩
abbrev main_v288 : Ref sig .tc := ⟨.hbm, 451, rfl⟩
abbrev main_v289 : Ref sig .tc := ⟨.hbm, 452, rfl⟩
abbrev main_v290 : Ref sig .tc := ⟨.hbm, 453, rfl⟩
abbrev main_cst_48 : Ref sig .tc := ⟨.hbm, 454, rfl⟩
abbrev main_v291 : Ref sig .tc := ⟨.hbm, 455, rfl⟩
abbrev main_v292 : Ref sig .tc := ⟨.hbm, 456, rfl⟩
abbrev main_cst_49 : Ref sig .tc := ⟨.hbm, 457, rfl⟩
abbrev main_v293 : Ref sig .tc := ⟨.hbm, 458, rfl⟩
abbrev main_v294 : Ref sig .tc := ⟨.hbm, 459, rfl⟩
abbrev main_c_50 : Ref sig .tc := ⟨.hbm, 460, rfl⟩
abbrev main_call4_cst : Ref sig .tc := ⟨.hbm, 461, rfl⟩
abbrev main_call4_v0 : Ref sig .tc := ⟨.hbm, 462, rfl⟩
abbrev main_call4_v1 : Ref sig .tc := ⟨.hbm, 463, rfl⟩
abbrev main_call4_cst_0 : Ref sig .tc := ⟨.hbm, 464, rfl⟩
abbrev main_call4_v2 : Ref sig .tc := ⟨.hbm, 465, rfl⟩
abbrev main_call4_v3 : Ref sig .tc := ⟨.hbm, 466, rfl⟩
abbrev main_call4_v4 : Ref sig .tc := ⟨.hbm, 467, rfl⟩
abbrev main_call4_v5 : Ref sig .tc := ⟨.hbm, 468, rfl⟩
abbrev main_call4_v6 : Ref sig .tc := ⟨.hbm, 469, rfl⟩
abbrev main_call4_v7 : Ref sig .tc := ⟨.hbm, 470, rfl⟩
abbrev main_call4_cst_1 : Ref sig .tc := ⟨.hbm, 471, rfl⟩
abbrev main_call4_v8 : Ref sig .tc := ⟨.hbm, 472, rfl⟩
abbrev main_call4_cst_2 : Ref sig .tc := ⟨.hbm, 473, rfl⟩
abbrev main_call4_v9 : Ref sig .tc := ⟨.hbm, 474, rfl⟩
abbrev main_call4_v10 : Ref sig .tc := ⟨.hbm, 475, rfl⟩
abbrev main_call4_v11 : Ref sig .tc := ⟨.hbm, 476, rfl⟩
abbrev main_call4_v12 : Ref sig .tc := ⟨.hbm, 477, rfl⟩
abbrev main_call4_cst_3 : Ref sig .tc := ⟨.hbm, 478, rfl⟩
abbrev main_call4_v13 : Ref sig .tc := ⟨.hbm, 479, rfl⟩
abbrev main_call4_cst_4 : Ref sig .tc := ⟨.hbm, 480, rfl⟩
abbrev main_call4_call0_v0 : Ref sig .tc := ⟨.hbm, 481, rfl⟩
abbrev main_call4_call0_v1 : Ref sig .tc := ⟨.hbm, 482, rfl⟩
abbrev main_v295 : Ref sig .tc := ⟨.hbm, 483, rfl⟩
abbrev main_v296 : Ref sig .tc := ⟨.hbm, 484, rfl⟩
abbrev main_v297 : Ref sig .tc := ⟨.hbm, 485, rfl⟩
abbrev main_cst_51 : Ref sig .tc := ⟨.hbm, 486, rfl⟩
abbrev main_v298 : Ref sig .tc := ⟨.hbm, 487, rfl⟩
abbrev main_v299 : Ref sig .tc := ⟨.hbm, 488, rfl⟩
abbrev main_v300 : Ref sig .tc := ⟨.hbm, 489, rfl⟩
abbrev main_v301 : Ref sig .tc := ⟨.hbm, 490, rfl⟩
abbrev main_v302 : Ref sig .tc := ⟨.hbm, 491, rfl⟩
abbrev main_v303 : Ref sig .tc := ⟨.hbm, 492, rfl⟩
abbrev main_v304 : Ref sig .tc := ⟨.hbm, 493, rfl⟩
abbrev main_v305 : Ref sig .tc := ⟨.hbm, 494, rfl⟩
abbrev main_v306 : Ref sig .tc := ⟨.hbm, 495, rfl⟩
abbrev main_v307 : Ref sig .tc := ⟨.hbm, 496, rfl⟩
abbrev main_v308 : Ref sig .tc := ⟨.hbm, 497, rfl⟩
abbrev main_v309 : Ref sig .tc := ⟨.hbm, 498, rfl⟩
abbrev main_v310 : Ref sig .tc := ⟨.hbm, 499, rfl⟩
abbrev main_v311 : Ref sig .tc := ⟨.hbm, 500, rfl⟩
abbrev main_v312 : Ref sig .tc := ⟨.hbm, 501, rfl⟩
abbrev main_v313 : Ref sig .tc := ⟨.hbm, 502, rfl⟩
abbrev main_v314 : Ref sig .tc := ⟨.hbm, 503, rfl⟩
abbrev main_v315 : Ref sig .tc := ⟨.hbm, 504, rfl⟩
abbrev main_v316 : Ref sig .tc := ⟨.hbm, 505, rfl⟩
abbrev main_v317 : Ref sig .tc := ⟨.hbm, 506, rfl⟩
abbrev main_cst_52 : Ref sig .tc := ⟨.hbm, 507, rfl⟩
abbrev main_v318 : Ref sig .tc := ⟨.hbm, 508, rfl⟩
abbrev main_v319 : Ref sig .tc := ⟨.hbm, 509, rfl⟩
abbrev main_v320 : Ref sig .tc := ⟨.hbm, 510, rfl⟩
abbrev main_cst_53 : Ref sig .tc := ⟨.hbm, 511, rfl⟩
abbrev main_v321 : Ref sig .tc := ⟨.hbm, 512, rfl⟩
abbrev main_v322 : Ref sig .tc := ⟨.hbm, 513, rfl⟩
abbrev main_v323 : Ref sig .tc := ⟨.hbm, 514, rfl⟩
abbrev main_v324 : Ref sig .tc := ⟨.hbm, 515, rfl⟩
abbrev main_v325 : Ref sig .tc := ⟨.hbm, 516, rfl⟩
abbrev main_v326 : Ref sig .tc := ⟨.hbm, 517, rfl⟩
abbrev main_v327 : Ref sig .tc := ⟨.hbm, 518, rfl⟩
abbrev main_v328 : Ref sig .tc := ⟨.hbm, 519, rfl⟩
abbrev main_v329 : Ref sig .tc := ⟨.hbm, 520, rfl⟩
abbrev main_v330 : Ref sig .tc := ⟨.hbm, 521, rfl⟩
abbrev main_v331 : Ref sig .tc := ⟨.hbm, 522, rfl⟩
abbrev main_v332 : Ref sig .tc := ⟨.hbm, 523, rfl⟩
abbrev main_v333 : Ref sig .tc := ⟨.hbm, 524, rfl⟩
abbrev main_v334 : Ref sig .tc := ⟨.hbm, 525, rfl⟩
abbrev main_v335 : Ref sig .tc := ⟨.hbm, 526, rfl⟩
abbrev main_v336 : Ref sig .tc := ⟨.hbm, 527, rfl⟩
abbrev main_v337 : Ref sig .tc := ⟨.hbm, 528, rfl⟩
abbrev main_v338 : Ref sig .tc := ⟨.hbm, 529, rfl⟩
abbrev main_cst_54 : Ref sig .tc := ⟨.hbm, 530, rfl⟩
abbrev main_v339 : Ref sig .tc := ⟨.hbm, 531, rfl⟩
abbrev main_v340 : Ref sig .tc := ⟨.hbm, 532, rfl⟩
abbrev main_cst_55 : Ref sig .tc := ⟨.hbm, 533, rfl⟩
abbrev main_v341 : Ref sig .tc := ⟨.hbm, 534, rfl⟩
abbrev main_v342 : Ref sig .tc := ⟨.hbm, 535, rfl⟩
abbrev main_c_56 : Ref sig .tc := ⟨.hbm, 536, rfl⟩
abbrev main_call5_cst : Ref sig .tc := ⟨.hbm, 537, rfl⟩
abbrev main_call5_v0 : Ref sig .tc := ⟨.hbm, 538, rfl⟩
abbrev main_call5_v1 : Ref sig .tc := ⟨.hbm, 539, rfl⟩
abbrev main_call5_cst_0 : Ref sig .tc := ⟨.hbm, 540, rfl⟩
abbrev main_call5_v2 : Ref sig .tc := ⟨.hbm, 541, rfl⟩
abbrev main_call5_v3 : Ref sig .tc := ⟨.hbm, 542, rfl⟩
abbrev main_call5_v4 : Ref sig .tc := ⟨.hbm, 543, rfl⟩
abbrev main_call5_v5 : Ref sig .tc := ⟨.hbm, 544, rfl⟩
abbrev main_call5_v6 : Ref sig .tc := ⟨.hbm, 545, rfl⟩
abbrev main_call5_v7 : Ref sig .tc := ⟨.hbm, 546, rfl⟩
abbrev main_call5_cst_1 : Ref sig .tc := ⟨.hbm, 547, rfl⟩
abbrev main_call5_v8 : Ref sig .tc := ⟨.hbm, 548, rfl⟩
abbrev main_call5_cst_2 : Ref sig .tc := ⟨.hbm, 549, rfl⟩
abbrev main_call5_v9 : Ref sig .tc := ⟨.hbm, 550, rfl⟩
abbrev main_call5_v10 : Ref sig .tc := ⟨.hbm, 551, rfl⟩
abbrev main_call5_v11 : Ref sig .tc := ⟨.hbm, 552, rfl⟩
abbrev main_call5_v12 : Ref sig .tc := ⟨.hbm, 553, rfl⟩
abbrev main_call5_cst_3 : Ref sig .tc := ⟨.hbm, 554, rfl⟩
abbrev main_call5_v13 : Ref sig .tc := ⟨.hbm, 555, rfl⟩
abbrev main_call5_cst_4 : Ref sig .tc := ⟨.hbm, 556, rfl⟩
abbrev main_call5_call0_v0 : Ref sig .tc := ⟨.hbm, 557, rfl⟩
abbrev main_call5_call0_v1 : Ref sig .tc := ⟨.hbm, 558, rfl⟩
abbrev main_v343 : Ref sig .tc := ⟨.hbm, 559, rfl⟩
abbrev main_v344 : Ref sig .tc := ⟨.hbm, 560, rfl⟩
abbrev main_v345 : Ref sig .tc := ⟨.hbm, 561, rfl⟩
abbrev main_cst_57 : Ref sig .tc := ⟨.hbm, 562, rfl⟩
abbrev main_v346 : Ref sig .tc := ⟨.hbm, 563, rfl⟩
abbrev main_v347 : Ref sig .tc := ⟨.hbm, 564, rfl⟩
abbrev main_v348 : Ref sig .tc := ⟨.hbm, 565, rfl⟩
abbrev main_v349 : Ref sig .tc := ⟨.hbm, 566, rfl⟩
abbrev main_v350 : Ref sig .tc := ⟨.hbm, 567, rfl⟩
abbrev main_v351 : Ref sig .tc := ⟨.hbm, 568, rfl⟩
abbrev main_v352 : Ref sig .tc := ⟨.hbm, 569, rfl⟩
abbrev main_v353 : Ref sig .tc := ⟨.hbm, 570, rfl⟩
abbrev main_v354 : Ref sig .tc := ⟨.hbm, 571, rfl⟩
abbrev main_v355 : Ref sig .tc := ⟨.hbm, 572, rfl⟩
abbrev main_v356 : Ref sig .tc := ⟨.hbm, 573, rfl⟩
abbrev main_cst_58 : Ref sig .tc := ⟨.hbm, 574, rfl⟩
abbrev main_v357 : Ref sig .tc := ⟨.hbm, 575, rfl⟩
abbrev main_v358 : Ref sig .tc := ⟨.hbm, 576, rfl⟩
abbrev main_cst_59 : Ref sig .tc := ⟨.hbm, 577, rfl⟩
abbrev main_v359 : Ref sig .tc := ⟨.hbm, 578, rfl⟩
abbrev main_v360 : Ref sig .tc := ⟨.hbm, 579, rfl⟩
abbrev main_c_60 : Ref sig .tc := ⟨.hbm, 580, rfl⟩
abbrev main_call6_cst : Ref sig .tc := ⟨.hbm, 581, rfl⟩
abbrev main_call6_v0 : Ref sig .tc := ⟨.hbm, 582, rfl⟩
abbrev main_call6_v1 : Ref sig .tc := ⟨.hbm, 583, rfl⟩
abbrev main_call6_cst_0 : Ref sig .tc := ⟨.hbm, 584, rfl⟩
abbrev main_call6_v2 : Ref sig .tc := ⟨.hbm, 585, rfl⟩
abbrev main_call6_v3 : Ref sig .tc := ⟨.hbm, 586, rfl⟩
abbrev main_call6_v4 : Ref sig .tc := ⟨.hbm, 587, rfl⟩
abbrev main_call6_v5 : Ref sig .tc := ⟨.hbm, 588, rfl⟩
abbrev main_call6_v6 : Ref sig .tc := ⟨.hbm, 589, rfl⟩
abbrev main_call6_v7 : Ref sig .tc := ⟨.hbm, 590, rfl⟩
abbrev main_call6_cst_1 : Ref sig .tc := ⟨.hbm, 591, rfl⟩
abbrev main_call6_v8 : Ref sig .tc := ⟨.hbm, 592, rfl⟩
abbrev main_call6_cst_2 : Ref sig .tc := ⟨.hbm, 593, rfl⟩
abbrev main_call6_v9 : Ref sig .tc := ⟨.hbm, 594, rfl⟩
abbrev main_call6_v10 : Ref sig .tc := ⟨.hbm, 595, rfl⟩
abbrev main_call6_v11 : Ref sig .tc := ⟨.hbm, 596, rfl⟩
abbrev main_call6_v12 : Ref sig .tc := ⟨.hbm, 597, rfl⟩
abbrev main_call6_cst_3 : Ref sig .tc := ⟨.hbm, 598, rfl⟩
abbrev main_call6_v13 : Ref sig .tc := ⟨.hbm, 599, rfl⟩
abbrev main_call6_cst_4 : Ref sig .tc := ⟨.hbm, 600, rfl⟩
abbrev main_call6_call0_v0 : Ref sig .tc := ⟨.hbm, 601, rfl⟩
abbrev main_call6_call0_v1 : Ref sig .tc := ⟨.hbm, 602, rfl⟩
abbrev main_v361 : Ref sig .tc := ⟨.hbm, 603, rfl⟩
abbrev main_v362 : Ref sig .tc := ⟨.hbm, 604, rfl⟩
abbrev main_v363 : Ref sig .tc := ⟨.hbm, 605, rfl⟩
abbrev main_cst_61 : Ref sig .tc := ⟨.hbm, 606, rfl⟩
abbrev main_v364 : Ref sig .tc := ⟨.hbm, 607, rfl⟩
abbrev main_v365 : Ref sig .tc := ⟨.hbm, 608, rfl⟩
abbrev main_v366 : Ref sig .tc := ⟨.hbm, 609, rfl⟩
abbrev main_v367 : Ref sig .tc := ⟨.hbm, 610, rfl⟩
abbrev main_v368 : Ref sig .tc := ⟨.hbm, 611, rfl⟩
abbrev main_v369 : Ref sig .tc := ⟨.hbm, 612, rfl⟩
abbrev main_v370 : Ref sig .tc := ⟨.hbm, 613, rfl⟩
abbrev main_v371 : Ref sig .tc := ⟨.hbm, 614, rfl⟩
abbrev main_v372 : Ref sig .tc := ⟨.hbm, 615, rfl⟩
abbrev main_v373 : Ref sig .tc := ⟨.hbm, 616, rfl⟩
abbrev main_v374 : Ref sig .tc := ⟨.hbm, 617, rfl⟩
abbrev main_v375 : Ref sig .tc := ⟨.hbm, 618, rfl⟩
abbrev main_v376 : Ref sig .tc := ⟨.hbm, 619, rfl⟩
abbrev main_v377 : Ref sig .tc := ⟨.hbm, 620, rfl⟩
abbrev main_v378 : Ref sig .tc := ⟨.hbm, 621, rfl⟩
abbrev main_v379 : Ref sig .tc := ⟨.hbm, 622, rfl⟩
abbrev main_v380 : Ref sig .tc := ⟨.hbm, 623, rfl⟩
abbrev main_cst_62 : Ref sig .tc := ⟨.hbm, 624, rfl⟩
abbrev main_v381 : Ref sig .tc := ⟨.hbm, 625, rfl⟩
abbrev main_v382 : Ref sig .tc := ⟨.hbm, 626, rfl⟩
abbrev main_v383 : Ref sig .tc := ⟨.hbm, 627, rfl⟩
abbrev main_cst_63 : Ref sig .tc := ⟨.hbm, 628, rfl⟩
abbrev main_v384 : Ref sig .tc := ⟨.hbm, 629, rfl⟩
abbrev main_v385 : Ref sig .tc := ⟨.hbm, 630, rfl⟩
abbrev main_v386 : Ref sig .tc := ⟨.hbm, 631, rfl⟩
abbrev main_v387 : Ref sig .tc := ⟨.hbm, 632, rfl⟩
abbrev main_v388 : Ref sig .tc := ⟨.hbm, 633, rfl⟩
abbrev main_v389 : Ref sig .tc := ⟨.hbm, 634, rfl⟩
abbrev main_v390 : Ref sig .tc := ⟨.hbm, 635, rfl⟩
abbrev main_v391 : Ref sig .tc := ⟨.hbm, 636, rfl⟩
abbrev main_v392 : Ref sig .tc := ⟨.hbm, 637, rfl⟩

abbrev nD : Nat := 1
abbrev τ : Topo := Topo.v7x

variable {F : FTy → Type} [FloatOps F]
-- ==== Proof.RunBase.lean ====
/- Reading a held buffer, and the conditions the stack's kernel branches on. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole-buffer load of a buffer that holds `X` reads `X`. -/
theorem readAt_held {sp : Space} {s : Shape} {e : EltTy} {a : Memref sig .tc sp s e} (ha : a.IsWhole) (X : s.Idx → Elt F e) {off : Fin s.rank → ℕ}
    (inb : ∀ x, off x + s.size x ≤ s.size x) :
    a.view.readAt (Elt F) (Rect.unit off s.size inb).toLoadRect (ha.unread X) = X := by
  rw [View.readAt_full, ha.read_unread]

/-- A load of a window of a buffer that holds `X` reads that window of `X`. -/
theorem readAt_held_window {sp : Space} {s : Shape} {e : EltTy} {a : Memref sig .tc sp s e} (ha : a.IsWhole) (X : s.Idx → Elt F e) {off size : Fin s.rank → ℕ}
    (inb : ∀ x, off x + size x ≤ s.size x) :
    a.view.readAt (Elt F) (Rect.unit off size inb).toLoadRect (ha.unread X) = VecWindow.window X off size inb := by
  rw [View.readAt_unit _ _ inb rfl inb, ha.read_unread]

/-- A buffer at the contents that read `X` is held at `X`. -/
theorem owns_held (c : Thread nD τ) {sp : Space} {s : Shape} {e : EltTy} {a : Memref sig c.2.kind sp s e} (ha : a.IsWhole) (q : PosShare TreeShare) (X : s.Idx → Elt F e) :
    (a.view.loc c ↦[a.view.set]{q} ha.unread X : sProp 𝕄) ⊢ iprop(∃ f, ⌜a.view.read (Elt F) f = X⌝ ∗ a.view.loc c ↦[a.view.set]{q} f) := by
  iintro H; iexists _; isplitr; · ipureintro; exact ha.read_unread _
  iexact H

/-- A buffer whose contents read `X` is held at `X`. -/
theorem owns_of_read (c : Thread nD τ) {sp : Space} {s : Shape} {e : EltTy} (a : Memref sig c.2.kind sp s e) (q : PosShare TreeShare) {X : s.Idx → Elt F e}
    {f : Buf (Elt F) (a.view.loc c)} (h : a.view.read (Elt F) f = X) :
    (a.view.loc c ↦[a.view.set]{q} f : sProp 𝕄) ⊢ iprop(∃ f, ⌜a.view.read (Elt F) f = X⌝ ∗ a.view.loc c ↦[a.view.set]{q} f) := by
  iintro H; iexists _; isplitr; · ipureintro; exact h
  iexact H

/-- The kernel's condition of its first branch: the first point of the whole grid. -/
def atStart (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The kernel's condition of its second branch: the first column. -/
def atFirst (i : grid0.Coords) : BitVec 1 :=
  Scalar.cmpi .ne (Scalar.extui (Scalar.cmpi .eq (BitVec.ofNat 32 (i 1).val) 0#32) : BitVec 32) 0#32

/-- The kernel's condition of its fifth branch: the last column. -/
def atLast (i : grid0.Coords) : BitVec 1 :=
  Scalar.cmpi .ne (Scalar.extui (Scalar.cmpi .eq (BitVec.ofNat 32 (i 1).val) 7#32) : BitVec 32) 0#32

end Cert.Stack

end
-- ==== Proof.Closed.lean ====
/- The arrays the stack leaves in its scratch, as functions of the blocks it reads. -/
module

public import proofs.«01_k».proof.Proof.RunBase
public import Idealize.ShloMosaic.Lib.ValueIdxCore

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

/-- The blocks the stack reads: those of the whole call, those of each layer and column. -/
structure Blocks (F : FTy → Type) where
  x : Vec F S1024x512 .f32
  wi : Vec F S1024x512 .f32
  bi : Vec F S1x1024 .f32
  wv : Vec F S1024x1024 .f32
  wo : Vec F S1024x1024 .f32
  bv : Vec F S1x1024 .f32
  bo : Vec F S1x1024 .f32
  w1 : ℕ → ℕ → Vec F S1x1024x1024 .f32
  b1 : ℕ → ℕ → Vec F S1x1x1024 .f32
  w2 : ℕ → ℕ → Vec F S1x256x4096 .f32
  b2 : ℕ → ℕ → Vec F S1x1x1024 .f32
  g1 : ℕ → ℕ → Vec F S1x1x1024 .f32
  be1 : ℕ → ℕ → Vec F S1x1x1024 .f32
  g2 : ℕ → ℕ → Vec F S1x1x1024 .f32
  be2 : ℕ → ℕ → Vec F S1x1x1024 .f32
  gf : Vec F S1x1024 .f32
  bf : Vec F S1x1024 .f32

variable (B : Blocks F)

/-- Block `k` of 256 columns. -/
def colsOf (x : Vec F S1024x1024 .f32) (k : ℕ) : Vec F S1024x256 .f32 :=
  fun y => x (ix2 (n0 := 1024) (n1 := 1024) (y 0) ⟨(256 * k + (y 1).val) % 1024, Nat.mod_lt _ (by decide)⟩)

/-- Block `k` of 256 entries of a row. -/
def rowOf (b : Vec F S1x1x1024 .f32) (k : ℕ) : Vec F S1x1x256 .f32 :=
  fun y => b (ix3 (n0 := 1) (n1 := 1) (n2 := 1024) 0 0 ⟨(256 * k + (y 2).val) % 1024, Nat.mod_lt _ (by decide)⟩)

/-- The value and output projections as one. -/
def wvo : Vec F S1024x1024 .f32 := k0_pay1 B.wv B.wo

/-- Their bias. -/
def bvo : Vec F S1x1024 .f32 := k0_pay2 B.bv B.wo B.bo

/-- The rows after the attention of layer `l` and its normalisation. -/
def att (h : Vec F S1024x1024 .f32) (l : ℕ) : Vec F S1024x1024 .f32 := k0_pay8 h (wvo B) (bvo B) (B.g1 l 0) (B.be1 l 0)

/-- Column block `j` of the wide layer. -/
def wideBlk (a : Vec F S1024x1024 .f32) (l j : ℕ) : Vec F S1024x1024 .bf16 := k0_pay4 a (B.w1 l j) (B.b1 l j)

/-- The wide layer, its column blocks side by side. -/
def wide (a : Vec F S1024x1024 .f32) (l : ℕ) : Vec F S1024x4096 .bf16 :=
  fun y => wideBlk B a l ((y 1).val / 1024) (ix2 (n0 := 1024) (n1 := 1024) (y 0) ⟨(y 1).val % 1024, Nat.mod_lt _ (by decide)⟩)

/-- Column block `k` of the rows with the wide layer mixed back. -/
def mixBlk (a : Vec F S1024x1024 .f32) (l k : ℕ) : Vec F S1024x256 .f32 :=
  k0_pay5 (wide B a l) (B.w2 l (4 + k)) (colsOf a k) (rowOf (B.b2 l (4 + k)) k)

/-- The rows with the wide layer mixed back, their column blocks side by side. -/
def mix (a : Vec F S1024x1024 .f32) (l : ℕ) : Vec F S1024x1024 .f32 :=
  fun y => mixBlk B a l ((y 1).val / 256) (ix2 (n0 := 1024) (n1 := 256) (y 0) ⟨(y 1).val % 256, Nat.mod_lt _ (by decide)⟩)

/-- The rows once the first `k` column blocks are mixed. -/
def part (a : Vec F S1024x1024 .f32) (l k : ℕ) : Vec F S1024x1024 .f32 :=
  fun y => if (y 1).val < 256 * k then mix B a l y else a y

/-- The rows entering layer `l`. -/
def hid : ℕ → Vec F S1024x1024 .f32
  | 0 => k0_pay3 B.x B.wi B.bi
  | l + 1 => k0_pay6 (mix B (att B (hid l) l) l) (B.g2 l 7) (B.be2 l 7)

/-- The rows of layer `l` after its attention. -/
def atl (l : ℕ) : Vec F S1024x1024 .f32 := att B (hid B l) l

/-- What the stack writes. -/
def out : Vec F S1024x1024 .f32 := k0_pay7 (hid B 3) B.gf B.bf

theorem part_zero (a : Vec F S1024x1024 .f32) (l : ℕ) : part B a l 0 = a := by
  funext y; unfold part; exact if_neg (by omega)

theorem part_four (a : Vec F S1024x1024 .f32) (l : ℕ) : part B a l 4 = mix B a l := by
  funext y; unfold part; exact if_pos (by have : (y 1).val < 1024 := (y 1).isLt; omega)

/-- A window of 256 columns is the block of columns. -/
theorem window_cols (x : Vec F S1024x1024 .f32) (k : ℕ) (hk : k < 4) {off : Fin 2 → ℕ} (ho : off = ![0, 256 * k])
    (inb : ∀ a, off a + S1024x256.size a ≤ S1024x1024.size a) : VecWindow.window x off S1024x256.size inb = colsOf x k := by
  subst ho
  funext y
  have hy : (y 1).val < 256 := (y 1).isLt
  refine congrArg x (funext fun a => Fin.ext ?_)
  fin_cases a
  · show 0 + 1 * (y 0).val = (y 0).val; omega
  · show 256 * k + 1 * (y 1).val = (256 * k + (y 1).val) % 1024
    rw [Nat.mod_eq_of_lt (by omega)]; omega

/-- A window of 256 entries of a row is the block of entries. -/
theorem window_row (b : Vec F S1x1x1024 .f32) (k : ℕ) (hk : k < 4) {off : Fin 3 → ℕ} (ho : off = ![0, 0, 256 * k])
    (inb : ∀ a, off a + S1x1x256.size a ≤ S1x1x1024.size a) : VecWindow.window b off S1x1x256.size inb = rowOf b k := by
  subst ho
  funext y
  have hy : (y 2).val < 256 := (y 2).isLt
  have h0 : (y 0).val < 1 := (y 0).isLt
  have h1 : (y 1).val < 1 := (y 1).isLt
  refine congrArg b (funext fun a => Fin.ext ?_)
  fin_cases a
  · show 0 + 1 * (y 0).val = 0; omega
  · show 0 + 1 * (y 1).val = 0; omega
  · show 256 * k + 1 * (y 2).val = (256 * k + (y 2).val) % 1024
    rw [Nat.mod_eq_of_lt (by omega)]; omega

/-- The wide layer's next column block in place. -/
theorem wide_step (a : Vec F S1024x1024 .f32) (l j : ℕ) (g : Vec F S1024x4096 .bf16) (hg : ∀ y : S1024x4096.Idx, (y 1).val < 1024 * j → g y = wide B a l y)
    {off : Fin 2 → ℕ} (ho : off = ![0, 1024 * j]) (y : S1024x4096.Idx) (hy : (y 1).val < 1024 * (j + 1)) :
    VecWindow.put g off S1024x1024.size (wideBlk B a l j) y = wide B a l y := by
  subst ho
  unfold VecWindow.put
  by_cases h : ∀ a, (![0, 1024 * j] : Fin 2 → ℕ) a ≤ (y a).val ∧ (y a).val < (![0, 1024 * j] : Fin 2 → ℕ) a + S1024x1024.size a
  · rw [dif_pos h]
    have h1 : 1024 * j ≤ (y 1).val ∧ (y 1).val < 1024 * j + 1024 := h 1
    have e : (y 1).val / 1024 = j := by omega
    unfold wide
    rw [e]
    refine congrArg (wideBlk B a l j) (funext fun a => Fin.ext ?_)
    fin_cases a
    · show (y 0).val - 0 = (y 0).val; omega
    · show (y 1).val - 1024 * j = (y 1).val % 1024; omega
  · rw [dif_neg h]
    refine hg y ?_
    by_contra hc
    refine h fun a => ?_
    have h0 : (y 0).val < 1024 := (y 0).isLt
    fin_cases a
    · show 0 ≤ (y 0).val ∧ (y 0).val < 0 + 1024; omega
    · show 1024 * j ≤ (y 1).val ∧ (y 1).val < 1024 * j + 1024; omega

/-- The next column block mixed. -/
theorem part_step (a : Vec F S1024x1024 .f32) (l k : ℕ) (hk : k < 4) {off : Fin 2 → ℕ} (ho : off = ![0, 256 * k]) {off3 : Fin 3 → ℕ} (ho3 : off3 = ![0, 0, 256 * k])
    (inb : ∀ a, off a + S1024x256.size a ≤ S1024x1024.size a) (inb3 : ∀ a, off3 a + S1x1x256.size a ≤ S1x1x1024.size a)
    (w2 : Vec F S1x256x4096 .f32) (b2 : Vec F S1x1x1024 .f32) (hw2 : B.w2 l (4 + k) = w2) (hb2 : B.b2 l (4 + k) = b2) (k' : ℕ) (hk' : k + 1 = k') :
    VecWindow.put (part B a l k) off S1024x256.size
      (k0_pay5 (wide B a l) w2 (VecWindow.window (part B a l k) off S1024x256.size inb) (VecWindow.window b2 off3 S1x1x256.size inb3))
      = part B a l k' := by
  subst hw2 hb2 hk'
  have hcols : VecWindow.window (part B a l k) off S1024x256.size inb = colsOf a k := by
    rw [window_cols (part B a l k) k hk ho inb]
    funext y
    have hy : (y 1).val < 256 := (y 1).isLt
    unfold colsOf part
    refine if_neg ?_
    show ¬ (256 * k + (y 1).val) % 1024 < 256 * k
    rw [Nat.mod_eq_of_lt (by omega)]; omega
  rw [hcols, window_row _ k hk ho3 inb3]
  subst ho
  funext y
  unfold VecWindow.put
  by_cases h : ∀ a, (![0, 256 * k] : Fin 2 → ℕ) a ≤ (y a).val ∧ (y a).val < (![0, 256 * k] : Fin 2 → ℕ) a + S1024x256.size a
  · rw [dif_pos h]
    have h1 : 256 * k ≤ (y 1).val ∧ (y 1).val < 256 * k + 256 := h 1
    have e : (y 1).val / 256 = k := by omega
    unfold part
    rw [if_pos (by omega)]
    unfold mix
    rw [e]
    refine congrArg (mixBlk B a l k) (funext fun a => Fin.ext ?_)
    fin_cases a
    · show (y 0).val - 0 = (y 0).val; omega
    · show (y 1).val - 256 * k = (y 1).val % 256; omega
  · rw [dif_neg h]
    have hn : ¬ (256 * k ≤ (y 1).val ∧ (y 1).val < 256 * k + 256) := fun hc => h fun a => by
      have h0 : (y 0).val < 1024 := (y 0).isLt
      fin_cases a
      · show 0 ≤ (y 0).val ∧ (y 0).val < 0 + 1024; omega
      · exact hc
    unfold part
    by_cases h2 : (y 1).val < 256 * k
    · rw [if_pos h2, if_pos (by omega)]
    · rw [if_neg h2, if_neg (by omega)]

/-- What the hidden rows and the wide layer hold once point `n` (column `n % 8` of layer `n / 8`) is done. -/
def Good (n : ℕ) (h : Vec F S1024x1024 .f32) (g : Vec F S1024x4096 .bf16) : Prop :=
  if n % 8 < 4 then h = atl B (n / 8) ∧ ∀ y : S1024x4096.Idx, (y 1).val < 1024 * (n % 8 + 1) → g y = wide B (atl B (n / 8)) (n / 8) y
  else if n % 8 < 7 then h = part B (atl B (n / 8)) (n / 8) (n % 8 - 3) ∧ g = wide B (atl B (n / 8)) (n / 8)
  else h = hid B (n / 8 + 1)

/-- At column 3 the wide layer is whole, nothing mixed; at the next columns what `Good` says. -/
theorem Good.mixing {n : ℕ} {h : Vec F S1024x1024 .f32} {g : Vec F S1024x4096 .bf16} (H : Good B n h g) (h3 : 3 ≤ n % 8) (h7 : n % 8 < 7) :
    h = part B (atl B (n / 8)) (n / 8) (n % 8 - 3) ∧ g = wide B (atl B (n / 8)) (n / 8) := by
  unfold Good at H
  by_cases h4 : n % 8 < 4
  · rw [if_pos h4] at H
    have e : n % 8 = 3 := by omega
    refine ⟨?_, funext fun y => H.2 y ?_⟩
    · rw [e, show (3 - 3 : ℕ) = 0 from rfl, part_zero]; exact H.1
    · have : (y 1).val < 4096 := (y 1).isLt
      omega
  · rw [if_neg h4, if_pos h7] at H; exact H

/-- What a mixing column stores, and what the wide layer holds there. -/
theorem mixed {n : ℕ} {h : Vec F S1024x1024 .f32} {g : Vec F S1024x4096 .bf16} (H : Good B (n - 1) h g) (h4 : 4 ≤ n % 8)
    {off : Fin 2 → ℕ} (ho : off = ![0, 256 * (n % 8 - 4)]) {off3 : Fin 3 → ℕ} (ho3 : off3 = ![0, 0, 256 * (n % 8 - 4)])
    (inb : ∀ a, off a + S1024x256.size a ≤ S1024x1024.size a) (inb3 : ∀ a, off3 a + S1x1x256.size a ≤ S1x1x1024.size a)
    {w2 : Vec F S1x256x4096 .f32} {b2 : Vec F S1x1x1024 .f32} (hw2 : B.w2 (n / 8) (n % 8) = w2) (hb2 : B.b2 (n / 8) (n % 8) = b2) :
    VecWindow.put h off S1024x256.size
        (k0_pay5 g w2 (VecWindow.window h off S1024x256.size inb) (VecWindow.window b2 off3 S1x1x256.size inb3))
      = part B (atl B (n / 8)) (n / 8) (n % 8 - 3)
    ∧ g = wide B (atl B (n / 8)) (n / 8) := by
  have hm := H.mixing B (by omega) (by omega)
  rw [show (n - 1) % 8 - 3 = n % 8 - 4 by omega, show (n - 1) / 8 = n / 8 by omega] at hm
  obtain ⟨eh, eg⟩ := hm
  rw [eh, eg]
  have e4 : 4 + (n % 8 - 4) = n % 8 := by omega
  exact ⟨part_step B (atl B (n / 8)) (n / 8) (n % 8 - 4) (by omega) ho ho3 inb inb3 w2 b2 (by rw [e4]; exact hw2) (by rw [e4]; exact hb2) (n % 8 - 3) (by omega), rfl⟩

end Cert.Stack

end
-- ==== Proof.Dats0.lean ====
/- The data of the stack: its branches, the blocks it reads, what holds between its points. -/
module

public import proofs.«01_k».proof.Proof.Closed

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

/-- The conditions the stack branches on, at point `t`: column `t % 8` of layer `t / 8`. -/
theorem atStart_iff : ∀ t : Fin grid0.N, atStart (grid0.coords t) = 1#1 ↔ t.val = 0 := by decide +kernel
theorem atFirst_iff : ∀ t : Fin grid0.N, atFirst (grid0.coords t) = 1#1 ↔ t.val % 8 = 0 := by decide +kernel
theorem feeds_iff : ∀ t : Fin grid0.N, k0_cond3 (grid0.coords t) = 1#1 ↔ t.val % 8 < 4 := by decide +kernel
theorem mixes_iff : ∀ t : Fin grid0.N, k0_cond4 (grid0.coords t) = 1#1 ↔ 4 ≤ t.val % 8 := by decide +kernel
theorem atLast_iff : ∀ t : Fin grid0.N, atLast (grid0.coords t) = 1#1 ↔ t.val % 8 = 7 := by decide +kernel
theorem atEnd_iff : ∀ t : Fin grid0.N, k0_cond6 (grid0.coords t) = 1#1 ↔ t.val = 23 := by decide +kernel

/-- The offsets at point `t`. -/
theorem off1_at : ∀ t : Fin grid0.N, k0_off1 (grid0.coords t) = ![0, 1024 * (t.val % 8)] := by decide +kernel
theorem off2_at : ∀ t : Fin grid0.N, 4 ≤ t.val % 8 → k0_off2 (grid0.coords t) = ![0, 256 * (t.val % 8 - 4)] := by decide +kernel
theorem off3_at : ∀ t : Fin grid0.N, 4 ≤ t.val % 8 → k0_off3 (grid0.coords t) = ![0, 0, 256 * (t.val % 8 - 4)] := by decide +kernel

/-- The output's window is idle but at the last point. -/
theorem idle_out : ∀ t : Fin grid0.N, idle0 17 (grid0.coords t) = !decide (t.val = 23) := by decide +kernel

/-- The point of column `j` of layer `l`. -/
def pt (l j : ℕ) : Fin cfg0.N := ⟨(8 * l + j) % 24, Nat.mod_lt _ (by decide)⟩

theorem pt_at (t : Fin cfg0.N) : pt (t.val / 8) (t.val % 8) = t := by
  have h : t.val < 24 := lt_of_lt_of_eq t.isLt N_0
  exact Fin.ext (show (8 * (t.val / 8) + t.val % 8) % 24 = t.val by omega)

variable (V : (c : Dev nD) → (b : Ref sig .tc) → Buf (Elt F) ((c : Thread nD τ).loc b))

/-- Window `w`'s block at point `t`, read off the arrays the region finds. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks the stack reads. -/
def blk (c : Dev nD) : Blocks F where
  x := iblk V c 0 (pt 0 0)
  wi := iblk V c 1 (pt 0 0)
  bi := iblk V c 2 (pt 0 0)
  wv := iblk V c 3 (pt 0 0)
  wo := iblk V c 4 (pt 0 0)
  bv := iblk V c 5 (pt 0 0)
  bo := iblk V c 6 (pt 0 0)
  w1 l j := iblk V c 7 (pt l j)
  b1 l j := iblk V c 8 (pt l j)
  w2 l j := iblk V c 9 (pt l j)
  b2 l j := iblk V c 10 (pt l j)
  g1 l j := iblk V c 11 (pt l j)
  be1 l j := iblk V c 12 (pt l j)
  g2 l j := iblk V c 13 (pt l j)
  be2 l j := iblk V c 14 (pt l j)
  gf := iblk V c 15 (pt 2 7)
  bf := iblk V c 16 (pt 2 7)

/-- A layer's blocks at point `t` are the fetched ones. -/
theorem w1_at (c : Dev nD) (t : Fin cfg0.N) : (blk V c).w1 (t.val / 8) (t.val % 8) = iblk V c 7 t :=
  (show (blk V c).w1 (t.val / 8) (t.val % 8) = iblk V c 7 (pt (t.val / 8) (t.val % 8)) from rfl).trans (by rw [pt_at])
theorem b1_at (c : Dev nD) (t : Fin cfg0.N) : (blk V c).b1 (t.val / 8) (t.val % 8) = iblk V c 8 t :=
  (show (blk V c).b1 (t.val / 8) (t.val % 8) = iblk V c 8 (pt (t.val / 8) (t.val % 8)) from rfl).trans (by rw [pt_at])
theorem w2_at (c : Dev nD) (t : Fin cfg0.N) : (blk V c).w2 (t.val / 8) (t.val % 8) = iblk V c 9 t :=
  (show (blk V c).w2 (t.val / 8) (t.val % 8) = iblk V c 9 (pt (t.val / 8) (t.val % 8)) from rfl).trans (by rw [pt_at])
theorem b2_at (c : Dev nD) (t : Fin cfg0.N) : (blk V c).b2 (t.val / 8) (t.val % 8) = iblk V c 10 t :=
  (show (blk V c).b2 (t.val / 8) (t.val % 8) = iblk V c 10 (pt (t.val / 8) (t.val % 8)) from rfl).trans (by rw [pt_at])
theorem g1_at (c : Dev nD) (t : Fin cfg0.N) : (blk V c).g1 (t.val / 8) (t.val % 8) = iblk V c 11 t :=
  (show (blk V c).g1 (t.val / 8) (t.val % 8) = iblk V c 11 (pt (t.val / 8) (t.val % 8)) from rfl).trans (by rw [pt_at])
theorem be1_at (c : Dev nD) (t : Fin cfg0.N) : (blk V c).be1 (t.val / 8) (t.val % 8) = iblk V c 12 t :=
  (show (blk V c).be1 (t.val / 8) (t.val % 8) = iblk V c 12 (pt (t.val / 8) (t.val % 8)) from rfl).trans (by rw [pt_at])
theorem g2_at (c : Dev nD) (t : Fin cfg0.N) : (blk V c).g2 (t.val / 8) (t.val % 8) = iblk V c 13 t :=
  (show (blk V c).g2 (t.val / 8) (t.val % 8) = iblk V c 13 (pt (t.val / 8) (t.val % 8)) from rfl).trans (by rw [pt_at])
theorem be2_at (c : Dev nD) (t : Fin cfg0.N) : (blk V c).be2 (t.val / 8) (t.val % 8) = iblk V c 14 t :=
  (show (blk V c).be2 (t.val / 8) (t.val % 8) = iblk V c 14 (pt (t.val / 8) (t.val % 8)) from rfl).trans (by rw [pt_at])

/-- The scoped buffers the stack neither stages nor uses: the head's staging buffers. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The stack's scratch, held at given contents. -/
def scr (c : Dev nD) (h : Vec F S1024x1024 .f32) (g : Vec F S1024x4096 .bf16) (w : Vec F S1024x1024 .f32) (b : Vec F S1x1024 .f32) : sProp 𝕄 :=
  iprop(owns (c : Thread nD τ) (Memref.whole cc0_scratch0) fullShare h ∗ owns (c : Thread nD τ) (Memref.whole cc0_scratch1) fullShare g
    ∗ owns (c : Thread nD τ) (Memref.whole cc0_scratch2) fullShare w ∗ owns (c : Thread nD τ) (Memref.whole cc0_scratch3) fullShare b)

/-- What holds of the scratch's contents once `n` points are done. -/
def Held (c : Dev nD) (n : ℕ) (h : Vec F S1024x1024 .f32) (g : Vec F S1024x4096 .bf16) (w : Vec F S1024x1024 .f32) (b : Vec F S1x1024 .f32) : Prop :=
  n ≠ 0 → Good (blk V c) (n - 1) h g ∧ w = wvo (blk V c) ∧ b = bvo (blk V c)

/-- The invariant once `n` points are done. -/
def inv (c : Dev nD) (n : ℕ) : sProp 𝕄 :=
  iprop((∃ h g w b, ⌜Held V c n h g w b⌝ ∗ scr c h g w b) ∗ others c)

/-- The stack's proof data. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => out (blk V c)
    | ⟨_ + 18, h⟩ => absurd h (Nat.not_lt.2 (Nat.le_add_left _ _))
  Φ t := inv V c t.val
  q _ := fullShare
  owed _ := 0

theorem A0_eq (c : Dev nD) (w : Fin cfg0.W) : (dat0 V c).A w = V c (Pipeline.arrRef spec0 w) := by dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = iblk V c 6 t := by dsimp only [dat0]
theorem after0_7 (c : Dev nD) (t : Fin cfg0.N) : (dat0 V c).after 7 t = iblk V c 7 t := by dsimp only [dat0]
theorem after0_8 (c : Dev nD) (t : Fin cfg0.N) : (dat0 V c).after 8 t = iblk V c 8 t := by dsimp only [dat0]
theorem after0_9 (c : Dev nD) (t : Fin cfg0.N) : (dat0 V c).after 9 t = iblk V c 9 t := by dsimp only [dat0]
theorem after0_10 (c : Dev nD) (t : Fin cfg0.N) : (dat0 V c).after 10 t = iblk V c 10 t := by dsimp only [dat0]
theorem after0_11 (c : Dev nD) (t : Fin cfg0.N) : (dat0 V c).after 11 t = iblk V c 11 t := by dsimp only [dat0]
theorem after0_12 (c : Dev nD) (t : Fin cfg0.N) : (dat0 V c).after 12 t = iblk V c 12 t := by dsimp only [dat0]
theorem after0_13 (c : Dev nD) (t : Fin cfg0.N) : (dat0 V c).after 13 t = iblk V c 13 t := by dsimp only [dat0]
theorem after0_14 (c : Dev nD) (t : Fin cfg0.N) : (dat0 V c).after 14 t = iblk V c 14 t := by dsimp only [dat0]
theorem after0_15 (c : Dev nD) (t : Fin cfg0.N) : (dat0 V c).after 15 t = iblk V c 15 t := by dsimp only [dat0]
theorem after0_16 (c : Dev nD) (t : Fin cfg0.N) : (dat0 V c).after 16 t = iblk V c 16 t := by dsimp only [dat0]
theorem after0_17 (c : Dev nD) (t : Fin cfg0.N) : (dat0 V c).after 17 t = out (blk V c) := by dsimp only [dat0]

/-- Each input's buffer holds its block at every point. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A0_eq]; try rfl) t d).trans
    (by unfold Dat.fetched Dat.blockOf iblk; rw [A0_eq]; try rfl)
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A0_eq]; try rfl) t d).trans
    (by unfold Dat.fetched Dat.blockOf iblk; rw [A0_eq]; try rfl)
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A0_eq]; try rfl) t d).trans
    (by unfold Dat.fetched Dat.blockOf iblk; rw [A0_eq]; try rfl)
theorem before0_3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [A0_eq]; try rfl) t d).trans
    (by unfold Dat.fetched Dat.blockOf iblk; rw [A0_eq]; try rfl)
theorem before0_4 (c : Dev nD) (t : Fin cfg0.N) (d) : (dat0 V c).before 4 t d = iblk V c 4 t :=
  ((dat0 V c).before_in_eq_fetched 4 rfl (fun _ => rfl) (fun _ _ _ => rfl) (fun t => by rw [after0_4]; unfold Dat.blockOf iblk; rw [A0_eq]; try rfl) t d).trans
    (by unfold Dat.fetched Dat.blockOf iblk; rw [A0_eq]; try rfl)
theorem before0_5 (c : Dev nD) (t : Fin cfg0.N) (d) : (dat0 V c).before 5 t d = iblk V c 5 t :=
  ((dat0 V c).before_in_eq_fetched 5 rfl (fun _ => rfl) (fun _ _ _ => rfl) (fun t => by rw [after0_5]; unfold Dat.blockOf iblk; rw [A0_eq]; try rfl) t d).trans
    (by unfold Dat.fetched Dat.blockOf iblk; rw [A0_eq]; try rfl)
theorem before0_6 (c : Dev nD) (t : Fin cfg0.N) (d) : (dat0 V c).before 6 t d = iblk V c 6 t :=
  ((dat0 V c).before_in_eq_fetched 6 rfl (fun _ => rfl) (fun _ _ _ => rfl) (fun t => by rw [after0_6]; unfold Dat.blockOf iblk; rw [A0_eq]; try rfl) t d).trans
    (by unfold Dat.fetched Dat.blockOf iblk; rw [A0_eq]; try rfl)
theorem before0_7 (c : Dev nD) (t : Fin cfg0.N) (d) : (dat0 V c).before 7 t d = iblk V c 7 t :=
  ((dat0 V c).before_in_eq_fetched 7 rfl (fun _ => rfl) (fun _ _ _ => rfl) (fun t => by rw [after0_7]; unfold Dat.blockOf iblk; rw [A0_eq]; try rfl) t d).trans
    (by unfold Dat.fetched Dat.blockOf iblk; rw [A0_eq]; try rfl)
theorem before0_8 (c : Dev nD) (t : Fin cfg0.N) (d) : (dat0 V c).before 8 t d = iblk V c 8 t :=
  ((dat0 V c).before_in_eq_fetched 8 rfl (fun _ => rfl) (fun _ _ _ => rfl) (fun t => by rw [after0_8]; unfold Dat.blockOf iblk; rw [A0_eq]; try rfl) t d).trans
    (by unfold Dat.fetched Dat.blockOf iblk; rw [A0_eq]; try rfl)
theorem before0_9 (c : Dev nD) (t : Fin cfg0.N) (d) : (dat0 V c).before 9 t d = iblk V c 9 t :=
  ((dat0 V c).before_in_eq_fetched 9 rfl (fun _ => rfl) (fun _ _ _ => rfl) (fun t => by rw [after0_9]; unfold Dat.blockOf iblk; rw [A0_eq]; try rfl) t d).trans
    (by unfold Dat.fetched Dat.blockOf iblk; rw [A0_eq]; try rfl)
theorem before0_10 (c : Dev nD) (t : Fin cfg0.N) (d) : (dat0 V c).before 10 t d = iblk V c 10 t :=
  ((dat0 V c).before_in_eq_fetched 10 rfl (fun _ => rfl) (fun _ _ _ => rfl) (fun t => by rw [after0_10]; unfold Dat.blockOf iblk; rw [A0_eq]; try rfl) t d).trans
    (by unfold Dat.fetched Dat.blockOf iblk; rw [A0_eq]; try rfl)
theorem before0_11 (c : Dev nD) (t : Fin cfg0.N) (d) : (dat0 V c).before 11 t d = iblk V c 11 t :=
  ((dat0 V c).before_in_eq_fetched 11 rfl (fun _ => rfl) (fun _ _ _ => rfl) (fun t => by rw [after0_11]; unfold Dat.blockOf iblk; rw [A0_eq]; try rfl) t d).trans
    (by unfold Dat.fetched Dat.blockOf iblk; rw [A0_eq]; try rfl)
theorem before0_12 (c : Dev nD) (t : Fin cfg0.N) (d) : (dat0 V c).before 12 t d = iblk V c 12 t :=
  ((dat0 V c).before_in_eq_fetched 12 rfl (fun _ => rfl) (fun _ _ _ => rfl) (fun t => by rw [after0_12]; unfold Dat.blockOf iblk; rw [A0_eq]; try rfl) t d).trans
    (by unfold Dat.fetched Dat.blockOf iblk; rw [A0_eq]; try rfl)
theorem before0_13 (c : Dev nD) (t : Fin cfg0.N) (d) : (dat0 V c).before 13 t d = iblk V c 13 t :=
  ((dat0 V c).before_in_eq_fetched 13 rfl (fun _ => rfl) (fun _ _ _ => rfl) (fun t => by rw [after0_13]; unfold Dat.blockOf iblk; rw [A0_eq]; try rfl) t d).trans
    (by unfold Dat.fetched Dat.blockOf iblk; rw [A0_eq]; try rfl)
theorem before0_14 (c : Dev nD) (t : Fin cfg0.N) (d) : (dat0 V c).before 14 t d = iblk V c 14 t :=
  ((dat0 V c).before_in_eq_fetched 14 rfl (fun _ => rfl) (fun _ _ _ => rfl) (fun t => by rw [after0_14]; unfold Dat.blockOf iblk; rw [A0_eq]; try rfl) t d).trans
    (by unfold Dat.fetched Dat.blockOf iblk; rw [A0_eq]; try rfl)
theorem before0_15 (c : Dev nD) (t : Fin cfg0.N) (d) : (dat0 V c).before 15 t d = iblk V c 15 t :=
  ((dat0 V c).before_in_eq_fetched 15 rfl (fun _ => rfl) (fun _ _ _ => rfl) (fun t => by rw [after0_15]; unfold Dat.blockOf iblk; rw [A0_eq]; try rfl) t d).trans
    (by unfold Dat.fetched Dat.blockOf iblk; rw [A0_eq]; try rfl)
theorem before0_16 (c : Dev nD) (t : Fin cfg0.N) (d) : (dat0 V c).before 16 t d = iblk V c 16 t :=
  ((dat0 V c).before_in_eq_fetched 16 rfl (fun _ => rfl) (fun _ _ _ => rfl) (fun t => by rw [after0_16]; unfold Dat.blockOf iblk; rw [A0_eq]; try rfl) t d).trans
    (by unfold Dat.fetched Dat.blockOf iblk; rw [A0_eq]; try rfl)

/-- The windows' staging buffers at point `t`, the inputs' at their blocks. -/
def ins (c : Dev nD) (t : Fin cfg0.N) : sProp 𝕄 :=
  iprop(owns (c : Thread nD τ) (st0_0 t) fullShare (iblk V c 0 t) ∗ owns (c : Thread nD τ) (st0_1 t) fullShare (iblk V c 1 t) ∗ owns (c : Thread nD τ) (st0_2 t) fullShare (iblk V c 2 t) ∗ owns (c : Thread nD τ) (st0_3 t) fullShare (iblk V c 3 t) ∗ owns (c : Thread nD τ) (st0_4 t) fullShare (iblk V c 4 t) ∗ owns (c : Thread nD τ) (st0_5 t) fullShare (iblk V c 5 t) ∗ owns (c : Thread nD τ) (st0_6 t) fullShare (iblk V c 6 t) ∗ owns (c : Thread nD τ) (st0_7 t) fullShare (iblk V c 7 t) ∗ owns (c : Thread nD τ) (st0_8 t) fullShare (iblk V c 8 t) ∗ owns (c : Thread nD τ) (st0_9 t) fullShare (iblk V c 9 t) ∗ owns (c : Thread nD τ) (st0_10 t) fullShare (iblk V c 10 t) ∗ owns (c : Thread nD τ) (st0_11 t) fullShare (iblk V c 11 t) ∗ owns (c : Thread nD τ) (st0_12 t) fullShare (iblk V c 12 t) ∗ owns (c : Thread nD τ) (st0_13 t) fullShare (iblk V c 13 t) ∗ owns (c : Thread nD τ) (st0_14 t) fullShare (iblk V c 14 t) ∗ owns (c : Thread nD τ) (st0_15 t) fullShare (iblk V c 15 t) ∗ owns (c : Thread nD τ) (st0_16 t) fullShare (iblk V c 16 t))

end Cert.Stack

end
-- ==== Proof.Held0.lean ====
/- What each kind of point does to what the scratch holds. -/
module

public import proofs.«01_k».proof.Proof.Dats0

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)
variable {h : Vec F S1024x1024 .f32} {g : Vec F S1024x4096 .bf16} {w : Vec F S1024x1024 .f32} {b : Vec F S1x1024 .f32}

/-- The column block the point's step computes. -/
theorem wideBlk_at (a : Vec F S1024x1024 .f32) : k0_pay4 a (iblk V c 7 t) (iblk V c 8 t) = wideBlk (blk V c) a (t.val / 8) (t.val % 8) := by
  unfold wideBlk; rw [w1_at, b1_at]

/-- A column feeding the wide layer, not the first. -/
theorem held_feed (H : Held V c t.val h g w b) (h0 : t.val % 8 ≠ 0) (h4 : t.val % 8 < 4) :
    Held V c (t.val + 1) h (VecWindow.put g (k0_off1 (grid0.coords t)) S1024x1024.size (k0_pay4 h (iblk V c 7 t) (iblk V c 8 t))) w b := by
  intro _
  obtain ⟨G, hw, hb⟩ := H (by omega)
  refine ⟨?_, hw, hb⟩
  have e1 : (t.val - 1) % 8 = t.val % 8 - 1 := by omega
  have e2 : (t.val - 1) / 8 = t.val / 8 := by omega
  unfold Good at G ⊢
  rw [e1, e2, if_pos (by omega)] at G
  rw [Nat.add_sub_cancel, if_pos h4]
  obtain ⟨rfl, hg⟩ := G
  refine ⟨rfl, fun y hy => ?_⟩
  rw [wideBlk_at]
  exact wide_step _ _ _ _ g (fun y hy => hg y (by omega)) (off1_at t) y hy

/-- The first column of a layer, entered with the layer's rows. -/
theorem good_first (h0 : t.val % 8 = 0) : Good (blk V c) t.val (k0_pay8 (hid (blk V c) (t.val / 8)) (wvo (blk V c)) (bvo (blk V c)) (iblk V c 11 t) (iblk V c 12 t))
    (VecWindow.put g (k0_off1 (grid0.coords t)) S1024x1024.size
      (k0_pay4 (k0_pay8 (hid (blk V c) (t.val / 8)) (wvo (blk V c)) (bvo (blk V c)) (iblk V c 11 t) (iblk V c 12 t)) (iblk V c 7 t) (iblk V c 8 t))) := by
  have ea : k0_pay8 (hid (blk V c) (t.val / 8)) (wvo (blk V c)) (bvo (blk V c)) (iblk V c 11 t) (iblk V c 12 t) = atl (blk V c) (t.val / 8) := by
    rw [← g1_at, ← be1_at, h0]; rfl
  rw [ea, wideBlk_at]
  unfold Good
  rw [if_pos (by omega)]
  refine ⟨rfl, fun y hy => ?_⟩
  exact wide_step _ _ _ _ g (fun y hy => absurd hy (by omega)) (off1_at t) y hy

/-- The first column of a later layer. -/
theorem held_first (H : Held V c t.val h g w b) (hs : t.val ≠ 0) (h0 : t.val % 8 = 0) :
    Held V c (t.val + 1) (k0_pay8 h w b (iblk V c 11 t) (iblk V c 12 t))
      (VecWindow.put g (k0_off1 (grid0.coords t)) S1024x1024.size (k0_pay4 (k0_pay8 h w b (iblk V c 11 t) (iblk V c 12 t)) (iblk V c 7 t) (iblk V c 8 t))) w b := by
  intro _
  obtain ⟨G, rfl, rfl⟩ := H hs
  refine ⟨?_, rfl, rfl⟩
  unfold Good at G
  rw [if_neg (by omega), if_neg (by omega), show (t.val - 1) / 8 + 1 = t.val / 8 by omega] at G
  subst G
  exact good_first V c t h0

/-- The first point. -/
theorem held_start (hs : t.val = 0) :
    Held V c (t.val + 1) (k0_pay8 (k0_pay3 (iblk V c 0 t) (iblk V c 1 t) (iblk V c 2 t)) (k0_pay1 (iblk V c 3 t) (iblk V c 4 t)) (k0_pay2 (iblk V c 5 t) (iblk V c 4 t) (iblk V c 6 t)) (iblk V c 11 t) (iblk V c 12 t))
      (VecWindow.put g (k0_off1 (grid0.coords t)) S1024x1024.size
        (k0_pay4 (k0_pay8 (k0_pay3 (iblk V c 0 t) (iblk V c 1 t) (iblk V c 2 t)) (k0_pay1 (iblk V c 3 t) (iblk V c 4 t)) (k0_pay2 (iblk V c 5 t) (iblk V c 4 t) (iblk V c 6 t)) (iblk V c 11 t) (iblk V c 12 t)) (iblk V c 7 t) (iblk V c 8 t)))
      (k0_pay1 (iblk V c 3 t) (iblk V c 4 t)) (k0_pay2 (iblk V c 5 t) (iblk V c 4 t) (iblk V c 6 t)) := by
  intro _
  have e : t = pt 0 0 := Fin.ext hs
  have hg := good_first (g := g) V c t (by omega)
  subst e
  exact ⟨hg, rfl, rfl⟩

/-- A mixing column, not the last. -/
theorem held_mix {w2 : Vec F S1x256x4096 .f32} {b2 : Vec F S1x1x1024 .f32} (hw2 : (blk V c).w2 (t.val / 8) (t.val % 8) = w2) (hb2 : (blk V c).b2 (t.val / 8) (t.val % 8) = b2)
    (H : Held V c t.val h g w b) (h4 : 4 ≤ t.val % 8) (h7 : t.val % 8 ≠ 7) :
    Held V c (t.val + 1) (VecWindow.put h (k0_off2 (grid0.coords t)) S1024x256.size
        (k0_pay5 g w2 (VecWindow.window h (k0_off2 (grid0.coords t)) S1024x256.size (k0_off2_inb (grid0.coords t) ((mixes_iff t).2 h4)))
          (VecWindow.window b2 (k0_off3 (grid0.coords t)) S1x1x256.size (k0_off3_inb (grid0.coords t) ((mixes_iff t).2 h4))))) g w b := by
  intro _
  obtain ⟨e1, e2⟩ := mixed (blk V c) (H (by omega)).1 h4 (off2_at t h4) (off3_at t h4) (k0_off2_inb (grid0.coords t) ((mixes_iff t).2 h4)) (k0_off3_inb (grid0.coords t) ((mixes_iff t).2 h4)) hw2 hb2
  obtain ⟨-, hw, hb⟩ := H (by omega)
  refine ⟨?_, hw, hb⟩
  rw [e1]
  unfold Good
  rw [Nat.add_sub_cancel, if_neg (by omega), if_pos (by omega)]
  exact ⟨rfl, e2⟩

/-- The rows the last column of a layer leaves. -/
theorem last_hid {w2 : Vec F S1x256x4096 .f32} {b2 : Vec F S1x1x1024 .f32} (hw2 : (blk V c).w2 (t.val / 8) (t.val % 8) = w2) (hb2 : (blk V c).b2 (t.val / 8) (t.val % 8) = b2)
    (H : Held V c t.val h g w b) (h7 : t.val % 8 = 7) (h4 : 4 ≤ t.val % 8) :
    k0_pay6 (VecWindow.put h (k0_off2 (grid0.coords t)) S1024x256.size
        (k0_pay5 g w2 (VecWindow.window h (k0_off2 (grid0.coords t)) S1024x256.size (k0_off2_inb (grid0.coords t) ((mixes_iff t).2 h4)))
          (VecWindow.window b2 (k0_off3 (grid0.coords t)) S1x1x256.size (k0_off3_inb (grid0.coords t) ((mixes_iff t).2 h4)))))
      (iblk V c 13 t) (iblk V c 14 t) = hid (blk V c) (t.val / 8 + 1) := by
  rw [(mixed (blk V c) (H (by omega)).1 h4 (off2_at t h4) (off3_at t h4) (k0_off2_inb (grid0.coords t) ((mixes_iff t).2 h4)) (k0_off3_inb (grid0.coords t) ((mixes_iff t).2 h4)) hw2 hb2).1, ← g2_at, ← be2_at, h7, show 7 - 3 = 4 from rfl, part_four]
  rfl

/-- The last column of a layer. -/
theorem held_last {w2 : Vec F S1x256x4096 .f32} {b2 : Vec F S1x1x1024 .f32} (hw2 : (blk V c).w2 (t.val / 8) (t.val % 8) = w2) (hb2 : (blk V c).b2 (t.val / 8) (t.val % 8) = b2)
    (H : Held V c t.val h g w b) (h7 : t.val % 8 = 7) (h4 : 4 ≤ t.val % 8) :
    Held V c (t.val + 1) (k0_pay6 (VecWindow.put h (k0_off2 (grid0.coords t)) S1024x256.size
        (k0_pay5 g w2 (VecWindow.window h (k0_off2 (grid0.coords t)) S1024x256.size (k0_off2_inb (grid0.coords t) ((mixes_iff t).2 h4)))
          (VecWindow.window b2 (k0_off3 (grid0.coords t)) S1x1x256.size (k0_off3_inb (grid0.coords t) ((mixes_iff t).2 h4)))))
      (iblk V c 13 t) (iblk V c 14 t)) g w b := by
  intro _
  obtain ⟨-, hw, hb⟩ := H (by omega)
  refine ⟨?_, hw, hb⟩
  rw [last_hid V c t hw2 hb2 H h7 h4]
  unfold Good
  rw [Nat.add_sub_cancel, if_neg (by omega), if_neg (by omega)]

/-- What the last point writes out. -/
theorem end_out (ht : t.val = 23) : k0_pay7 (hid (blk V c) (t.val / 8 + 1)) (iblk V c 15 t) (iblk V c 16 t) = out (blk V c) := by
  have e : t = pt 2 7 := Fin.ext ht
  subst e
  rfl

end Cert.Stack

end
-- ==== Proof.RunFeed.lean ====
/- The points that only fill a block of the wide layer. -/
module

public import proofs.«01_k».proof.Proof.RunBase

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg2 : Memref sig .tc .vmem S1024x512 .f32) (harg2 : arg2.IsWhole)
variable (arg3 : Memref sig .tc .vmem S1024x512 .f32) (harg3 : arg3.IsWhole)
variable (arg4 : Memref sig .tc .vmem S1x1024 .f32) (harg4 : arg4.IsWhole)
variable (arg5 : Memref sig .tc .vmem S1024x1024 .f32) (harg5 : arg5.IsWhole)
variable (arg6 : Memref sig .tc .vmem S1024x1024 .f32) (harg6 : arg6.IsWhole)
variable (arg7 : Memref sig .tc .vmem S1x1024 .f32) (harg7 : arg7.IsWhole)
variable (arg8 : Memref sig .tc .vmem S1x1024 .f32) (harg8 : arg8.IsWhole)
variable (arg9 : Memref sig .tc .vmem S1x1024x1024 .f32) (harg9 : arg9.IsWhole)
variable (arg10 : Memref sig .tc .vmem S1x1x1024 .f32) (harg10 : arg10.IsWhole)
variable (arg11 : Memref sig .tc .vmem S1x256x4096 .f32) (harg11 : arg11.IsWhole)
variable (arg12 : Memref sig .tc .vmem S1x1x1024 .f32) (harg12 : arg12.IsWhole)
variable (arg13 : Memref sig .tc .vmem S1x1x1024 .f32) (harg13 : arg13.IsWhole)
variable (arg14 : Memref sig .tc .vmem S1x1x1024 .f32) (harg14 : arg14.IsWhole)
variable (arg15 : Memref sig .tc .vmem S1x1x1024 .f32) (harg15 : arg15.IsWhole)
variable (arg16 : Memref sig .tc .vmem S1x1x1024 .f32) (harg16 : arg16.IsWhole)
variable (arg17 : Memref sig .tc .vmem S1x1024 .f32) (harg17 : arg17.IsWhole)
variable (arg18 : Memref sig .tc .vmem S1x1024 .f32) (harg18 : arg18.IsWhole)
variable (arg19 : Memref sig .tc .vmem S1024x1024 .f32) (harg19 : arg19.IsWhole)
variable (arg20 : Memref sig .tc .vmem S1024x1024 .f32) (harg20 : arg20.IsWhole)
variable (arg21 : Memref sig .tc .vmem S1024x4096 .bf16) (harg21 : arg21.IsWhole)
variable (arg22 : Memref sig .tc .vmem S1024x1024 .f32) (harg22 : arg22.IsWhole)
variable (arg23 : Memref sig .tc .vmem S1x1024 .f32) (harg23 : arg23.IsWhole)

set_option maxHeartbeats 1000000 in
/-- In a column that only fills: the block of the wide layer is written, everything else stays. -/
theorem run_feed (hc1 : ¬ atStart i = 1#1) (hc2 : ¬ atFirst i = 1#1) (hc3 : k0_cond3 i = 1#1) (hc4 : ¬ k0_cond4 i = 1#1) (hc5 : ¬ atLast i = 1#1) (hc6 : ¬ k0_cond6 i = 1#1)
    (w1 : Vec F S1x1024x1024 .f32) (b1 : Vec F S1x1x1024 .f32) (h : Vec F S1024x1024 .f32) (g : Vec F S1024x4096 .bf16) (E : Set ℕ) (K : PUnit → sProp 𝕄) :
    iprop(owns (c : Thread nD τ) arg9 fullShare w1 ∗ owns (c : Thread nD τ) arg10 fullShare b1 ∗ owns (c : Thread nD τ) arg20 fullShare h ∗ owns (c : Thread nD τ) arg21 fullShare g
        ∗ (iprop(owns (c : Thread nD τ) arg9 fullShare w1 ∗ owns (c : Thread nD τ) arg10 fullShare b1 ∗ owns (c : Thread nD τ) arg20 fullShare h ∗ owns (c : Thread nD τ) arg21 fullShare (VecWindow.put g (k0_off1 i) S1024x1024.size (k0_pay4 h w1 b1))) -∗ K ⟨⟩))
      ⊢ wp frame (wpE (defs₀ (F := F)) Variants.none c none) E
        (cc0__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  rw [cc0__main_body_eq_skeleton]; unfold cc0__main_body_skel
  unfold owns
  iintro ⟨⟨%f0, %hf0, H0⟩, ⟨%f1, %hf1, H1⟩, ⟨%f2, %hf2, H2⟩, ⟨%f3, %hf3, H3⟩, Hk⟩
  obtain rfl := harg9.eq_unread hf0; obtain rfl := harg10.eq_unread hf1; obtain rfl := harg20.eq_unread hf2; obtain rfl := harg21.eq_unread hf3
  sl_exec (disch := first | sl_exact hc1 | sl_exact hc2 | sl_exact hc3 | sl_exact hc4 | sl_exact hc5 | sl_exact hc6)
  sl_step
  iapply Hk
  isplitl [H0]
  · iapply owns_held (c : Thread nD τ) harg9 fullShare $$ H0
  isplitl [H1]
  · iapply owns_held (c : Thread nD τ) harg10 fullShare $$ H1
  isplitl [H2]
  · iapply owns_held (c : Thread nD τ) harg20 fullShare $$ H2
  iapply owns_of_read (c : Thread nD τ) arg21 fullShare $$ H3
  rw [View.read_writes_cons_put _ _ _ _ _ rfl, View.writes_nil, harg21.read_unread]
  repeat rw [readAt_held]

end Cert.Stack

end
-- ==== Proof.RunFirst.lean ====
/- The first point of a later layer. -/
module

public import proofs.«01_k».proof.Proof.RunBase

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg2 : Memref sig .tc .vmem S1024x512 .f32) (harg2 : arg2.IsWhole)
variable (arg3 : Memref sig .tc .vmem S1024x512 .f32) (harg3 : arg3.IsWhole)
variable (arg4 : Memref sig .tc .vmem S1x1024 .f32) (harg4 : arg4.IsWhole)
variable (arg5 : Memref sig .tc .vmem S1024x1024 .f32) (harg5 : arg5.IsWhole)
variable (arg6 : Memref sig .tc .vmem S1024x1024 .f32) (harg6 : arg6.IsWhole)
variable (arg7 : Memref sig .tc .vmem S1x1024 .f32) (harg7 : arg7.IsWhole)
variable (arg8 : Memref sig .tc .vmem S1x1024 .f32) (harg8 : arg8.IsWhole)
variable (arg9 : Memref sig .tc .vmem S1x1024x1024 .f32) (harg9 : arg9.IsWhole)
variable (arg10 : Memref sig .tc .vmem S1x1x1024 .f32) (harg10 : arg10.IsWhole)
variable (arg11 : Memref sig .tc .vmem S1x256x4096 .f32) (harg11 : arg11.IsWhole)
variable (arg12 : Memref sig .tc .vmem S1x1x1024 .f32) (harg12 : arg12.IsWhole)
variable (arg13 : Memref sig .tc .vmem S1x1x1024 .f32) (harg13 : arg13.IsWhole)
variable (arg14 : Memref sig .tc .vmem S1x1x1024 .f32) (harg14 : arg14.IsWhole)
variable (arg15 : Memref sig .tc .vmem S1x1x1024 .f32) (harg15 : arg15.IsWhole)
variable (arg16 : Memref sig .tc .vmem S1x1x1024 .f32) (harg16 : arg16.IsWhole)
variable (arg17 : Memref sig .tc .vmem S1x1024 .f32) (harg17 : arg17.IsWhole)
variable (arg18 : Memref sig .tc .vmem S1x1024 .f32) (harg18 : arg18.IsWhole)
variable (arg19 : Memref sig .tc .vmem S1024x1024 .f32) (harg19 : arg19.IsWhole)
variable (arg20 : Memref sig .tc .vmem S1024x1024 .f32) (harg20 : arg20.IsWhole)
variable (arg21 : Memref sig .tc .vmem S1024x4096 .bf16) (harg21 : arg21.IsWhole)
variable (arg22 : Memref sig .tc .vmem S1024x1024 .f32) (harg22 : arg22.IsWhole)
variable (arg23 : Memref sig .tc .vmem S1x1024 .f32) (harg23 : arg23.IsWhole)

set_option maxHeartbeats 1000000 in
/-- The first column of a later layer: the attention step replaces the hidden rows, then the first block of the wide layer is written. -/
theorem run_first (hc1 : ¬ atStart i = 1#1) (hc2 : atFirst i = 1#1) (hc3 : k0_cond3 i = 1#1) (hc4 : ¬ k0_cond4 i = 1#1) (hc5 : ¬ atLast i = 1#1) (hc6 : ¬ k0_cond6 i = 1#1)
    (wvo : Vec F S1024x1024 .f32) (bvo : Vec F S1x1024 .f32) (g1 : Vec F S1x1x1024 .f32) (be1 : Vec F S1x1x1024 .f32) (w1 : Vec F S1x1024x1024 .f32) (b1 : Vec F S1x1x1024 .f32) (h : Vec F S1024x1024 .f32) (g : Vec F S1024x4096 .bf16) (E : Set ℕ) (K : PUnit → sProp 𝕄) :
    iprop(owns (c : Thread nD τ) arg22 fullShare wvo ∗ owns (c : Thread nD τ) arg23 fullShare bvo ∗ owns (c : Thread nD τ) arg13 fullShare g1 ∗ owns (c : Thread nD τ) arg14 fullShare be1 ∗ owns (c : Thread nD τ) arg9 fullShare w1 ∗ owns (c : Thread nD τ) arg10 fullShare b1 ∗ owns (c : Thread nD τ) arg20 fullShare h ∗ owns (c : Thread nD τ) arg21 fullShare g
        ∗ (iprop(owns (c : Thread nD τ) arg22 fullShare wvo ∗ owns (c : Thread nD τ) arg23 fullShare bvo ∗ owns (c : Thread nD τ) arg13 fullShare g1 ∗ owns (c : Thread nD τ) arg14 fullShare be1 ∗ owns (c : Thread nD τ) arg9 fullShare w1 ∗ owns (c : Thread nD τ) arg10 fullShare b1 ∗ owns (c : Thread nD τ) arg20 fullShare (k0_pay8 h wvo bvo g1 be1) ∗ owns (c : Thread nD τ) arg21 fullShare (VecWindow.put g (k0_off1 i) S1024x1024.size (k0_pay4 (k0_pay8 h wvo bvo g1 be1) w1 b1))) -∗ K ⟨⟩))
      ⊢ wp frame (wpE (defs₀ (F := F)) Variants.none c none) E
        (cc0__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  rw [cc0__main_body_eq_skeleton]; unfold cc0__main_body_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg22.eq_unread hf0; obtain rfl := harg23.eq_unread hf1; obtain rfl := harg13.eq_unread hf2; obtain rfl := harg14.eq_unread hf3; obtain rfl := harg9.eq_unread hf4; obtain rfl := harg10.eq_unread hf5; obtain rfl := harg20.eq_unread hf6; obtain rfl := harg21.eq_unread hf7
  sl_exec (disch := first | sl_exact hc1 | sl_exact hc2 | sl_exact hc3 | sl_exact hc4 | sl_exact hc5 | sl_exact hc6)
  sl_step
  iapply Hk
  isplitl [H0]
  · iapply owns_held (c : Thread nD τ) harg22 fullShare $$ H0
  isplitl [H1]
  · iapply owns_held (c : Thread nD τ) harg23 fullShare $$ H1
  isplitl [H2]
  · iapply owns_held (c : Thread nD τ) harg13 fullShare $$ H2
  isplitl [H3]
  · iapply owns_held (c : Thread nD τ) harg14 fullShare $$ H3
  isplitl [H4]
  · iapply owns_held (c : Thread nD τ) harg9 fullShare $$ H4
  isplitl [H5]
  · iapply owns_held (c : Thread nD τ) harg10 fullShare $$ H5
  isplitl [H6]
  · iapply owns_of_read (c : Thread nD τ) arg20 fullShare $$ H6
    unfold run_first.sl.H6_1
    rw [View.read_writes_full]
    repeat rw [readAt_held]
  iapply owns_of_read (c : Thread nD τ) arg21 fullShare $$ H7
  unfold run_first.sl.v22 run_first.sl.H6_1
  rw [View.read_writes_cons_put _ _ _ _ _ rfl, View.writes_nil, harg21.read_unread, View.readCov_full]
  repeat rw [readAt_held]

end Cert.Stack

end
-- ==== Proof.RunStart.lean ====
/- The first point of the grid. -/
module

public import proofs.«01_k».proof.Proof.RunBase

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg2 : Memref sig .tc .vmem S1024x512 .f32) (harg2 : arg2.IsWhole)
variable (arg3 : Memref sig .tc .vmem S1024x512 .f32) (harg3 : arg3.IsWhole)
variable (arg4 : Memref sig .tc .vmem S1x1024 .f32) (harg4 : arg4.IsWhole)
variable (arg5 : Memref sig .tc .vmem S1024x1024 .f32) (harg5 : arg5.IsWhole)
variable (arg6 : Memref sig .tc .vmem S1024x1024 .f32) (harg6 : arg6.IsWhole)
variable (arg7 : Memref sig .tc .vmem S1x1024 .f32) (harg7 : arg7.IsWhole)
variable (arg8 : Memref sig .tc .vmem S1x1024 .f32) (harg8 : arg8.IsWhole)
variable (arg9 : Memref sig .tc .vmem S1x1024x1024 .f32) (harg9 : arg9.IsWhole)
variable (arg10 : Memref sig .tc .vmem S1x1x1024 .f32) (harg10 : arg10.IsWhole)
variable (arg11 : Memref sig .tc .vmem S1x256x4096 .f32) (harg11 : arg11.IsWhole)
variable (arg12 : Memref sig .tc .vmem S1x1x1024 .f32) (harg12 : arg12.IsWhole)
variable (arg13 : Memref sig .tc .vmem S1x1x1024 .f32) (harg13 : arg13.IsWhole)
variable (arg14 : Memref sig .tc .vmem S1x1x1024 .f32) (harg14 : arg14.IsWhole)
variable (arg15 : Memref sig .tc .vmem S1x1x1024 .f32) (harg15 : arg15.IsWhole)
variable (arg16 : Memref sig .tc .vmem S1x1x1024 .f32) (harg16 : arg16.IsWhole)
variable (arg17 : Memref sig .tc .vmem S1x1024 .f32) (harg17 : arg17.IsWhole)
variable (arg18 : Memref sig .tc .vmem S1x1024 .f32) (harg18 : arg18.IsWhole)
variable (arg19 : Memref sig .tc .vmem S1024x1024 .f32) (harg19 : arg19.IsWhole)
variable (arg20 : Memref sig .tc .vmem S1024x1024 .f32) (harg20 : arg20.IsWhole)
variable (arg21 : Memref sig .tc .vmem S1024x4096 .bf16) (harg21 : arg21.IsWhole)
variable (arg22 : Memref sig .tc .vmem S1024x1024 .f32) (harg22 : arg22.IsWhole)
variable (arg23 : Memref sig .tc .vmem S1x1024 .f32) (harg23 : arg23.IsWhole)

set_option maxHeartbeats 1000000 in
/-- The first point of all: the folded projection, its shift and the first hidden rows are made, then the attention step and the first block of the wide layer. -/
theorem run_start (hc1 : atStart i = 1#1) (hc2 : atFirst i = 1#1) (hc3 : k0_cond3 i = 1#1) (hc4 : ¬ k0_cond4 i = 1#1) (hc5 : ¬ atLast i = 1#1) (hc6 : ¬ k0_cond6 i = 1#1)
    (x : Vec F S1024x512 .f32) (wi : Vec F S1024x512 .f32) (bi : Vec F S1x1024 .f32) (wv : Vec F S1024x1024 .f32) (wo : Vec F S1024x1024 .f32) (bv : Vec F S1x1024 .f32) (bo : Vec F S1x1024 .f32) (g1 : Vec F S1x1x1024 .f32) (be1 : Vec F S1x1x1024 .f32) (w1 : Vec F S1x1024x1024 .f32) (b1 : Vec F S1x1x1024 .f32) (wvo : Vec F S1024x1024 .f32) (bvo : Vec F S1x1024 .f32) (h : Vec F S1024x1024 .f32) (g : Vec F S1024x4096 .bf16) (E : Set ℕ) (K : PUnit → sProp 𝕄) :
    iprop(owns (c : Thread nD τ) arg2 fullShare x ∗ owns (c : Thread nD τ) arg3 fullShare wi ∗ owns (c : Thread nD τ) arg4 fullShare bi ∗ owns (c : Thread nD τ) arg5 fullShare wv ∗ owns (c : Thread nD τ) arg6 fullShare wo ∗ owns (c : Thread nD τ) arg7 fullShare bv ∗ owns (c : Thread nD τ) arg8 fullShare bo ∗ owns (c : Thread nD τ) arg13 fullShare g1 ∗ owns (c : Thread nD τ) arg14 fullShare be1 ∗ owns (c : Thread nD τ) arg9 fullShare w1 ∗ owns (c : Thread nD τ) arg10 fullShare b1 ∗ owns (c : Thread nD τ) arg22 fullShare wvo ∗ owns (c : Thread nD τ) arg23 fullShare bvo ∗ owns (c : Thread nD τ) arg20 fullShare h ∗ owns (c : Thread nD τ) arg21 fullShare g
        ∗ (iprop(owns (c : Thread nD τ) arg2 fullShare x ∗ owns (c : Thread nD τ) arg3 fullShare wi ∗ owns (c : Thread nD τ) arg4 fullShare bi ∗ owns (c : Thread nD τ) arg5 fullShare wv ∗ owns (c : Thread nD τ) arg6 fullShare wo ∗ owns (c : Thread nD τ) arg7 fullShare bv ∗ owns (c : Thread nD τ) arg8 fullShare bo ∗ owns (c : Thread nD τ) arg13 fullShare g1 ∗ owns (c : Thread nD τ) arg14 fullShare be1 ∗ owns (c : Thread nD τ) arg9 fullShare w1 ∗ owns (c : Thread nD τ) arg10 fullShare b1 ∗ owns (c : Thread nD τ) arg22 fullShare (k0_pay1 wv wo) ∗ owns (c : Thread nD τ) arg23 fullShare (k0_pay2 bv wo bo) ∗ owns (c : Thread nD τ) arg20 fullShare (k0_pay8 (k0_pay3 x wi bi) (k0_pay1 wv wo) (k0_pay2 bv wo bo) g1 be1) ∗ owns (c : Thread nD τ) arg21 fullShare (VecWindow.put g (k0_off1 i) S1024x1024.size (k0_pay4 (k0_pay8 (k0_pay3 x wi bi) (k0_pay1 wv wo) (k0_pay2 bv wo bo) g1 be1) w1 b1))) -∗ K ⟨⟩))
      ⊢ wp frame (wpE (defs₀ (F := F)) Variants.none c none) E
        (cc0__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  rw [cc0__main_body_eq_skeleton]; unfold cc0__main_body_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hf7; obtain rfl := harg14.eq_unread hf8; obtain rfl := harg9.eq_unread hf9; obtain rfl := harg10.eq_unread hf10; obtain rfl := harg22.eq_unread hf11; obtain rfl := harg23.eq_unread hf12; obtain rfl := harg20.eq_unread hf13; obtain rfl := harg21.eq_unread hf14
  sl_exec (disch := first | sl_exact hc1 | sl_exact hc2 | sl_exact hc3 | sl_exact hc4 | sl_exact hc5 | sl_exact hc6)
  sl_step
  iapply Hk
  isplitl [H0]
  · iapply owns_held (c : Thread nD τ) harg2 fullShare $$ H0
  isplitl [H1]
  · iapply owns_held (c : Thread nD τ) harg3 fullShare $$ H1
  isplitl [H2]
  · iapply owns_held (c : Thread nD τ) harg4 fullShare $$ H2
  isplitl [H3]
  · iapply owns_held (c : Thread nD τ) harg5 fullShare $$ H3
  isplitl [H4]
  · iapply owns_held (c : Thread nD τ) harg6 fullShare $$ H4
  isplitl [H5]
  · iapply owns_held (c : Thread nD τ) harg7 fullShare $$ H5
  isplitl [H6]
  · iapply owns_held (c : Thread nD τ) harg8 fullShare $$ H6
  isplitl [H7]
  · iapply owns_held (c : Thread nD τ) harg13 fullShare $$ H7
  isplitl [H8]
  · iapply owns_held (c : Thread nD τ) harg14 fullShare $$ H8
  isplitl [H9]
  · iapply owns_held (c : Thread nD τ) harg9 fullShare $$ H9
  isplitl [H10]
  · iapply owns_held (c : Thread nD τ) harg10 fullShare $$ H10
  isplitl [H11]
  · iapply owns_of_read (c : Thread nD τ) arg22 fullShare $$ H11
    first | unfold run_start.sl.H11_1 | skip
    rw [View.read_writes_full]
    repeat rw [readAt_held]
  isplitl [H12]
  · iapply owns_of_read (c : Thread nD τ) arg23 fullShare $$ H12
    first | unfold run_start.sl.H12_1 | skip
    rw [View.read_writes_full]
    repeat rw [readAt_held]
  isplitl [H13]
  · iapply owns_of_read (c : Thread nD τ) arg20 fullShare $$ H13
    unfold run_start.sl.H13_2
    rw [View.read_writes_full]
    unfold run_start.sl.v22 run_start.sl.v23 run_start.sl.v26 run_start.sl.H13_1 run_start.sl.H11_1 run_start.sl.H12_1
    rw [View.readCov_full, View.readCov_full, View.readCov_full]
    repeat rw [readAt_held]
  iapply owns_of_read (c : Thread nD τ) arg21 fullShare $$ H14
  unfold run_start.sl.v22_1 run_start.sl.H13_2
  rw [View.read_writes_cons_put _ _ _ _ _ rfl, View.writes_nil, harg21.read_unread, View.readCov_full]
  unfold run_start.sl.v22 run_start.sl.v23 run_start.sl.v26 run_start.sl.H13_1 run_start.sl.H11_1 run_start.sl.H12_1
  rw [View.readCov_full, View.readCov_full, View.readCov_full]
  repeat rw [readAt_held]

end Cert.Stack

end
-- ==== Proof.RunMix.lean ====
/- The points that only mix one block of columns back. -/
module

public import proofs.«01_k».proof.Proof.RunBase

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg2 : Memref sig .tc .vmem S1024x512 .f32) (harg2 : arg2.IsWhole)
variable (arg3 : Memref sig .tc .vmem S1024x512 .f32) (harg3 : arg3.IsWhole)
variable (arg4 : Memref sig .tc .vmem S1x1024 .f32) (harg4 : arg4.IsWhole)
variable (arg5 : Memref sig .tc .vmem S1024x1024 .f32) (harg5 : arg5.IsWhole)
variable (arg6 : Memref sig .tc .vmem S1024x1024 .f32) (harg6 : arg6.IsWhole)
variable (arg7 : Memref sig .tc .vmem S1x1024 .f32) (harg7 : arg7.IsWhole)
variable (arg8 : Memref sig .tc .vmem S1x1024 .f32) (harg8 : arg8.IsWhole)
variable (arg9 : Memref sig .tc .vmem S1x1024x1024 .f32) (harg9 : arg9.IsWhole)
variable (arg10 : Memref sig .tc .vmem S1x1x1024 .f32) (harg10 : arg10.IsWhole)
variable (arg11 : Memref sig .tc .vmem S1x256x4096 .f32) (harg11 : arg11.IsWhole)
variable (arg12 : Memref sig .tc .vmem S1x1x1024 .f32) (harg12 : arg12.IsWhole)
variable (arg13 : Memref sig .tc .vmem S1x1x1024 .f32) (harg13 : arg13.IsWhole)
variable (arg14 : Memref sig .tc .vmem S1x1x1024 .f32) (harg14 : arg14.IsWhole)
variable (arg15 : Memref sig .tc .vmem S1x1x1024 .f32) (harg15 : arg15.IsWhole)
variable (arg16 : Memref sig .tc .vmem S1x1x1024 .f32) (harg16 : arg16.IsWhole)
variable (arg17 : Memref sig .tc .vmem S1x1024 .f32) (harg17 : arg17.IsWhole)
variable (arg18 : Memref sig .tc .vmem S1x1024 .f32) (harg18 : arg18.IsWhole)
variable (arg19 : Memref sig .tc .vmem S1024x1024 .f32) (harg19 : arg19.IsWhole)
variable (arg20 : Memref sig .tc .vmem S1024x1024 .f32) (harg20 : arg20.IsWhole)
variable (arg21 : Memref sig .tc .vmem S1024x4096 .bf16) (harg21 : arg21.IsWhole)
variable (arg22 : Memref sig .tc .vmem S1024x1024 .f32) (harg22 : arg22.IsWhole)
variable (arg23 : Memref sig .tc .vmem S1x1024 .f32) (harg23 : arg23.IsWhole)

set_option maxHeartbeats 1000000 in
/-- A column that mixes back: one block of columns of the hidden rows gets its share of the wide layer. -/
theorem run_mix (hc1 : ¬ atStart i = 1#1) (hc2 : ¬ atFirst i = 1#1) (hc3 : ¬ k0_cond3 i = 1#1) (hc4 : k0_cond4 i = 1#1) (hc5 : ¬ atLast i = 1#1) (hc6 : ¬ k0_cond6 i = 1#1)
    (w2 : Vec F S1x256x4096 .f32) (b2 : Vec F S1x1x1024 .f32) (g : Vec F S1024x4096 .bf16) (h : Vec F S1024x1024 .f32) (E : Set ℕ) (K : PUnit → sProp 𝕄) :
    iprop(owns (c : Thread nD τ) arg11 fullShare w2 ∗ owns (c : Thread nD τ) arg12 fullShare b2 ∗ owns (c : Thread nD τ) arg21 fullShare g ∗ owns (c : Thread nD τ) arg20 fullShare h
        ∗ (iprop(owns (c : Thread nD τ) arg11 fullShare w2 ∗ owns (c : Thread nD τ) arg12 fullShare b2 ∗ owns (c : Thread nD τ) arg21 fullShare g ∗ owns (c : Thread nD τ) arg20 fullShare (VecWindow.put h (k0_off2 i) S1024x256.size (k0_pay5 g w2 (VecWindow.window h (k0_off2 i) S1024x256.size (k0_off2_inb i hc4)) (VecWindow.window b2 (k0_off3 i) S1x1x256.size (k0_off3_inb i hc4))))) -∗ K ⟨⟩))
      ⊢ wp frame (wpE (defs₀ (F := F)) Variants.none c none) E
        (cc0__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  rw [cc0__main_body_eq_skeleton]; unfold cc0__main_body_skel
  unfold owns
  iintro ⟨⟨%f0, %hf0, H0⟩, ⟨%f1, %hf1, H1⟩, ⟨%f2, %hf2, H2⟩, ⟨%f3, %hf3, H3⟩, Hk⟩
  obtain rfl := harg11.eq_unread hf0; obtain rfl := harg12.eq_unread hf1; obtain rfl := harg21.eq_unread hf2; obtain rfl := harg20.eq_unread hf3
  sl_exec (disch := first | sl_exact hc1 | sl_exact hc2 | sl_exact hc3 | sl_exact hc4 | sl_exact hc5 | sl_exact hc6)
  sl_step
  iapply Hk
  isplitl [H0]
  · iapply owns_held (c : Thread nD τ) harg11 fullShare $$ H0
  isplitl [H1]
  · iapply owns_held (c : Thread nD τ) harg12 fullShare $$ H1
  isplitl [H2]
  · iapply owns_held (c : Thread nD τ) harg21 fullShare $$ H2
  iapply owns_of_read (c : Thread nD τ) arg20 fullShare $$ H3
  rw [View.read_writes_cons_put _ _ _ _ _ rfl, View.writes_nil, harg20.read_unread]
  repeat rw [readAt_held]
  repeat rw [readAt_held_window]

end Cert.Stack

end
-- ==== Proof.RunLast.lean ====
/- The last point of a layer that is not the last. -/
module

public import proofs.«01_k».proof.Proof.RunBase

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg2 : Memref sig .tc .vmem S1024x512 .f32) (harg2 : arg2.IsWhole)
variable (arg3 : Memref sig .tc .vmem S1024x512 .f32) (harg3 : arg3.IsWhole)
variable (arg4 : Memref sig .tc .vmem S1x1024 .f32) (harg4 : arg4.IsWhole)
variable (arg5 : Memref sig .tc .vmem S1024x1024 .f32) (harg5 : arg5.IsWhole)
variable (arg6 : Memref sig .tc .vmem S1024x1024 .f32) (harg6 : arg6.IsWhole)
variable (arg7 : Memref sig .tc .vmem S1x1024 .f32) (harg7 : arg7.IsWhole)
variable (arg8 : Memref sig .tc .vmem S1x1024 .f32) (harg8 : arg8.IsWhole)
variable (arg9 : Memref sig .tc .vmem S1x1024x1024 .f32) (harg9 : arg9.IsWhole)
variable (arg10 : Memref sig .tc .vmem S1x1x1024 .f32) (harg10 : arg10.IsWhole)
variable (arg11 : Memref sig .tc .vmem S1x256x4096 .f32) (harg11 : arg11.IsWhole)
variable (arg12 : Memref sig .tc .vmem S1x1x1024 .f32) (harg12 : arg12.IsWhole)
variable (arg13 : Memref sig .tc .vmem S1x1x1024 .f32) (harg13 : arg13.IsWhole)
variable (arg14 : Memref sig .tc .vmem S1x1x1024 .f32) (harg14 : arg14.IsWhole)
variable (arg15 : Memref sig .tc .vmem S1x1x1024 .f32) (harg15 : arg15.IsWhole)
variable (arg16 : Memref sig .tc .vmem S1x1x1024 .f32) (harg16 : arg16.IsWhole)
variable (arg17 : Memref sig .tc .vmem S1x1024 .f32) (harg17 : arg17.IsWhole)
variable (arg18 : Memref sig .tc .vmem S1x1024 .f32) (harg18 : arg18.IsWhole)
variable (arg19 : Memref sig .tc .vmem S1024x1024 .f32) (harg19 : arg19.IsWhole)
variable (arg20 : Memref sig .tc .vmem S1024x1024 .f32) (harg20 : arg20.IsWhole)
variable (arg21 : Memref sig .tc .vmem S1024x4096 .bf16) (harg21 : arg21.IsWhole)
variable (arg22 : Memref sig .tc .vmem S1024x1024 .f32) (harg22 : arg22.IsWhole)
variable (arg23 : Memref sig .tc .vmem S1x1024 .f32) (harg23 : arg23.IsWhole)

set_option maxHeartbeats 1000000 in
/-- The last column of a layer that is not the last: the last block of columns, then the closing normalisation of the layer. -/
theorem run_last (hc1 : ¬ atStart i = 1#1) (hc2 : ¬ atFirst i = 1#1) (hc3 : ¬ k0_cond3 i = 1#1) (hc4 : k0_cond4 i = 1#1) (hc5 : atLast i = 1#1) (hc6 : ¬ k0_cond6 i = 1#1) (ho : k0_off2 i = ![0, 768])
    (w2 : Vec F S1x256x4096 .f32) (b2 : Vec F S1x1x1024 .f32) (g : Vec F S1024x4096 .bf16) (g2 : Vec F S1x1x1024 .f32) (be2 : Vec F S1x1x1024 .f32) (h : Vec F S1024x1024 .f32) (E : Set ℕ) (K : PUnit → sProp 𝕄) :
    iprop(owns (c : Thread nD τ) arg11 fullShare w2 ∗ owns (c : Thread nD τ) arg12 fullShare b2 ∗ owns (c : Thread nD τ) arg21 fullShare g ∗ owns (c : Thread nD τ) arg15 fullShare g2 ∗ owns (c : Thread nD τ) arg16 fullShare be2 ∗ owns (c : Thread nD τ) arg20 fullShare h
        ∗ (iprop(owns (c : Thread nD τ) arg11 fullShare w2 ∗ owns (c : Thread nD τ) arg12 fullShare b2 ∗ owns (c : Thread nD τ) arg21 fullShare g ∗ owns (c : Thread nD τ) arg15 fullShare g2 ∗ owns (c : Thread nD τ) arg16 fullShare be2 ∗ owns (c : Thread nD τ) arg20 fullShare (k0_pay6 (VecWindow.put h (k0_off2 i) S1024x256.size (k0_pay5 g w2 (VecWindow.window h (k0_off2 i) S1024x256.size (k0_off2_inb i hc4)) (VecWindow.window b2 (k0_off3 i) S1x1x256.size (k0_off3_inb i hc4)))) g2 be2)) -∗ K ⟨⟩))
      ⊢ wp frame (wpE (defs₀ (F := F)) Variants.none c none) E
        (cc0__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  letI : ClosedOff (k0_off2 i) := ⟨![0, 768], ho⟩
  rw [cc0__main_body_eq_skeleton]; unfold cc0__main_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg11.eq_unread hf0; obtain rfl := harg12.eq_unread hf1; obtain rfl := harg21.eq_unread hf2; obtain rfl := harg15.eq_unread hf3; obtain rfl := harg16.eq_unread hf4; obtain rfl := harg20.eq_unread hf5
  sl_exec (disch := first | sl_exact hc1 | sl_exact hc2 | sl_exact hc3 | sl_exact hc4 | sl_exact hc5 | sl_exact hc6)
  sl_step
  iapply Hk
  isplitl [H0]
  · iapply owns_held (c : Thread nD τ) harg11 fullShare $$ H0
  isplitl [H1]
  · iapply owns_held (c : Thread nD τ) harg12 fullShare $$ H1
  isplitl [H2]
  · iapply owns_held (c : Thread nD τ) harg21 fullShare $$ H2
  isplitl [H3]
  · iapply owns_held (c : Thread nD τ) harg15 fullShare $$ H3
  isplitl [H4]
  · iapply owns_held (c : Thread nD τ) harg16 fullShare $$ H4
  iapply owns_of_read (c : Thread nD τ) arg20 fullShare $$ H5
  rw [View.read_writes_full]
  unfold run_last.sl.v22 run_last.sl.H5_1
  rw [View.readAt_full, View.read_writes_cons_put _ _ _ _ _ rfl, View.writes_nil, harg20.read_unread]
  repeat rw [readAt_held]
  repeat rw [readAt_held_window]

end Cert.Stack

end
-- ==== Proof.RunEnd.lean ====
/- The last point of the grid. -/
module

public import proofs.«01_k».proof.Proof.RunBase

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg2 : Memref sig .tc .vmem S1024x512 .f32) (harg2 : arg2.IsWhole)
variable (arg3 : Memref sig .tc .vmem S1024x512 .f32) (harg3 : arg3.IsWhole)
variable (arg4 : Memref sig .tc .vmem S1x1024 .f32) (harg4 : arg4.IsWhole)
variable (arg5 : Memref sig .tc .vmem S1024x1024 .f32) (harg5 : arg5.IsWhole)
variable (arg6 : Memref sig .tc .vmem S1024x1024 .f32) (harg6 : arg6.IsWhole)
variable (arg7 : Memref sig .tc .vmem S1x1024 .f32) (harg7 : arg7.IsWhole)
variable (arg8 : Memref sig .tc .vmem S1x1024 .f32) (harg8 : arg8.IsWhole)
variable (arg9 : Memref sig .tc .vmem S1x1024x1024 .f32) (harg9 : arg9.IsWhole)
variable (arg10 : Memref sig .tc .vmem S1x1x1024 .f32) (harg10 : arg10.IsWhole)
variable (arg11 : Memref sig .tc .vmem S1x256x4096 .f32) (harg11 : arg11.IsWhole)
variable (arg12 : Memref sig .tc .vmem S1x1x1024 .f32) (harg12 : arg12.IsWhole)
variable (arg13 : Memref sig .tc .vmem S1x1x1024 .f32) (harg13 : arg13.IsWhole)
variable (arg14 : Memref sig .tc .vmem S1x1x1024 .f32) (harg14 : arg14.IsWhole)
variable (arg15 : Memref sig .tc .vmem S1x1x1024 .f32) (harg15 : arg15.IsWhole)
variable (arg16 : Memref sig .tc .vmem S1x1x1024 .f32) (harg16 : arg16.IsWhole)
variable (arg17 : Memref sig .tc .vmem S1x1024 .f32) (harg17 : arg17.IsWhole)
variable (arg18 : Memref sig .tc .vmem S1x1024 .f32) (harg18 : arg18.IsWhole)
variable (arg19 : Memref sig .tc .vmem S1024x1024 .f32) (harg19 : arg19.IsWhole)
variable (arg20 : Memref sig .tc .vmem S1024x1024 .f32) (harg20 : arg20.IsWhole)
variable (arg21 : Memref sig .tc .vmem S1024x4096 .bf16) (harg21 : arg21.IsWhole)
variable (arg22 : Memref sig .tc .vmem S1024x1024 .f32) (harg22 : arg22.IsWhole)
variable (arg23 : Memref sig .tc .vmem S1x1024 .f32) (harg23 : arg23.IsWhole)

set_option maxHeartbeats 1000000 in
/-- The last point: the same, then the final normalisation goes to the output block. -/
theorem run_end (hc1 : ¬ atStart i = 1#1) (hc2 : ¬ atFirst i = 1#1) (hc3 : ¬ k0_cond3 i = 1#1) (hc4 : k0_cond4 i = 1#1) (hc5 : atLast i = 1#1) (hc6 : k0_cond6 i = 1#1) (ho : k0_off2 i = ![0, 768])
    (w2 : Vec F S1x256x4096 .f32) (b2 : Vec F S1x1x1024 .f32) (g : Vec F S1024x4096 .bf16) (g2 : Vec F S1x1x1024 .f32) (be2 : Vec F S1x1x1024 .f32) (gf : Vec F S1x1024 .f32) (bf : Vec F S1x1024 .f32) (h : Vec F S1024x1024 .f32) (o : Vec F S1024x1024 .f32) (E : Set ℕ) (K : PUnit → sProp 𝕄) :
    iprop(owns (c : Thread nD τ) arg11 fullShare w2 ∗ owns (c : Thread nD τ) arg12 fullShare b2 ∗ owns (c : Thread nD τ) arg21 fullShare g ∗ owns (c : Thread nD τ) arg15 fullShare g2 ∗ owns (c : Thread nD τ) arg16 fullShare be2 ∗ owns (c : Thread nD τ) arg17 fullShare gf ∗ owns (c : Thread nD τ) arg18 fullShare bf ∗ owns (c : Thread nD τ) arg20 fullShare h ∗ owns (c : Thread nD τ) arg19 fullShare o
        ∗ (iprop(owns (c : Thread nD τ) arg11 fullShare w2 ∗ owns (c : Thread nD τ) arg12 fullShare b2 ∗ owns (c : Thread nD τ) arg21 fullShare g ∗ owns (c : Thread nD τ) arg15 fullShare g2 ∗ owns (c : Thread nD τ) arg16 fullShare be2 ∗ owns (c : Thread nD τ) arg17 fullShare gf ∗ owns (c : Thread nD τ) arg18 fullShare bf ∗ owns (c : Thread nD τ) arg20 fullShare (k0_pay6 (VecWindow.put h (k0_off2 i) S1024x256.size (k0_pay5 g w2 (VecWindow.window h (k0_off2 i) S1024x256.size (k0_off2_inb i hc4)) (VecWindow.window b2 (k0_off3 i) S1x1x256.size (k0_off3_inb i hc4)))) g2 be2) ∗ owns (c : Thread nD τ) arg19 fullShare (k0_pay7 (k0_pay6 (VecWindow.put h (k0_off2 i) S1024x256.size (k0_pay5 g w2 (VecWindow.window h (k0_off2 i) S1024x256.size (k0_off2_inb i hc4)) (VecWindow.window b2 (k0_off3 i) S1x1x256.size (k0_off3_inb i hc4)))) g2 be2) gf bf)) -∗ K ⟨⟩))
      ⊢ wp frame (wpE (defs₀ (F := F)) Variants.none c none) E
        (cc0__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  letI : ClosedOff (k0_off2 i) := ⟨![0, 768], ho⟩
  rw [cc0__main_body_eq_skeleton]; unfold cc0__main_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg11.eq_unread hf0; obtain rfl := harg12.eq_unread hf1; obtain rfl := harg21.eq_unread hf2; obtain rfl := harg15.eq_unread hf3; obtain rfl := harg16.eq_unread hf4; obtain rfl := harg17.eq_unread hf5; obtain rfl := harg18.eq_unread hf6; obtain rfl := harg20.eq_unread hf7; obtain rfl := harg19.eq_unread hf8
  sl_exec (disch := first | sl_exact hc1 | sl_exact hc2 | sl_exact hc3 | sl_exact hc4 | sl_exact hc5 | sl_exact hc6)
  sl_step
  iapply Hk
  isplitl [H0]
  · iapply owns_held (c : Thread nD τ) harg11 fullShare $$ H0
  isplitl [H1]
  · iapply owns_held (c : Thread nD τ) harg12 fullShare $$ H1
  isplitl [H2]
  · iapply owns_held (c : Thread nD τ) harg21 fullShare $$ H2
  isplitl [H3]
  · iapply owns_held (c : Thread nD τ) harg15 fullShare $$ H3
  isplitl [H4]
  · iapply owns_held (c : Thread nD τ) harg16 fullShare $$ H4
  isplitl [H5]
  · iapply owns_held (c : Thread nD τ) harg17 fullShare $$ H5
  isplitl [H6]
  · iapply owns_held (c : Thread nD τ) harg18 fullShare $$ H6
  isplitl [H7]
  · iapply owns_of_read (c : Thread nD τ) arg20 fullShare $$ H7
    unfold run_end.sl.H7_2
    rw [View.read_writes_full]
    unfold run_end.sl.v22 run_end.sl.H7_1
    rw [View.readAt_full, View.read_writes_cons_put _ _ _ _ _ rfl, View.writes_nil, harg20.read_unread]
    repeat rw [readAt_held]
    repeat rw [readAt_held_window]
  iapply owns_of_read (c : Thread nD τ) arg19 fullShare $$ H8
  rw [View.read_writes_full]
  unfold run_end.sl.v22_1 run_end.sl.H7_2
  rw [View.readCov_full]
  unfold run_end.sl.v22 run_end.sl.H7_1
  rw [View.readAt_full, View.read_writes_cons_put _ _ _ _ _ rfl, View.writes_nil, harg20.read_unread]
  repeat rw [readAt_held]
  repeat rw [readAt_held_window]

end Cert.Stack

end
-- ==== Proof.Body0.lean ====
/- The stack's body at each kind of point. -/
module

public import proofs.«01_k».proof.Proof.Held0
public import proofs.«01_k».proof.Proof.RunFeed
public import proofs.«01_k».proof.Proof.RunFirst
public import proofs.«01_k».proof.Proof.RunStart
public import proofs.«01_k».proof.Proof.RunMix
public import proofs.«01_k».proof.Proof.RunLast
public import proofs.«01_k».proof.Proof.RunEnd

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)
variable {h : Vec F S1024x1024 .f32} {g : Vec F S1024x4096 .bf16} {w : Vec F S1024x1024 .f32} {b : Vec F S1x1024 .f32}

/-- The scratch at some contents the invariant allows after `n` points. -/
def held (n : ℕ) : sProp 𝕄 := iprop(∃ h g w b, ⌜Held V c n h g w b⌝ ∗ scr c h g w b)

set_option maxHeartbeats 1000000 in
/-- A column feeding the wide layer, not the first. -/
theorem body_feed (H : Held V c t.val h g w b) (h0 : t.val % 8 ≠ 0) (h4 : t.val % 8 < 4) (K : PUnit → sProp 𝕄) :
    iprop(ins V c t ∗ scr c h g w b ∗ (iprop(ins V c t ∗ held V c (t.val + 1)) -∗ K ⟨⟩))
      ⊢ wp frame (wpE (defs₀ (F := F)) Variants.none c none) Set.univ (bodyAt0 t) K := by
  unfold ins scr bodyAt0
  iintro ⟨⟨I0, I1, I2, I3, I4, I5, I6, I7, I8, I9, I10, I11, I12, I13, I14, I15, I16⟩, ⟨S0, S1, S2, S3⟩, Hk⟩
  iapply (run_feed c (grid0.coords t) _ _ _ _ _ _ _ _ _ _ _ _ _ _ _ _ _ _ _ _ _ _ _ _ _ _ _ _ _ _ _ _ _ _ _ _ _ _ _ _ _ _ _ _ (fun e => absurd ((atStart_iff t).1 e) (by omega)) (fun e => absurd ((atFirst_iff t).1 e) (by omega)) ((feeds_iff t).2 (by omega)) (fun e => absurd ((mixes_iff t).1 e) (by omega)) (fun e => absurd ((atLast_iff t).1 e) (by omega)) (fun e => absurd ((atEnd_iff t).1 e) (by omega))  (iblk V c 7 t) (iblk V c 8 t) h g Set.univ K)
  iframe I7 I8 S0 S1
  iintro ⟨I7, I8, S0, S1⟩
  iapply Hk
  unfold held scr
  isplitl [I0 I1 I2 I3 I4 I5 I6 I7 I8 I9 I10 I11 I12 I13 I14 I15 I16]
  · iframe

  iexists _, _, _, _
  isplitr
  · ipureintro; exact held_feed V c t H h0 h4
  iframe

set_option maxHeartbeats 1000000 in
/-- The first column of a later layer. -/
theorem body_first (H : Held V c t.val h g w b) (hs : t.val ≠ 0) (h0 : t.val % 8 = 0) (K : PUnit → sProp 𝕄) :
    iprop(ins V c t ∗ scr c h g w b ∗ (iprop(ins V c t ∗ held V c (t.val + 1)) -∗ K ⟨⟩))
      ⊢ wp frame (wpE (defs₀ (F := F)) Variants.none c none) Set.univ (bodyAt0 t) K := by
  unfold ins scr bodyAt0
  iintro ⟨⟨I0, I1, I2, I3, I4, I5, I6, I7, I8, I9, I10, I11, I12, I13, I14, I15, I16⟩, ⟨S0, S1, S2, S3⟩, Hk⟩
  iapply (run_first c (grid0.coords t) _ _ _ _ _ _ _ _ _ _ _ _ _ _ _ _ _ _ _ _ _ _ _ _ _ _ _ _ _ _ _ _ _ _ _ _ _ _ _ _ _ _ _ _ (fun e => absurd ((atStart_iff t).1 e) (by omega)) ((atFirst_iff t).2 (by omega)) ((feeds_iff t).2 (by omega)) (fun e => absurd ((mixes_iff t).1 e) (by omega)) (fun e => absurd ((atLast_iff t).1 e) (by omega)) (fun e => absurd ((atEnd_iff t).1 e) (by omega))  w b (iblk V c 11 t) (iblk V c 12 t) (iblk V c 7 t) (iblk V c 8 t) h g Set.univ K)
  iframe S2 S3 I11 I12 I7 I8 S0 S1
  iintro ⟨S2, S3, I11, I12, I7, I8, S0, S1⟩
  iapply Hk
  unfold held scr
  isplitl [I0 I1 I2 I3 I4 I5 I6 I7 I8 I9 I10 I11 I12 I13 I14 I15 I16]
  · iframe

  iexists _, _, _, _
  isplitr
  · ipureintro; exact held_first V c t H hs h0
  iframe

set_option maxHeartbeats 1000000 in
/-- The first point. -/
theorem body_start (H : Held V c t.val h g w b) (hs : t.val = 0) (K : PUnit → sProp 𝕄) :
    iprop(ins V c t ∗ scr c h g w b ∗ (iprop(ins V c t ∗ held V c (t.val + 1)) -∗ K ⟨⟩))
      ⊢ wp frame (wpE (defs₀ (F := F)) Variants.none c none) Set.univ (bodyAt0 t) K := by
  unfold ins scr bodyAt0
  iintro ⟨⟨I0, I1, I2, I3, I4, I5, I6, I7, I8, I9, I10, I11, I12, I13, I14, I15, I16⟩, ⟨S0, S1, S2, S3⟩, Hk⟩
  iapply (run_start c (grid0.coords t) _ _ _ _ _ _ _ _ _ _ _ _ _ _ _ _ _ _ _ _ _ _ _ _ _ _ _ _ _ _ _ _ _ _ _ _ _ _ _ _ _ _ _ _ ((atStart_iff t).2 (by omega)) ((atFirst_iff t).2 (by omega)) ((feeds_iff t).2 (by omega)) (fun e => absurd ((mixes_iff t).1 e) (by omega)) (fun e => absurd ((atLast_iff t).1 e) (by omega)) (fun e => absurd ((atEnd_iff t).1 e) (by omega))  (iblk V c 0 t) (iblk V c 1 t) (iblk V c 2 t) (iblk V c 3 t) (iblk V c 4 t) (iblk V c 5 t) (iblk V c 6 t) (iblk V c 11 t) (iblk V c 12 t) (iblk V c 7 t) (iblk V c 8 t) w b h g Set.univ K)
  iframe I0 I1 I2 I3 I4 I5 I6 I11 I12 I7 I8 S2 S3 S0 S1
  iintro ⟨I0, I1, I2, I3, I4, I5, I6, I11, I12, I7, I8, S2, S3, S0, S1⟩
  iapply Hk
  unfold held scr
  isplitl [I0 I1 I2 I3 I4 I5 I6 I7 I8 I9 I10 I11 I12 I13 I14 I15 I16]
  · iframe

  iexists _, _, _, _
  isplitr
  · ipureintro; exact held_start (g := g) V c t hs
  iframe

set_option maxHeartbeats 1000000 in
/-- A mixing column, not the last. -/
theorem body_mix (H : Held V c t.val h g w b) (h4 : 4 ≤ t.val % 8) (h7 : t.val % 8 ≠ 7) (K : PUnit → sProp 𝕄) :
    iprop(ins V c t ∗ scr c h g w b ∗ (iprop(ins V c t ∗ held V c (t.val + 1)) -∗ K ⟨⟩))
      ⊢ wp frame (wpE (defs₀ (F := F)) Variants.none c none) Set.univ (bodyAt0 t) K := by
  unfold ins scr bodyAt0
  iintro ⟨⟨I0, I1, I2, I3, I4, I5, I6, I7, I8, I9, I10, I11, I12, I13, I14, I15, I16⟩, ⟨S0, S1, S2, S3⟩, Hk⟩
  iapply (run_mix c (grid0.coords t) _ _ _ _ _ _ _ _ _ _ _ _ _ _ _ _ _ _ _ _ _ _ _ _ _ _ _ _ _ _ _ _ _ _ _ _ _ _ _ _ _ _ _ _ (fun e => absurd ((atStart_iff t).1 e) (by omega)) (fun e => absurd ((atFirst_iff t).1 e) (by omega)) (fun e => absurd ((feeds_iff t).1 e) (by omega)) ((mixes_iff t).2 (by omega)) (fun e => absurd ((atLast_iff t).1 e) (by omega)) (fun e => absurd ((atEnd_iff t).1 e) (by omega))  (iblk V c 9 t) (iblk V c 10 t) g h Set.univ K)
  iframe I9 I10 S1 S0
  iintro ⟨I9, I10, S1, S0⟩
  iapply Hk
  unfold held scr
  isplitl [I0 I1 I2 I3 I4 I5 I6 I7 I8 I9 I10 I11 I12 I13 I14 I15 I16]
  · iframe

  iexists _, _, _, _
  isplitr
  · ipureintro; exact held_mix V c t (w2_at V c t) (b2_at V c t) H h4 h7
  iframe

set_option maxHeartbeats 1000000 in
/-- The last column of a layer, not of the last one. -/
theorem body_last (H : Held V c t.val h g w b) (h4 : 4 ≤ t.val % 8) (h7 : t.val % 8 = 7) (h23 : t.val ≠ 23) (K : PUnit → sProp 𝕄) :
    iprop(ins V c t ∗ scr c h g w b ∗ (iprop(ins V c t ∗ held V c (t.val + 1)) -∗ K ⟨⟩))
      ⊢ wp frame (wpE (defs₀ (F := F)) Variants.none c none) Set.univ (bodyAt0 t) K := by
  unfold ins scr bodyAt0
  iintro ⟨⟨I0, I1, I2, I3, I4, I5, I6, I7, I8, I9, I10, I11, I12, I13, I14, I15, I16⟩, ⟨S0, S1, S2, S3⟩, Hk⟩
  iapply (run_last c (grid0.coords t) _ _ _ _ _ _ _ _ _ _ _ _ _ _ _ _ _ _ _ _ _ _ _ _ _ _ _ _ _ _ _ _ _ _ _ _ _ _ _ _ _ _ _ _ (fun e => absurd ((atStart_iff t).1 e) (by omega)) (fun e => absurd ((atFirst_iff t).1 e) (by omega)) (fun e => absurd ((feeds_iff t).1 e) (by omega)) ((mixes_iff t).2 (by omega)) ((atLast_iff t).2 (by omega)) (fun e => absurd ((atEnd_iff t).1 e) (by omega)) ((off2_at t h4).trans (by rw [h7])) (iblk V c 9 t) (iblk V c 10 t) g (iblk V c 13 t) (iblk V c 14 t) h Set.univ K)
  iframe I9 I10 S1 I13 I14 S0
  iintro ⟨I9, I10, S1, I13, I14, S0⟩
  iapply Hk
  unfold held scr
  isplitl [I0 I1 I2 I3 I4 I5 I6 I7 I8 I9 I10 I11 I12 I13 I14 I15 I16]
  · iframe

  iexists _, _, _, _
  isplitr
  · ipureintro; exact held_last V c t (w2_at V c t) (b2_at V c t) H h7 h4
  iframe

set_option maxHeartbeats 1000000 in
/-- The last point. -/
theorem body_end (H : Held V c t.val h g w b) (h4 : 4 ≤ t.val % 8) (h7 : t.val % 8 = 7) (h23 : t.val = 23) (o : Vec F S1024x1024 .f32) (K : PUnit → sProp 𝕄) :
    iprop(ins V c t ∗ scr c h g w b ∗ owns (c : Thread nD τ) (st0_17 t) fullShare o ∗ (iprop(ins V c t ∗ held V c (t.val + 1) ∗ owns (c : Thread nD τ) (st0_17 t) fullShare (out (blk V c))) -∗ K ⟨⟩))
      ⊢ wp frame (wpE (defs₀ (F := F)) Variants.none c none) Set.univ (bodyAt0 t) K := by
  unfold ins scr bodyAt0
  iintro ⟨⟨I0, I1, I2, I3, I4, I5, I6, I7, I8, I9, I10, I11, I12, I13, I14, I15, I16⟩, ⟨S0, S1, S2, S3⟩, O, Hk⟩
  iapply (run_end c (grid0.coords t) _ _ _ _ _ _ _ _ _ _ _ _ _ _ _ _ _ _ _ _ _ _ _ _ _ _ _ _ _ _ _ _ _ _ _ _ _ _ _ _ _ _ _ _ (fun e => absurd ((atStart_iff t).1 e) (by omega)) (fun e => absurd ((atFirst_iff t).1 e) (by omega)) (fun e => absurd ((feeds_iff t).1 e) (by omega)) ((mixes_iff t).2 (by omega)) ((atLast_iff t).2 (by omega)) ((atEnd_iff t).2 (by omega)) ((off2_at t h4).trans (by rw [h7])) (iblk V c 9 t) (iblk V c 10 t) g (iblk V c 13 t) (iblk V c 14 t) (iblk V c 15 t) (iblk V c 16 t) h o Set.univ K)
  iframe I9 I10 S1 I13 I14 I15 I16 S0 O
  iintro ⟨I9, I10, S1, I13, I14, I15, I16, S0, O⟩
  iapply Hk
  unfold held scr
  isplitl [I0 I1 I2 I3 I4 I5 I6 I7 I8 I9 I10 I11 I12 I13 I14 I15 I16]
  · iframe
  isplitl [S0 S1 S2 S3]
  · iexists _, _, _, _
    isplitr
    · ipureintro; exact held_last V c t (w2_at V c t) (b2_at V c t) H h7 h4
    iframe
  rw [← end_out V c t h23, ← last_hid V c t (w2_at V c t) (b2_at V c t) H (by omega) h4]
  iexact O

end Cert.Stack

end
-- ==== Proof.Obl0.lean ====
/- The stack's body at every point of its grid. -/
module

public import proofs.«01_k».proof.Proof.Body0

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

/-- What the body is called with at point `t`, window by window, -/
def bodyPre0 : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d)))

/-- and what it returns. -/
def bodyPost0 : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t
    ∗ (dat0 V c).leavesExact 17 t)

/-- A live window is left at what the body leaves. -/
theorem leaves_live (k : Fin cfg0.W) (h : cfg0.idle k (cfg0.grid.coords t) = false) :
    (dat0 V c).leavesExact k t = owns (c : Thread nD τ) ((cfg0.win k).stage (cfg0.slots t k)) fullShare ((dat0 V c).after k t) := by
  unfold Dat.leavesExact; rw [h]

/-- What the body returns, from the inputs' buffers as they were, the scratch as the next point finds it, and the output's. -/
theorem post_of : iprop(ins V c t ∗ (held V c (t.val + 1) ∗ others c) ∗ (dat0 V c).owesAt () t.castSucc ∗ (dat0 V c).leavesExact 17 t) ⊢ bodyPost0 V c t := by
  unfold ins bodyPost0
  rw [show (dat0 V c).owesAt () t.succ = (dat0 V c).owesAt () t.castSucc from rfl, show (dat0 V c).Φ t.succ = iprop(held V c (t.val + 1) ∗ others c) from rfl]
  rw [leaves_live V c t 0 rfl, after0_0, leaves_live V c t 1 rfl, after0_1, leaves_live V c t 2 rfl, after0_2, leaves_live V c t 3 rfl, after0_3, leaves_live V c t 4 rfl, after0_4, leaves_live V c t 5 rfl, after0_5, leaves_live V c t 6 rfl, after0_6, leaves_live V c t 7 rfl, after0_7, leaves_live V c t 8 rfl, after0_8, leaves_live V c t 9 rfl, after0_9, leaves_live V c t 10 rfl, after0_10, leaves_live V c t 11 rfl, after0_11, leaves_live V c t 12 rfl, after0_12, leaves_live V c t 13 rfl, after0_13, leaves_live V c t 14 rfl, after0_14, leaves_live V c t 15 rfl, after0_15, leaves_live V c t 16 rfl, after0_16]
  iintro ⟨⟨I0, I1, I2, I3, I4, I5, I6, I7, I8, I9, I10, I11, I12, I13, I14, I15, I16⟩, HΦ, Ho, H17⟩
  iframe

/-- What the body is called with, with the inputs' buffers at their blocks. -/
theorem of_pre : bodyPre0 V c t ⊢ iprop(ins V c t ∗ (held V c t.val ∗ others c) ∗ (dat0 V c).owesAt () t.castSucc ∗ (∃ d, owns (c : Thread nD τ) (st0_17 t) fullShare ((dat0 V c).before 17 t d))) := by
  unfold ins bodyPre0
  simp only [before0_0, before0_1, before0_2, before0_3, before0_4, before0_5, before0_6, before0_7, before0_8, before0_9, before0_10, before0_11, before0_12, before0_13, before0_14, before0_15, before0_16]
  rw [show (dat0 V c).Φ t.castSucc = iprop(held V c t.val ∗ others c) from rfl]
  iintro ⟨HΦ, Ho, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, I11⟩, ⟨%d12, I12⟩, ⟨%d13, I13⟩, ⟨%d14, I14⟩, ⟨%d15, I15⟩, ⟨%d16, I16⟩, ⟨%d17, I17⟩⟩
  iframe
  iexists d17; iexact I17

/-- The body at a point that is not the last, from what it does to the scratch there. -/
theorem step_of (h23 : t.val ≠ 23)
    (hstep : ∀ (h : Vec F S1024x1024 .f32) (g : Vec F S1024x4096 .bf16) (w : Vec F S1024x1024 .f32) (b : Vec F S1x1024 .f32), Held V c t.val h g w b → ∀ K : PUnit → sProp 𝕄,
      iprop(ins V c t ∗ scr c h g w b ∗ (iprop(ins V c t ∗ held V c (t.val + 1)) -∗ K ⟨⟩)) ⊢ wp frame (wpE (defs₀ (F := F)) Variants.none c none) Set.univ (bodyAt0 t) K) :
    bodyPre0 V c t ⊢ wp frame (wpE (defs₀ (F := F)) Variants.none c none) Set.univ (bodyAt0 t) (fun _ => bodyPost0 V c t) := by
  have hlt : t.val < 24 := lt_of_lt_of_eq t.isLt N_0
  have hx : (dat0 V c).leavesExact 17 t = iprop(∃ d, owns (c : Thread nD τ) (st0_17 t) fullShare ((dat0 V c).before 17 t d)) :=
    (dat0 V c).leavesExact_idle 17 t ((idle_out t).trans (by simp [h23])) (by
      cases hf : (cfg0.win 17).flush t
      · rfl
      · exact absurd ((flush0_17 t).1 hf) (by omega))
  refine (of_pre V c t).trans ?_
  unfold held
  iintro ⟨HI, ⟨⟨%h, %g, %w, %b, %H, HS⟩, HR⟩, Ho, HO⟩
  iapply (hstep h g w b H _)
  iframe HI HS
  iintro ⟨HI, HS⟩
  iapply (post_of V c t)
  rw [hx]
  iframe

/-- The body at the last point. -/
theorem step_end (h23 : t.val = 23) :
    bodyPre0 V c t ⊢ wp frame (wpE (defs₀ (F := F)) Variants.none c none) Set.univ (bodyAt0 t) (fun _ => bodyPost0 V c t) := by
  have hx : (dat0 V c).leavesExact 17 t = owns (c : Thread nD τ) (st0_17 t) fullShare (out (blk V c)) := by
    rw [leaves_live V c t 17 ((idle_out t).trans (by simp [h23])), after0_17]
  refine (of_pre V c t).trans ?_
  unfold held
  iintro ⟨HI, ⟨⟨%h, %g, %w, %b, %H, HS⟩, HR⟩, Ho, ⟨%d, HO⟩⟩
  iapply (body_end V c t H (by omega) (by omega) h23 ((dat0 V c).before 17 t d) _)
  iframe HI HS HO
  iintro ⟨HI, HS, HO⟩
  iapply (post_of V c t)
  rw [hx]
  iframe

/-- The body at any point. -/
theorem sound_body0 :
    bodyPre0 V c t ⊢ wp frame (wpE (defs₀ (F := F)) Variants.none c none) Set.univ (bodyAt0 t) (fun _ => bodyPost0 V c t) := by
  have hlt : t.val < 24 := lt_of_lt_of_eq t.isLt N_0
  by_cases h23 : t.val = 23
  · exact step_end V c t h23
  · refine step_of V c t h23 fun h g w b H K => ?_
    by_cases h4 : t.val % 8 < 4
    · by_cases h0 : t.val % 8 = 0
      · by_cases hs : t.val = 0
        · exact body_start V c t H hs K
        · exact body_first V c t H hs h0 K
      · exact body_feed V c t H h0 h4 K
    · by_cases h7 : t.val % 8 = 7
      · exact body_last V c t H (by omega) h7 h23 K
      · exact body_mix V c t H (by omega) h7 K

/-- The row of the body table the stack's pipeline calls. -/
theorem row0 : defs₀ (F := F) .tc cfg0.body (cfg0.bodyArgs t (cfg0.slots t)) = bodyAt0 t := by
  unfold defs₀; rw [Defs.onTc_tc]

/-- The pipeline's obligation on the stack's body. -/
theorem obligation0 : BodyObligation (dat0 V c) (defs₀ (F := F)) Variants.none () Set.univ := fun t => by
  rw [bigSep_W0, bigSep_W0, row0]
  exact triple_restated (sound_body0 V c t) rfl .rfl fun _ => .rfl

end Cert.Stack

end
-- ==== Proof.Dats1.lean ====
/- The data of the head: its branches, the blocks it reads, what it leaves. -/
module

public import proofs.«01_k».proof.Proof.RunBase
public import Idealize.ShloMosaic.Lib.ValueIdxCore
public import Idealize.ShloMosaic.Lib.Pipeline.TableIdle

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

/-- The conditions the head branches on, at point `t`: half `t % 2` of the wide layer. -/
theorem opens_iff : ∀ t : Fin grid1.N, k1_cond1 (grid1.coords t) = 1#1 ↔ t.val % 2 = 0 := by decide +kernel
theorem adds_iff : ∀ t : Fin grid1.N, k1_cond2 (grid1.coords t) = 1#1 ↔ t.val % 2 = 1 := by decide +kernel

/-- The output's window is written at every point, -/
theorem live_head : ∀ t : Fin grid1.N, idle1 5 (grid1.coords t) = false := by decide +kernel

/-- and holds nothing of the head's before an even point. -/
def freshHead : ℕ → Bool := fun n => decide (n % 2 = 0)
theorem freshHead_step : ∀ t : Fin cfg1.N,
    freshHead (t.val + 1) = ((cfg1.win 5).flush t || (cfg1.idle 5 (cfg1.grid.coords t) && freshHead t.val)) := by decide +kernel
theorem fresh_head (t : Fin cfg1.N) : cfg1.fresh 5 t.val = freshHead t.val :=
  Pipeline.Cfg.fresh_tab cfg1 5 freshHead rfl freshHead_step t.val (Nat.le_of_lt t.isLt)

/-- The point before `t`, or the first. -/
def prev (t : Fin cfg1.N) : Fin cfg1.N := ⟨t.val - 1, lt_of_le_of_lt (Nat.sub_le _ _) t.isLt⟩

variable (V : (c : Dev nD) → (b : Ref sig .tc) → Buf (Elt F) ((c : Thread nD τ).loc b))

/-- Window `w`'s block at point `t`, read off the arrays the region finds. -/
def hblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output's block after an even point, -/
def opened (c : Dev nD) (t : Fin cfg1.N) : Vec F S512x128 .f32 :=
  k1_pay2 (hblk V c 0 t) (hblk V c 1 t) (hblk V c 2 t) (hblk V c 3 t) (hblk V c 4 t)

/-- and after any. -/
def headOut (c : Dev nD) (t : Fin cfg1.N) : Vec F S512x128 .f32 :=
  if t.val % 2 = 0 then opened V c t
  else k1_pay3 (hblk V c 0 t) (hblk V c 1 t) (hblk V c 2 t) (hblk V c 3 t) (opened V c (prev t))

/-- The head's proof data. -/
def dat1 (c : Dev nD) : Dat τ (Elt F) Unit ℕ (UR sig nD τ) ℕ cfg1 c where
  A w := V c (Pipeline.arrRef spec1 w)
  after w t := match w with
    | ⟨0, _⟩ => hblk V c 0 t
    | ⟨1, _⟩ => hblk V c 1 t
    | ⟨2, _⟩ => hblk V c 2 t
    | ⟨3, _⟩ => hblk V c 3 t
    | ⟨4, _⟩ => hblk V c 4 t
    | ⟨5, _⟩ => headOut V c t
    | ⟨_ + 6, h⟩ => absurd h (Nat.not_lt.2 (Nat.le_add_left _ _))
  Φ _ := Pipeline.scopedRest spec1 c
  q _ := fullShare
  owed _ := 0

theorem A1_eq (c : Dev nD) (w : Fin cfg1.W) : (dat1 V c).A w = V c (Pipeline.arrRef spec1 w) := by dsimp only [dat1]

theorem after1_0 (c : Dev nD) (t : Fin cfg1.N) : (dat1 V c).after 0 t = hblk V c 0 t := by dsimp only [dat1]
theorem after1_1 (c : Dev nD) (t : Fin cfg1.N) : (dat1 V c).after 1 t = hblk V c 1 t := by dsimp only [dat1]
theorem after1_2 (c : Dev nD) (t : Fin cfg1.N) : (dat1 V c).after 2 t = hblk V c 2 t := by dsimp only [dat1]
theorem after1_3 (c : Dev nD) (t : Fin cfg1.N) : (dat1 V c).after 3 t = hblk V c 3 t := by dsimp only [dat1]
theorem after1_4 (c : Dev nD) (t : Fin cfg1.N) : (dat1 V c).after 4 t = hblk V c 4 t := by dsimp only [dat1]
theorem after1_5 (c : Dev nD) (t : Fin cfg1.N) : (dat1 V c).after 5 t = headOut V c t := by dsimp only [dat1]

/-- Each input's buffer holds its block at every point. -/
theorem before1_0 (c : Dev nD) (t : Fin cfg1.N) (d) : (dat1 V c).before 0 t d = hblk V c 0 t :=
  ((dat1 V c).before_in_eq_fetched 0 rfl (fun _ => rfl) (fun _ _ _ => rfl) (fun t => by rw [after1_0]; unfold Dat.blockOf hblk; rw [A1_eq]; try rfl) t d).trans
    (by unfold Dat.fetched Dat.blockOf hblk; rw [A1_eq]; try rfl)
theorem before1_1 (c : Dev nD) (t : Fin cfg1.N) (d) : (dat1 V c).before 1 t d = hblk V c 1 t :=
  ((dat1 V c).before_in_eq_fetched 1 rfl (fun _ => rfl) (fun _ _ _ => rfl) (fun t => by rw [after1_1]; unfold Dat.blockOf hblk; rw [A1_eq]; try rfl) t d).trans
    (by unfold Dat.fetched Dat.blockOf hblk; rw [A1_eq]; try rfl)
theorem before1_2 (c : Dev nD) (t : Fin cfg1.N) (d) : (dat1 V c).before 2 t d = hblk V c 2 t :=
  ((dat1 V c).before_in_eq_fetched 2 rfl (fun _ => rfl) (fun _ _ _ => rfl) (fun t => by rw [after1_2]; unfold Dat.blockOf hblk; rw [A1_eq]; try rfl) t d).trans
    (by unfold Dat.fetched Dat.blockOf hblk; rw [A1_eq]; try rfl)
theorem before1_3 (c : Dev nD) (t : Fin cfg1.N) (d) : (dat1 V c).before 3 t d = hblk V c 3 t :=
  ((dat1 V c).before_in_eq_fetched 3 rfl (fun _ => rfl) (fun _ _ _ => rfl) (fun t => by rw [after1_3]; unfold Dat.blockOf hblk; rw [A1_eq]; try rfl) t d).trans
    (by unfold Dat.fetched Dat.blockOf hblk; rw [A1_eq]; try rfl)
theorem before1_4 (c : Dev nD) (t : Fin cfg1.N) (d) : (dat1 V c).before 4 t d = hblk V c 4 t :=
  ((dat1 V c).before_in_eq_fetched 4 rfl (fun _ => rfl) (fun _ _ _ => rfl) (fun t => by rw [after1_4]; unfold Dat.blockOf hblk; rw [A1_eq]; try rfl) t d).trans
    (by unfold Dat.fetched Dat.blockOf hblk; rw [A1_eq]; try rfl)

/-- The output's buffer at an odd point holds what the even point before left. -/
theorem before1_5 (c : Dev nD) (t : Fin cfg1.N) (h : t.val % 2 = 1) (d) : (dat1 V c).before 5 t d = opened V c (prev t) := by
  rw [(dat1 V c).before_out_traj 5 rfl (fun _ _ => rfl) (fun t _ hi _ => absurd hi (by rw [show cfg1.idle 5 (cfg1.grid.coords t) = false from live_head t]; exact Bool.false_ne_true)) t.val t rfl d,
    fresh_head, if_neg (by simp [freshHead, h])]
  show (dat1 V c).after 5 (prev t) = _
  rw [after1_5, headOut, if_pos (show (prev t).val % 2 = 0 from show (t.val - 1) % 2 = 0 by omega)]

end Cert.Stack

end
-- ==== Proof.RunHead.lean ====
/- The head at each kind of point. -/
module

public import proofs.«01_k».proof.Proof.RunBase
public import Idealize.ShloMosaic.Lib.ValueIdxCore

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (c : Dev nD) (i : grid1.Coords)
variable (arg2 : Memref sig .tc .vmem S512x1024 .f32) (harg2 : arg2.IsWhole)
variable (arg3 : Memref sig .tc .vmem S2048x1024 .f32) (harg3 : arg3.IsWhole)
variable (arg4 : Memref sig .tc .vmem S1x2048 .f32) (harg4 : arg4.IsWhole)
variable (arg5 : Memref sig .tc .vmem S128x2048 .f32) (harg5 : arg5.IsWhole)
variable (arg6 : Memref sig .tc .vmem S1x128 .f32) (harg6 : arg6.IsWhole)
variable (arg7 : Memref sig .tc .vmem S512x128 .f32) (harg7 : arg7.IsWhole)

/-- The first half of the wide layer: its products and the bias open the block. -/
theorem run_open (hc1 : k1_cond1 i = 1#1) (hc2 : ¬ k1_cond2 i = 1#1)
    (x : Vec F S512x1024 .f32) (w : Vec F S2048x1024 .f32) (b : Vec F S1x2048 .f32) (v : Vec F S128x2048 .f32) (d : Vec F S1x128 .f32) (o : Vec F S512x128 .f32) (E : Set ℕ) (K : PUnit → sProp 𝕄) :
    iprop(owns (c : Thread nD τ) arg2 fullShare x ∗ owns (c : Thread nD τ) arg3 fullShare w ∗ owns (c : Thread nD τ) arg4 fullShare b ∗ owns (c : Thread nD τ) arg5 fullShare v ∗ owns (c : Thread nD τ) arg6 fullShare d ∗ owns (c : Thread nD τ) arg7 fullShare o
        ∗ (iprop(owns (c : Thread nD τ) arg2 fullShare x ∗ owns (c : Thread nD τ) arg3 fullShare w ∗ owns (c : Thread nD τ) arg4 fullShare b ∗ owns (c : Thread nD τ) arg5 fullShare v ∗ owns (c : Thread nD τ) arg6 fullShare d ∗ owns (c : Thread nD τ) arg7 fullShare (k1_pay2 x w b v d)) -∗ K ⟨⟩))
      ⊢ wp frame (wpE (defs₀ (F := F)) Variants.none c none) E (cc1__head_body i arg2 harg2 arg3 harg3 arg4 harg4 arg5 harg5 arg6 harg6 arg7 harg7) K := by
  rw [cc1__head_body_eq_skeleton]; unfold cc1__head_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc1 | sl_exact hc2)
  sl_step
  iapply Hk
  isplitl [H0]
  · iapply owns_held (c : Thread nD τ) harg2 fullShare $$ H0
  isplitl [H1]
  · iapply owns_held (c : Thread nD τ) harg3 fullShare $$ H1
  isplitl [H2]
  · iapply owns_held (c : Thread nD τ) harg4 fullShare $$ H2
  isplitl [H3]
  · iapply owns_held (c : Thread nD τ) harg5 fullShare $$ H3
  isplitl [H4]
  · iapply owns_held (c : Thread nD τ) harg6 fullShare $$ H4
  iapply owns_of_read (c : Thread nD τ) arg7 fullShare $$ H5
  rw [View.read_writes_full]
  repeat rw [readAt_held]

/-- The second half: its products are added to the block. -/
theorem run_add (hc1 : ¬ k1_cond1 i = 1#1) (hc2 : k1_cond2 i = 1#1)
    (x : Vec F S512x1024 .f32) (w : Vec F S2048x1024 .f32) (b : Vec F S1x2048 .f32) (v : Vec F S128x2048 .f32) (o : Vec F S512x128 .f32) (E : Set ℕ) (K : PUnit → sProp 𝕄) :
    iprop(owns (c : Thread nD τ) arg2 fullShare x ∗ owns (c : Thread nD τ) arg3 fullShare w ∗ owns (c : Thread nD τ) arg4 fullShare b ∗ owns (c : Thread nD τ) arg5 fullShare v ∗ owns (c : Thread nD τ) arg7 fullShare o
        ∗ (iprop(owns (c : Thread nD τ) arg2 fullShare x ∗ owns (c : Thread nD τ) arg3 fullShare w ∗ owns (c : Thread nD τ) arg4 fullShare b ∗ owns (c : Thread nD τ) arg5 fullShare v ∗ owns (c : Thread nD τ) arg7 fullShare (k1_pay3 x w b v o)) -∗ K ⟨⟩))
      ⊢ wp frame (wpE (defs₀ (F := F)) Variants.none c none) E (cc1__head_body i arg2 harg2 arg3 harg3 arg4 harg4 arg5 harg5 arg6 harg6 arg7 harg7) K := by
  rw [cc1__head_body_eq_skeleton]; unfold cc1__head_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg7.eq_unread hf4
  sl_exec (disch := first | sl_exact hc1 | sl_exact hc2)
  sl_step
  iapply Hk
  isplitl [H0]
  · iapply owns_held (c : Thread nD τ) harg2 fullShare $$ H0
  isplitl [H1]
  · iapply owns_held (c : Thread nD τ) harg3 fullShare $$ H1
  isplitl [H2]
  · iapply owns_held (c : Thread nD τ) harg4 fullShare $$ H2
  isplitl [H3]
  · iapply owns_held (c : Thread nD τ) harg5 fullShare $$ H3
  iapply owns_of_read (c : Thread nD τ) arg7 fullShare $$ H4
  rw [View.read_writes_full]
  repeat rw [readAt_held]

end Cert.Stack

end
-- ==== Proof.Obl1.lean ====
/- The head's body at every point of its grid. -/
module

public import proofs.«01_k».proof.Proof.Dats1
public import proofs.«01_k».proof.Proof.RunHead

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

/-- What the body is called with at point `t`, window by window, -/
def bodyPre1 : sProp 𝕄 :=
  iprop((dat1 V c).Φ t.castSucc ∗ (dat1 V c).owesAt () t.castSucc
    ∗ (∃ d, owns (c : Thread nD τ) ((cfg1.win 0).stage (cfg1.slots t 0)) fullShare ((dat1 V c).before 0 t d))
    ∗ (∃ d, owns (c : Thread nD τ) ((cfg1.win 1).stage (cfg1.slots t 1)) fullShare ((dat1 V c).before 1 t d))
    ∗ (∃ d, owns (c : Thread nD τ) ((cfg1.win 2).stage (cfg1.slots t 2)) fullShare ((dat1 V c).before 2 t d))
    ∗ (∃ d, owns (c : Thread nD τ) ((cfg1.win 3).stage (cfg1.slots t 3)) fullShare ((dat1 V c).before 3 t d))
    ∗ (∃ d, owns (c : Thread nD τ) ((cfg1.win 4).stage (cfg1.slots t 4)) fullShare ((dat1 V c).before 4 t d))
    ∗ (∃ d, owns (c : Thread nD τ) ((cfg1.win 5).stage (cfg1.slots t 5)) fullShare ((dat1 V c).before 5 t d)))

/-- and what it returns. -/
def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- Every window is left at what the body leaves. -/
theorem leaves_head (k : Fin cfg1.W) (h : cfg1.idle k (cfg1.grid.coords t) = false) :
    (dat1 V c).leavesExact k t = owns (c : Thread nD τ) ((cfg1.win k).stage (cfg1.slots t k)) fullShare ((dat1 V c).after k t) := by
  unfold Dat.leavesExact; rw [h]

set_option maxHeartbeats 1000000 in
/-- The body at any point. -/
theorem sound_body1 :
    bodyPre1 V c t ⊢ wp frame (wpE (defs₀ (F := F)) Variants.none c none) Set.univ (bodyAt1 t) (fun _ => bodyPost1 V c t) := by
  unfold bodyPre1 bodyPost1
  rw [show (dat1 V c).owesAt () t.succ = (dat1 V c).owesAt () t.castSucc from rfl, show (dat1 V c).Φ t.succ = (dat1 V c).Φ t.castSucc from rfl]
  rw [leaves_head V c t 0 rfl, after1_0, leaves_head V c t 1 rfl, after1_1, leaves_head V c t 2 rfl, after1_2, leaves_head V c t 3 rfl, after1_3, leaves_head V c t 4 rfl, after1_4, leaves_head V c t 5 (live_head t), after1_5]
  simp only [before1_0, before1_1, before1_2, before1_3, before1_4]
  unfold bodyAt1
  iintro ⟨HΦ, Ho, ⟨%d0, I0⟩, ⟨%d1, I1⟩, ⟨%d2, I2⟩, ⟨%d3, I3⟩, ⟨%d4, I4⟩, ⟨%d5, I5⟩⟩
  rcases Nat.mod_two_eq_zero_or_one t.val with h | h
  · rw [headOut, if_pos h, opened]
    iapply (run_open c (grid1.coords t) _ _ _ _ _ _ _ _ _ _ _ _ ((opens_iff t).2 h) (fun e => absurd ((adds_iff t).1 e) (by omega)) (hblk V c 0 t) (hblk V c 1 t) (hblk V c 2 t) (hblk V c 3 t) (hblk V c 4 t) ((dat1 V c).before 5 t d5) Set.univ _)
    iframe I0 I1 I2 I3 I4 I5
    iintro ⟨I0, I1, I2, I3, I4, I5⟩
    iframe
  · rw [headOut, if_neg (by omega), before1_5 V c t h]
    iapply (run_add c (grid1.coords t) _ _ _ _ _ _ _ _ _ _ _ _ (fun e => absurd ((opens_iff t).1 e) (by omega)) ((adds_iff t).2 h) (hblk V c 0 t) (hblk V c 1 t) (hblk V c 2 t) (hblk V c 3 t) (opened V c (prev t)) Set.univ _)
    iframe I0 I1 I2 I3 I5
    iintro ⟨I0, I1, I2, I3, I5⟩
    iframe

/-- The row of the body table the head's pipeline calls. -/
theorem row1 : defs₀ (F := F) .tc cfg1.body (cfg1.bodyArgs t (cfg1.slots t)) = bodyAt1 t := by
  unfold defs₀; rw [Defs.onTc_tc]

/-- The pipeline's obligation on the head's body. -/
theorem obligation1 : BodyObligation (dat1 V c) (defs₀ (F := F)) Variants.none () Set.univ := fun t => by
  rw [bigSep_W1, bigSep_W1, row1]
  exact triple_restated (sound_body1 V c t) rfl .rfl fun _ => .rfl

end Cert.Stack

end
-- ==== Proof.Region.lean ====
/- The two launches as regions of the program. -/
module

public import proofs.«01_k».proof.Proof.Gen.KernelIdeal.Regions
public import proofs.«01_k».proof.Proof.Obl0
public import proofs.«01_k».proof.Proof.Obl1
public import Idealize.ShloMosaic.Lib.Pipeline.RegionsLoop

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (Va Vb Vc : (c : Dev nD) → (b : Ref sig .tc) → Buf (Elt F) ((c : Thread nD τ).loc b))

/-- The launch's resource: the pipelines' own. -/
abbrev EP : Emb (UR sig nD τ) 𝕄 := emb₁

/-- The regions' proof data: the stack's entered at `Va`, the head's at `Vb`. -/
def pdats : (p : Fin 2) → (c : Dev nD) → Dat τ (Elt F) Unit ℕ (UR sig nD τ) ℕ (Pipeline.pin (pcfgs (F := F)) adm p) c
  | ⟨0, _⟩ => fun c => dat0 Va c
  | ⟨1, _⟩ => fun c => dat1 Vb c

abbrev noLevels : GSem nD τ sig → Finset Unit := fun _ => ∅
abbrev level : GSem nD τ sig → Unit → ℕ := fun _ _ => 0

/-- What rides beside the buffers: the core owes nothing. -/
abbrev rest (c : Dev nD) : sProp 𝕄 := iprop(∃ W, owes (c : Thread nD τ) (0 : CellTallies nD τ sig Unit) W)

/-- The stack's scratch at anything is its scoped buffers, before its first point and after its last. -/
theorem inv_of_rest (c : Dev nD) : (Pipeline.scopedRest spec0 c : sProp 𝕄) ⊢ inv Va c 0 := by
  unfold inv scr others
  rw [scopedRest0_eq]
  simp only [owns_whole_eq]
  iintro ⟨⟨%f0, H0⟩, ⟨%f1, H1⟩, ⟨%f2, H2⟩, ⟨%f3, H3⟩, HR⟩
  isplitr [HR]
  · iexists f0, f1, f2, f3
    isplitr
    · ipureintro; exact fun h => absurd rfl h
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  iexact HR

theorem rest_of_inv (c : Dev nD) (n : ℕ) : inv Va c n ⊢ (Pipeline.scopedRest spec0 c : sProp 𝕄) := by
  unfold inv scr others
  rw [scopedRest0_eq]
  simp only [owns_whole_eq]
  iintro ⟨⟨%f0, %f1, %f2, %f3, -, ⟨%e0, -, H0⟩, ⟨%e1, -, H1⟩, ⟨%e2, -, H2⟩, ⟨%e3, -, H3⟩⟩, HR⟩
  isplitl [H0]; · iexists e0; iexact H0
  isplitl [H1]; · iexists e1; iexact H1
  isplitl [H2]; · iexists e2; iexact H2
  isplitl [H3]; · iexists e3; iexact H3
  iexact HR

/-- Every window but the last is an input's, and its array is not the output's. -/
theorem in_window0 : ∀ w : Fin cfg0.W, w ≠ 17 → (cfg0.win w).isOut = false := by decide
theorem in_array0 : ∀ w : Fin cfg0.W, w ≠ 17 → Pipeline.arrRef spec0 w ≠ main_v13 := by decide

set_option maxHeartbeats 1000000 in
set_option backward.isDefEq.respectTransparency.types false in
/-- The stack as a region: entered from the buffers at `Va`, left with them at `Vb`. -/
def region0 (hout : ∀ c, Vb c main_v13 = (dat0 Va c).arrAt 17 cfg0.N) (hne : ∀ c (b : Ref sig .tc), b ≠ main_v13 → Vb c b = Va c b) :
    Pipeline.RegionSeg (pcfgs (F := F)) adm (pdats Va Vb) () defs₀ Variants.none noLevels level 0 where
  win := launch0.win.to₀
  block_pos := launch0.block_pos
  stage_whole := launch0.stage_whole
  K := PEmpty
  osem k := k.elim
  ho := Pipeline.OwnSemFacts.none _
  hbody c := (obligation0 Va c).loose
  hwaits := Pipeline.hwaits_of_owed_zero _ _ _ _ noLevels level 0 fun _ _ => rfl
  pre c := iprop(unscopedBufs c (Va c) ∗ rest c)
  post c := iprop(unscopedBufs c (Vb c) ∗ rest c)
  X _ := BI.emp
  Y _ := BI.emp
  Z c := Pipeline.unscopedRest (Ix := Unit) (Name := ℕ) (U := UR sig nD τ) (Lvl := ℕ) spec0 c (Va c)
  hentry c := by
    rw [Pipeline.ownSems0_none]
    have hsplit := Pipeline.arrays_of_unscopedBufs (p := 0) (pcfgs (F := F)) adm (pdats Va Vb) launch0.win launch0.arr_whole c
      ((pdats Va Vb 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 0 c).Φ 0 = inv Va c 0 from rfl]
    iintro ⟨-, -, Hr⟩
    iapply (inv_of_rest Va c) $$ Hr
  hout c := by
    rw [Pipeline.ownSems0_none, show (pdats Va Vb 0 c).Φ (Fin.last _) = inv Va c (Fin.last cfg0.N).val from rfl]
    iintro Hr
    isplitr; · iempintro
    isplitr; · iempintro
    iapply (rest_of_inv Va c _) $$ Hr
  hexit c := by
    have hjoin := Pipeline.unscopedBufs_of_arrays (p := 0) (pcfgs (F := F)) adm (Ix := Unit) (Name := ℕ) (U := UR sig nD τ) (Lvl := ℕ) launch0.win launch0.arr_whole c
      (pdats Va Vb) ((pdats Va Vb 0 c).share_full fun _ => rfl) (Va c) (Vb c) ((pdats Va Vb 0 c).arrAt · cfg0.N)
      (fun w => by
        by_cases h : w = 17
        · subst h; exact (hout c).symm
        · exact ((dat0 Va c).arrAt_in w (in_window0 w h) _).trans (hne c _ (in_array0 w h)).symm)
      (fun b hb => hne c b fun h => hb (h ▸ Finset.mem_image.mpr ⟨17, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- Every window but the last is an input's, and its array is not the output's. -/
theorem in_window1 : ∀ w : Fin cfg1.W, w ≠ 5 → (cfg1.win w).isOut = false := by decide
theorem in_array1 : ∀ w : Fin cfg1.W, w ≠ 5 → Pipeline.arrRef spec1 w ≠ main_v14 := by decide

set_option maxHeartbeats 1000000 in
set_option backward.isDefEq.respectTransparency.types false in
/-- The head as a region: entered from the buffers at `Vb`, left with them at `Vc`. -/
def region1 (hout : ∀ c, Vc c main_v14 = (dat1 Vb c).arrAt 5 cfg1.N) (hne : ∀ c (b : Ref sig .tc), b ≠ main_v14 → Vc c b = Vb c b) :
    Pipeline.RegionSeg (pcfgs (F := F)) adm (pdats Va Vb) () defs₀ Variants.none noLevels level 1 where
  win := launch1.win.to₀
  block_pos := launch1.block_pos
  stage_whole := launch1.stage_whole
  K := PEmpty
  osem k := k.elim
  ho := Pipeline.OwnSemFacts.none _
  hbody c := (obligation1 Vb c).loose
  hwaits := Pipeline.hwaits_of_owed_zero _ _ _ _ noLevels level 1 fun _ _ => rfl
  pre c := iprop(unscopedBufs c (Vb c) ∗ rest c)
  post c := iprop(unscopedBufs c (Vc c) ∗ rest c)
  X _ := BI.emp
  Y _ := BI.emp
  Z c := Pipeline.unscopedRest (Ix := Unit) (Name := ℕ) (U := UR sig nD τ) (Lvl := ℕ) spec1 c (Vb c)
  hentry c := by
    rw [Pipeline.ownSems0_none]
    have hsplit := Pipeline.arrays_of_unscopedBufs (p := 1) (pcfgs (F := F)) adm (pdats Va Vb) launch1.win launch1.arr_whole c
      ((pdats Va Vb 1 c).share_full fun _ => rfl) (Vb c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 1 c).Φ 0 = Pipeline.scopedRest spec1 c from rfl]
    iintro ⟨-, -, Hr⟩
    iexact Hr
  hout c := by
    rw [Pipeline.ownSems0_none, show (pdats Va Vb 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats Va Vb) ((pdats Va Vb 1 c).share_full fun _ => rfl) (Vb c) (Vc c) ((pdats Va Vb 1 c).arrAt · cfg1.N)
      (fun w => by
        by_cases h : w = 5
        · subst h; exact (hout c).symm
        · exact ((dat1 Vb c).arrAt_in w (in_window1 w h) _).trans (hne c _ (in_array1 w h)).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Stack

end
-- ==== Proof.RunAll.lean ====
/- The whole program runs, and what its buffers hold at the end. -/
module

public import proofs.«01_k».proof.Proof.Region

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ)

/-- The buffers the stack finds: the arguments and their reshapes. -/
def atStack (c : Dev nD) (b : Ref sig .tc) : Buf (Elt F) ((c : Thread nD τ).loc b) := V1 m c b

/-- What the stack leaves in its output, -/
def stackArr (c : Dev nD) : Buf (Elt F) ((c : Thread nD τ).loc main_v13) := (dat0 (atStack m) c).arrAt 17 cfg0.N

/-- the buffers the head then finds, -/
def atHead (c : Dev nD) (b : Ref sig .tc) : Buf (Elt F) ((c : Thread nD τ).loc b) :=
  (Function.update (V1 m c) main_v13 (stackArr m c) : Valuation τ sig (Elt F)) b

/-- and what it leaves in its. -/
def headArr (c : Dev nD) : Buf (Elt F) ((c : Thread nD τ).loc main_v14) := (dat1 (atHead m) c).arrAt 5 cfg1.N

/-- The regions' results. -/
def results : Outs (F := F) := fun _ r c =>
  (Function.update (Function.update (V0 m c) main_v13 (stackArr m c)) main_v14 (headArr m c) : Valuation τ sig (Elt F)) r

theorem results_stack (j : ℕ) (c : Dev nD) : results m j main_v13 c = stackArr m c := by
  unfold results
  rw [Function.update_of_ne (StableHlo.devRef_ne_of_ne (by decide) : (Proc.devRef .tc main_v13 : DevRef τ sig) ≠ Proc.devRef .tc main_v14), Function.update_self]

theorem results_head (j : ℕ) (c : Dev nD) : results m j main_v14 c = headArr m c := by
  unfold results
  rw [Function.update_self]

theorem atHead_eq (c : Dev nD) (b : Ref sig .tc) : atHead m c b = V2 m (results m) c b := by
  unfold atHead V2; rw [results_stack]

theorem atHead_stack (c : Dev nD) : atHead m c main_v13 = stackArr m c := by
  unfold atHead; rw [Function.update_self]

theorem atHead_of (c : Dev nD) (b : Ref sig .tc) (h : b ≠ main_v13) : atHead m c b = atStack m c b := by
  unfold atHead atStack
  rw [Function.update_of_ne (StableHlo.devRef_ne_of_ne h : (Proc.devRef .tc b : DevRef τ sig) ≠ Proc.devRef .tc main_v13)]

/-- The buffers at the end. -/
def atEnd (c : Dev nD) (b : Ref sig .tc) : Buf (Elt F) ((c : Thread nD τ).loc b) := V3 m (results m) c b

theorem atEnd_head (c : Dev nD) : V3 m (results m) c main_v14 = headArr m c := by
  unfold V3; rw [Function.update_self, results_head]

theorem atEnd_of (c : Dev nD) (b : Ref sig .tc) (h : b ≠ main_v14) : atEnd m c b = atHead m c b := by
  rw [atHead_eq]; exact V3_of m (results m) c b (by simpa using h)

/-- The regions of the run. -/
def stackRegion := region0 (F := F) (atStack m) (atHead m) (fun c => atHead_stack m c) (fun c b h => atHead_of m c b h)
def headRegion := region1 (F := F) (atStack m) (atHead m) (atEnd m) (fun c => atEnd_head m c) (fun c b h => atEnd_of m c b h)

/-- What a final state holds on core `c`: the arguments as launched, the result at what the head leaves. -/
def Ends (c : Dev nD) (s : MemSt nD τ sig (Elt F)) : Prop :=
  s.mem ((c.tc : Thread nD τ).loc main_v14) = headArr m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)
    ∧ s.mem ((c.tc : Thread nD τ).loc main_arg19) = m ((c.tc : Thread nD τ).loc main_arg19)
    ∧ s.mem ((c.tc : Thread nD τ).loc main_arg20) = m ((c.tc : Thread nD τ).loc main_arg20)
    ∧ s.mem ((c.tc : Thread nD τ).loc main_arg21) = m ((c.tc : Thread nD τ).loc main_arg21)
    ∧ s.mem ((c.tc : Thread nD τ).loc main_arg22) = m ((c.tc : Thread nD τ).loc main_arg22)
    ∧ s.mem ((c.tc : Thread nD τ).loc main_arg23) = m ((c.tc : Thread nD τ).loc main_arg23)
    ∧ s.mem ((c.tc : Thread nD τ).loc main_arg24) = m ((c.tc : Thread nD τ).loc main_arg24)

set_option backward.isDefEq.respectTransparency.types false in
/-- Every run ends, with every semaphore at zero and the buffers as `Ends` says. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats (atStack m) (atHead m)) () cellOf_inj EP defs₀ Variants.none noLevels level m ρ main
    (segs m Variants.none noLevels level (fun _ => rest) () (pdats (atStack m) (atHead m)) (stackRegion m) (headRegion m))
    (fun c Q => by
      rewrite [main_chain c, Pipeline.Seg.run_eq_chain,
        show (segs m Variants.none noLevels level (fun _ => rest) () (pdats (atStack m) (atHead m)) (stackRegion m) (headRegion m) c).map Pipeline.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V3 m (results m) c))
    (hch := fun c => ⟨.rfl, ?_, ?_, ?_⟩)
    (hinit := ?_) (QY := fun c s => Ends m c s)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄) ⊢ BI.own (EP (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (V1 m c) ∗ rest c) ⊢ iprop(unscopedBufs c (atStack m c) ∗ rest c)
    exact sep_mono (Entails.of_eq (Pipeline.unscopedBufs_held (Ix := Unit) (Name := ℕ) (U := UR sig nD τ) (Lvl := ℕ) c (V1 m c)).symm) .rfl
  · exact .rfl
  · show iprop(unscopedBufs c (atEnd m c) ∗ rest c) ⊢ iprop(StableHlo.held (c : Thread nD τ) (Pipeline.ucRefs τ sig) (V3 m (results m) c) ∗ rest c)
    exact sep_mono (Entails.of_eq (Pipeline.unscopedBufs_held (Ix := Unit) (Name := ℕ) (U := UR sig nD τ) (Lvl := ℕ) c (V3 m (results m) c))) .rfl
  · refine Pipeline.initEach noLevels level fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V3 m (results m) c) s') $$ [Hh HSI]
    · isplitl [Hh] <;> iassumption
    icases Hr with ⟨%h, HSI⟩
    imodintro
    isplitr
    · ipureintro
      have hm : ∀ b : Ref sig .tc, (Proc.devRef .tc b : DevRef τ sig) ∈ Pipeline.ucRefs τ sig → s'.1.mem ((c.tc : Thread nD τ).loc b) = V3 m (results m) c b := fun b hb => h _ hb
      refine ⟨(hm main_v14 (by decide)).trans (atEnd_head m c), (hm main_arg0 (by decide)).trans (V3_main_arg0 m (results m) c), (hm main_arg1 (by decide)).trans (V3_main_arg1 m (results m) c), (hm main_arg2 (by decide)).trans (V3_main_arg2 m (results m) c), (hm main_arg3 (by decide)).trans (V3_main_arg3 m (results m) c), (hm main_arg4 (by decide)).trans (V3_main_arg4 m (results m) c), (hm main_arg5 (by decide)).trans (V3_main_arg5 m (results m) c), (hm main_arg6 (by decide)).trans (V3_main_arg6 m (results m) c), (hm main_arg7 (by decide)).trans (V3_main_arg7 m (results m) c), (hm main_arg8 (by decide)).trans (V3_main_arg8 m (results m) c), (hm main_arg9 (by decide)).trans (V3_main_arg9 m (results m) c), (hm main_arg10 (by decide)).trans (V3_main_arg10 m (results m) c), (hm main_arg11 (by decide)).trans (V3_main_arg11 m (results m) c), (hm main_arg12 (by decide)).trans (V3_main_arg12 m (results m) c), (hm main_arg13 (by decide)).trans (V3_main_arg13 m (results m) c), (hm main_arg14 (by decide)).trans (V3_main_arg14 m (results m) c), (hm main_arg15 (by decide)).trans (V3_main_arg15 m (results m) c), (hm main_arg16 (by decide)).trans (V3_main_arg16 m (results m) c), (hm main_arg17 (by decide)).trans (V3_main_arg17 m (results m) c), (hm main_arg18 (by decide)).trans (V3_main_arg18 m (results m) c), (hm main_arg19 (by decide)).trans (V3_main_arg19 m (results m) c), (hm main_arg20 (by decide)).trans (V3_main_arg20 m (results m) c), (hm main_arg21 (by decide)).trans (V3_main_arg21 m (results m) c), (hm main_arg22 (by decide)).trans (V3_main_arg22 m (results m) c), (hm main_arg23 (by decide)).trans (V3_main_arg23 m (results m) c), (hm main_arg24 (by decide)).trans (V3_main_arg24 m (results m) c)⟩
    · iexact HSI

end Cert.Stack

end
-- ==== Proof.Frames.lean ====
/- The frames: every run of each program ends with the arguments as launched and every semaphore at zero. -/
module

public import proofs.«01_k».proof.Proof.RunAll
public import proofs.«01_k».proof.Proof.Gen.Kernel
public import proofs.«01_k».proof.Proof.Gen.ReferenceIdeal.Run
public import Idealize.ShloMosaic.Lib.Claim
public import Idealize.ShloMosaic.PureOps.Ideal

@[expose] public section

namespace Cert.Frames

open Idealize.ShloMosaic Idealize.ShloMosaic.TcCoe Idealize.SL.Sem

/-- The kernel's frame at any floats, -/
def Kept (F : FTy → Type) [FloatOps F] [Cert.Kernel.Facts] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)) ∧ r.2.sem = fun _ => 0)

/-- and the idealised kernel's. -/
def KeptIdeal (F : FTy → Type) [FloatOps F] [Cert.KernelIdeal.Facts] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)) ∧ r.2.sem = fun _ => 0)

/-- The two are one statement: no operation of the kernel is replaced. -/
theorem kept_eq (F : FTy → Type) [FloatOps F] [Cert.Kernel.Facts] [Cert.KernelIdeal.Facts] : Kept F = KeptIdeal F := by
  sl_kernel_rfl

/-- The frame holds. -/
theorem kept_ideal (F : FTy → Type) [FloatOps F] : KeptIdeal F := fun m g =>
  θ_run_mono (Cert.Stack.run m g) fun _ h => ⟨fun c => (h.1 c).2, h.2⟩

theorem kept (F : FTy → Type) [FloatOps F] : Kept F := (kept_eq F).mpr (kept_ideal F)

/-- The reference's frame: it has host operations only. -/
theorem kept_reference :
  ∀ (m : (ℓ : Loc Cert.ReferenceIdeal.nD Cert.ReferenceIdeal.τ Cert.ReferenceIdeal.sig) → Buf (Elt Ideal) ℓ) (g : Dev Cert.ReferenceIdeal.nD → PrngReg),
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)) ∧ r.2.sem = fun _ => 0) := fun m g =>
  θ_run_mono (Cert.ReferenceIdeal.Value.run m g) fun _ h => ⟨fun c => (h c).2, Idealize.ShloMosaic.sem_eq_zero_of_no_sems (by decide) _⟩

end Cert.Frames
-- ==== Proof.Entries.lean ====
/- The arrays the two regions find, entry by entry: an argument, or an argument given a unit axis. -/
module

public import proofs.«01_k».proof.Proof.RunAll
public import Idealize.ShloMosaic.Lib.Pipeline.ValueKit

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

open Idealize.ShloMosaic.StableHlo

variable {F : FTy → Type} [FloatOps F]

variable (m : (ℓ : Loc nD τ sig) → Buf (Elt F) ℓ) (c : Dev nD)

/-- An array at launch. -/
def arr (b : Ref sig .tc) : Buf (Elt F) ((c : Thread nD τ).loc b) := m ((c : Thread nD τ).loc b)

/-- The argument arrays. -/
def p0 : Vec F S1024x512 .f32 := m ((c : Thread nD τ).loc main_arg0)
def p1 : Vec F S1024x512 .f32 := m ((c : Thread nD τ).loc main_arg1)
def p2 : Vec F S1024 .f32 := m ((c : Thread nD τ).loc main_arg2)
def p3 : Vec F S1024x1024 .f32 := m ((c : Thread nD τ).loc main_arg3)
def p4 : Vec F S1024 .f32 := m ((c : Thread nD τ).loc main_arg4)
def p5 : Vec F S1024x1024 .f32 := m ((c : Thread nD τ).loc main_arg5)
def p6 : Vec F S1024 .f32 := m ((c : Thread nD τ).loc main_arg6)
def p7 : Vec F S1024x1024 .f32 := m ((c : Thread nD τ).loc main_arg7)
def p8 : Vec F S1024 .f32 := m ((c : Thread nD τ).loc main_arg8)
def p9 : Vec F S1024x1024 .f32 := m ((c : Thread nD τ).loc main_arg9)
def p10 : Vec F S1024 .f32 := m ((c : Thread nD τ).loc main_arg10)
def p11 : Vec F S3x4096x1024 .f32 := m ((c : Thread nD τ).loc main_arg11)
def p12 : Vec F S3x4096 .f32 := m ((c : Thread nD τ).loc main_arg12)
def p13 : Vec F S3x1024x4096 .f32 := m ((c : Thread nD τ).loc main_arg13)
def p14 : Vec F S3x1024 .f32 := m ((c : Thread nD τ).loc main_arg14)
def p15 : Vec F S3x1024 .f32 := m ((c : Thread nD τ).loc main_arg15)
def p16 : Vec F S3x1024 .f32 := m ((c : Thread nD τ).loc main_arg16)
def p17 : Vec F S3x1024 .f32 := m ((c : Thread nD τ).loc main_arg17)
def p18 : Vec F S3x1024 .f32 := m ((c : Thread nD τ).loc main_arg18)
def p19 : Vec F S1024 .f32 := m ((c : Thread nD τ).loc main_arg19)
def p20 : Vec F S1024 .f32 := m ((c : Thread nD τ).loc main_arg20)
def p21 : Vec F S4096x1024 .f32 := m ((c : Thread nD τ).loc main_arg21)
def p22 : Vec F S4096 .f32 := m ((c : Thread nD τ).loc main_arg22)
def p23 : Vec F S128x4096 .f32 := m ((c : Thread nD τ).loc main_arg23)
def p24 : Vec F S128 .f32 := m ((c : Thread nD τ).loc main_arg24)

theorem host_0 : atStack m c main_v0 = (shapeCast S1x1024 (p8 m c) shapeCasts_S1024_S1x1024 : Vec F S1x1024 .f32) := by
  unfold atStack V1
  after_results
  rfl

theorem host_1 : atStack m c main_v1 = (shapeCast S1x1024 (p10 m c) shapeCasts_S1024_S1x1024 : Vec F S1x1024 .f32) := by
  unfold atStack V1
  after_results
  rfl

theorem host_2 : atStack m c main_v2 = (shapeCast S1x1024 (p2 m c) shapeCasts_S1024_S1x1024 : Vec F S1x1024 .f32) := by
  unfold atStack V1
  after_results
  rfl

theorem host_3 : atStack m c main_v3 = (shapeCast S3x1x4096 (p12 m c) shapeCasts_S3x4096_S3x1x4096 : Vec F S3x1x4096 .f32) := by
  unfold atStack V1
  after_results
  rfl

theorem host_4 : atStack m c main_v4 = (shapeCast S3x1x1024 (p14 m c) shapeCasts_S3x1024_S3x1x1024 : Vec F S3x1x1024 .f32) := by
  unfold atStack V1
  after_results
  rfl

theorem host_5 : atStack m c main_v5 = (shapeCast S3x1x1024 (p15 m c) shapeCasts_S3x1024_S3x1x1024 : Vec F S3x1x1024 .f32) := by
  unfold atStack V1
  after_results
  rfl

theorem host_6 : atStack m c main_v6 = (shapeCast S3x1x1024 (p16 m c) shapeCasts_S3x1024_S3x1x1024 : Vec F S3x1x1024 .f32) := by
  unfold atStack V1
  after_results
  rfl

theorem host_7 : atStack m c main_v7 = (shapeCast S3x1x1024 (p17 m c) shapeCasts_S3x1024_S3x1x1024 : Vec F S3x1x1024 .f32) := by
  unfold atStack V1
  after_results
  rfl

theorem host_8 : atStack m c main_v8 = (shapeCast S3x1x1024 (p18 m c) shapeCasts_S3x1024_S3x1x1024 : Vec F S3x1x1024 .f32) := by
  unfold atStack V1
  after_results
  rfl

theorem host_9 : atStack m c main_v9 = (shapeCast S1x1024 (p19 m c) shapeCasts_S1024_S1x1024 : Vec F S1x1024 .f32) := by
  unfold atStack V1
  after_results
  rfl

theorem host_10 : atStack m c main_v10 = (shapeCast S1x1024 (p20 m c) shapeCasts_S1024_S1x1024 : Vec F S1x1024 .f32) := by
  unfold atStack V1
  after_results
  rfl

theorem host_11 : atStack m c main_v11 = (shapeCast S1x4096 (p22 m c) shapeCasts_S4096_S1x4096 : Vec F S1x4096 .f32) := by
  unfold atStack V1
  after_results
  rfl

theorem host_12 : atStack m c main_v12 = (shapeCast S1x128 (p24 m c) shapeCasts_S128_S1x128 : Vec F S1x128 .f32) := by
  unfold atStack V1
  after_results
  rfl

theorem host_arg0 : atStack m c main_arg0 = p0 m c := V1_of m c main_arg0 (by decide)

theorem host_arg1 : atStack m c main_arg1 = p1 m c := V1_of m c main_arg1 (by decide)

theorem host_arg7 : atStack m c main_arg7 = p7 m c := V1_of m c main_arg7 (by decide)

theorem host_arg9 : atStack m c main_arg9 = p9 m c := V1_of m c main_arg9 (by decide)

theorem host_arg11 : atStack m c main_arg11 = p11 m c := V1_of m c main_arg11 (by decide)

theorem host_arg13 : atStack m c main_arg13 = p13 m c := V1_of m c main_arg13 (by decide)

theorem host_arg21 : atStack m c main_arg21 = p21 m c := V1_of m c main_arg21 (by decide)

theorem host_arg23 : atStack m c main_arg23 = p23 m c := V1_of m c main_arg23 (by decide)

end Cert.Stack

end
-- ==== Proof.Reads.lean ====
/- The blocks of the stack as entries of the arguments. -/
module

public import proofs.«01_k».proof.Proof.Entries

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (c : Dev nD)

theorem idx_first : ∀ l : Fin 3, (win0_11.index (pt l.val 0) = ![l.val, 0, 0] ∧ win0_12.index (pt l.val 0) = ![l.val, 0, 0])
    ∧ (win0_13.index (pt l.val 7) = ![l.val, 0, 0] ∧ win0_14.index (pt l.val 7) = ![l.val, 0, 0]) := by decide +kernel

theorem idx_feed : ∀ (l : Fin 3) (j : Fin 4), win0_7.index (pt l.val j.val) = ![l.val, j.val, 0] ∧ win0_8.index (pt l.val j.val) = ![l.val, 0, j.val]
    := by decide +kernel

theorem idx_mix : ∀ (l : Fin 3) (j : Fin 4), win0_9.index (pt l.val (4 + j.val)) = ![l.val, j.val, 0] ∧ win0_10.index (pt l.val (4 + j.val)) = ![l.val, 0, 0]
    := by decide +kernel

theorem blk_x (i : Fin 1024) (k : Fin 512) : (blk (atStack m) c).x (ix2 i k) = p0 m c (ix2 i k) := by
  have e : win0_0.index (pt 0 0) = ![0, 0] := by decide +kernel
  show iblk (atStack m) c 0 (pt 0 0) (ix2 i k) = _
  rw [← host_arg0]
  blk_ext [iblk, e]

theorem blk_wi (i : Fin 1024) (k : Fin 512) : (blk (atStack m) c).wi (ix2 i k) = p1 m c (ix2 i k) := by
  have e : win0_1.index (pt 0 0) = ![0, 0] := by decide +kernel
  show iblk (atStack m) c 1 (pt 0 0) (ix2 i k) = _
  rw [← host_arg1]
  blk_ext [iblk, e]

theorem blk_bi (j : Fin 1024) : (blk (atStack m) c).bi (ix2 0 j) = p2 m c (ix1 j) := by
  have e : win0_2.index (pt 0 0) = ![0, 0] := by decide +kernel
  have h : (blk (atStack m) c).bi (ix2 0 j) = (atStack m c main_v2 : Vec F S1x1024 .f32) (ix2 0 j) := by
    show iblk (atStack m) c 2 (pt 0 0) (ix2 0 j) = _
    blk_ext [iblk, e]
  rw [h, host_2]
  pointwise

theorem blk_wv (i : Fin 1024) (k : Fin 1024) : (blk (atStack m) c).wv (ix2 i k) = p7 m c (ix2 i k) := by
  have e : win0_3.index (pt 0 0) = ![0, 0] := by decide +kernel
  show iblk (atStack m) c 3 (pt 0 0) (ix2 i k) = _
  rw [← host_arg7]
  blk_ext [iblk, e]

theorem blk_wo (i : Fin 1024) (k : Fin 1024) : (blk (atStack m) c).wo (ix2 i k) = p9 m c (ix2 i k) := by
  have e : win0_4.index (pt 0 0) = ![0, 0] := by decide +kernel
  show iblk (atStack m) c 4 (pt 0 0) (ix2 i k) = _
  rw [← host_arg9]
  blk_ext [iblk, e]

theorem blk_bv (j : Fin 1024) : (blk (atStack m) c).bv (ix2 0 j) = p8 m c (ix1 j) := by
  have e : win0_5.index (pt 0 0) = ![0, 0] := by decide +kernel
  have h : (blk (atStack m) c).bv (ix2 0 j) = (atStack m c main_v0 : Vec F S1x1024 .f32) (ix2 0 j) := by
    show iblk (atStack m) c 5 (pt 0 0) (ix2 0 j) = _
    blk_ext [iblk, e]
  rw [h, host_0]
  pointwise

theorem blk_bo (j : Fin 1024) : (blk (atStack m) c).bo (ix2 0 j) = p10 m c (ix1 j) := by
  have e : win0_6.index (pt 0 0) = ![0, 0] := by decide +kernel
  have h : (blk (atStack m) c).bo (ix2 0 j) = (atStack m c main_v1 : Vec F S1x1024 .f32) (ix2 0 j) := by
    show iblk (atStack m) c 6 (pt 0 0) (ix2 0 j) = _
    blk_ext [iblk, e]
  rw [h, host_1]
  pointwise

theorem blk_gf (j : Fin 1024) : (blk (atStack m) c).gf (ix2 0 j) = p19 m c (ix1 j) := by
  have e : win0_15.index (pt 2 7) = ![0, 0] := by decide +kernel
  have h : (blk (atStack m) c).gf (ix2 0 j) = (atStack m c main_v9 : Vec F S1x1024 .f32) (ix2 0 j) := by
    show iblk (atStack m) c 15 (pt 2 7) (ix2 0 j) = _
    blk_ext [iblk, e]
  rw [h, host_9]
  pointwise

theorem blk_bf (j : Fin 1024) : (blk (atStack m) c).bf (ix2 0 j) = p20 m c (ix1 j) := by
  have e : win0_16.index (pt 2 7) = ![0, 0] := by decide +kernel
  have h : (blk (atStack m) c).bf (ix2 0 j) = (atStack m c main_v10 : Vec F S1x1024 .f32) (ix2 0 j) := by
    show iblk (atStack m) c 16 (pt 2 7) (ix2 0 j) = _
    blk_ext [iblk, e]
  rw [h, host_10]
  pointwise

theorem blk_w1 (l : Fin 3) (j : Fin 4) (e k : Fin 1024) :
    (blk (atStack m) c).w1 l.val j.val (ix3 0 e k) = p11 m c (ix3 l ⟨1024 * j.val + e.val, by omega⟩ k) := by
  have e := (idx_feed l j).1
  show iblk (atStack m) c 7 (pt l.val j.val) (ix3 0 _ k) = _
  rw [← host_arg11]
  blk_ext [iblk, e]

theorem blk_w2 (l : Fin 3) (j : Fin 4) (e : Fin 256) (k : Fin 4096) :
    (blk (atStack m) c).w2 l.val (4 + j.val) (ix3 0 e k) = p13 m c (ix3 l ⟨256 * j.val + e.val, by omega⟩ k) := by
  have e := (idx_mix l j).1
  show iblk (atStack m) c 9 (pt l.val (4 + j.val)) (ix3 0 _ k) = _
  rw [← host_arg13]
  blk_ext [iblk, e]

theorem blk_b1 (l : Fin 3) (j : Fin 4) (e : Fin 1024) :
    (blk (atStack m) c).b1 l.val j.val (ix3 0 0 e) = p12 m c (ix2 l ⟨1024 * j.val + e.val, by omega⟩) := by
  have i := (idx_feed l j).2
  have h : (blk (atStack m) c).b1 l.val j.val (ix3 0 0 e)
      = (atStack m c main_v3 : Vec F S3x1x4096 .f32) (ix3 l 0 ⟨1024 * j.val + e.val, by omega⟩) := by
    show iblk (atStack m) c 8 (pt l.val j.val) (ix3 0 0 e) = _
    blk_ext [iblk, i]
  rw [h, host_3]
  pointwise

theorem blk_b2 (l : Fin 3) (j : Fin 4) (e : Fin 1024) :
    (blk (atStack m) c).b2 l.val (4 + j.val) (ix3 0 0 e) = p14 m c (ix2 l e) := by
  have i := (idx_mix l j).2
  have h : (blk (atStack m) c).b2 l.val (4 + j.val) (ix3 0 0 e) = (atStack m c main_v4 : Vec F S3x1x1024 .f32) (ix3 l 0 e) := by
    show iblk (atStack m) c 10 (pt l.val (4 + j.val)) (ix3 0 0 e) = _
    blk_ext [iblk, i]
  rw [h, host_4]
  pointwise

theorem blk_g1 (l : Fin 3) (e : Fin 1024) : (blk (atStack m) c).g1 l.val 0 (ix3 0 0 e) = p15 m c (ix2 l e) := by
  have i := (idx_first l).1.1
  have h : (blk (atStack m) c).g1 l.val 0 (ix3 0 0 e) = (atStack m c main_v5 : Vec F S3x1x1024 .f32) (ix3 l 0 e) := by
    show iblk (atStack m) c 11 (pt l.val 0) (ix3 0 0 e) = _
    blk_ext [iblk, i]
  rw [h, host_5]
  pointwise

theorem blk_be1 (l : Fin 3) (e : Fin 1024) : (blk (atStack m) c).be1 l.val 0 (ix3 0 0 e) = p16 m c (ix2 l e) := by
  have i := (idx_first l).1.2
  have h : (blk (atStack m) c).be1 l.val 0 (ix3 0 0 e) = (atStack m c main_v6 : Vec F S3x1x1024 .f32) (ix3 l 0 e) := by
    show iblk (atStack m) c 12 (pt l.val 0) (ix3 0 0 e) = _
    blk_ext [iblk, i]
  rw [h, host_6]
  pointwise

theorem blk_g2 (l : Fin 3) (e : Fin 1024) : (blk (atStack m) c).g2 l.val 7 (ix3 0 0 e) = p17 m c (ix2 l e) := by
  have i := (idx_first l).2.1
  have h : (blk (atStack m) c).g2 l.val 7 (ix3 0 0 e) = (atStack m c main_v7 : Vec F S3x1x1024 .f32) (ix3 l 0 e) := by
    show iblk (atStack m) c 13 (pt l.val 7) (ix3 0 0 e) = _
    blk_ext [iblk, i]
  rw [h, host_7]
  pointwise

theorem blk_be2 (l : Fin 3) (e : Fin 1024) : (blk (atStack m) c).be2 l.val 7 (ix3 0 0 e) = p18 m c (ix2 l e) := by
  have i := (idx_first l).2.2
  have h : (blk (atStack m) c).be2 l.val 7 (ix3 0 0 e) = (atStack m c main_v8 : Vec F S3x1x1024 .f32) (ix3 l 0 e) := by
    show iblk (atStack m) c 14 (pt l.val 7) (ix3 0 0 e) = _
    blk_ext [iblk, i]
  rw [h, host_8]
  pointwise

/-- What the first region leaves: the last point's block is the whole array. -/
theorem stackArr_eq : stackArr m c = out (blk (atStack m) c) := by
  refine (dat0 (atStack m) c).arrAt_eq_of_after_last 17 (pt 2 7) (by decide +kernel) _ fun j => ?_
  have e : win0_17.index (pt 2 7) = ![0, 0] := by decide +kernel
  blk_simp
  rw [after0_17]

end Cert.Stack

end
-- ==== Proof.Maths.lean ====
/- The numbers: an encoder layer over the reals, row by row, and the two ways of writing its normalisation and its GELU. -/
module

public import Idealize.ShloMosaic.Lib.Pointwise
public import Idealize.ShloMosaic.PureOps.Ideal.Laws

@[expose] public section

noncomputable section

namespace Cert.Num

open Idealize.ShloMosaic

/-! ## The constants -/

/-- The small number added to a variance. -/
def eps : ℝ := 10995116 * (2 : ℝ) ^ (-40 : ℤ)

theorem eps_pos : 0 < eps := by unfold eps; positivity

theorem word_eps : Ideal.ofBits .f32 0x3727C5AC#32 = (eps : EReal) := by
  unfold eps
  simp [Ideal.ofBits, Ideal.ieee, -EReal.coe_mul]

theorem word_1024 : Ideal.ofBits .f32 0x44800000#32 = ((1024 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_eighth : Ideal.ofBits .f32 0x3E000000#32 = ((1 / 8 : ℝ) : EReal) := by
  simp [Ideal.ofBits, Ideal.ieee, -EReal.coe_mul]; norm_num

/-- The root of one half, rounded. -/
def root : ℝ := 11863283 * (2 : ℝ) ^ (-24 : ℤ)

theorem word_root : Ideal.ofBits .f32 0x3F3504F3#32 = (root : EReal) := by
  unfold root
  simp [Ideal.ofBits, Ideal.ieee, -EReal.coe_mul]

theorem word_bot : Ideal.ofBits .f32 0xFF800000#32 = ⊥ := by
  simp [Ideal.ofBits, Ideal.ieee]

/-! ## Sums of reals -/

theorem coe_sum {n : ℕ} (f : Fin n → ℝ) : ((∑ i, f i : ℝ) : EReal) = ∑ i, (f i : EReal) :=
  map_sum (⟨⟨fun x : ℝ => (x : EReal), EReal.coe_zero⟩, EReal.coe_add⟩ : ℝ →+ EReal) f Finset.univ

/-- A product of a row with a row of weights, plus a shift. -/
def dense {k m : ℕ} (x : Fin k → ℝ) (w : Fin m → Fin k → ℝ) (b : Fin m → ℝ) (j : Fin m) : ℝ := ∑ e, x e * w j e + b j

theorem coe_dot {n : ℕ} (f g : Fin n → ℝ) : ∑ e, (f e : EReal) * (g e : EReal) = ((∑ e, f e * g e : ℝ) : EReal) := by
  rw [coe_sum]
  exact Finset.sum_congr rfl fun e _ => (EReal.coe_mul _ _).symm

theorem coe_dense {k m : ℕ} (x : Fin k → ℝ) (w : Fin m → Fin k → ℝ) (b : Fin m → ℝ) (j : Fin m) :
    ∑ e, (x e : EReal) * (w j e : EReal) + (b j : EReal) = (dense x w b j : EReal) := by
  rw [coe_dot, ← EReal.coe_add]; rfl

/-- Two projections in a row are one projection by the product of their weights. -/
theorem dense_dense {a b c : ℕ} (h : Fin a → ℝ) (u : Fin b → Fin a → ℝ) (p : Fin b → ℝ) (v : Fin c → Fin b → ℝ) (q : Fin c → ℝ)
    (j : Fin c) : ∑ d, h d * (∑ e, u e d * v j e) + (∑ e, p e * v j e + q j) = dense (dense h u p) v q j := by
  have e1 : ∑ d, h d * (∑ e, u e d * v j e) = ∑ e, (∑ d, h d * u e d) * v j e := by
    simp only [Finset.mul_sum, Finset.sum_mul]
    rw [Finset.sum_comm]
    exact Finset.sum_congr rfl fun e _ => Finset.sum_congr rfl fun d _ => (mul_assoc _ _ _).symm
  rw [e1, ← add_assoc, ← Finset.sum_add_distrib]
  unfold dense
  congr 1
  exact Finset.sum_congr rfl fun e _ => (add_mul _ _ _).symm

/-! ## The normalisation of a row -/

def mean (a : Fin 1024 → ℝ) : ℝ := (∑ k, a k) / 1024

def var (a : Fin 1024 → ℝ) : ℝ := (∑ k, (a k - mean a) * (a k - mean a)) / 1024

/-- An entry of the normalised row, before the shift. -/
def nrm (a : Fin 1024 → ℝ) (g : ℝ) (j : Fin 1024) : ℝ := (a j - mean a) / Real.sqrt (var a + eps) * g

theorem var_nonneg (a : Fin 1024 → ℝ) : 0 ≤ var a :=
  div_nonneg (Finset.sum_nonneg fun k _ => mul_self_nonneg _) (by norm_num)

theorem root_pos (a : Fin 1024 → ℝ) : 0 < Real.sqrt (var a + eps) :=
  Real.sqrt_pos.2 (add_pos_of_nonneg_of_pos (var_nonneg a) eps_pos)

/-- The variance is the mean of the squares less the square of the mean. -/
theorem var_eq (a : Fin 1024 → ℝ) : (∑ k, a k * a k) / 1024 - mean a * mean a = var a := by
  have h : ∑ k, a k = 1024 * mean a := by unfold mean; ring
  have e : ∑ k, (a k - mean a) * (a k - mean a) = ∑ k, a k * a k - 1024 * (mean a * mean a) := by
    have : ∀ k, (a k - mean a) * (a k - mean a) = a k * a k - 2 * mean a * a k + mean a * mean a := fun k => by ring
    simp only [this, Finset.sum_add_distrib, Finset.sum_sub_distrib, ← Finset.mul_sum, h, Finset.sum_const, Finset.card_univ,
      Fintype.card_fin, nsmul_eq_mul]
    push_cast; ring
  unfold var
  rw [e]; ring

theorem div_1024 (x : ℝ) : Ideal.div (x : EReal) ((1024 : ℝ) : EReal) = ((x / 1024 : ℝ) : EReal) := by
  rw [Ideal.div_coe (by norm_num), ← EReal.coe_mul, mul_one_div]

/-- The kernel's normalised entry, from the sum of the row and the sum of its squares. -/
def kNorm (s q x g b : EReal) : EReal :=
  x * (Ideal.rsqrt (max (Ideal.div q (Ideal.ofBits .f32 0x44800000#32)
        - Ideal.div s (Ideal.ofBits .f32 0x44800000#32) * Ideal.div s (Ideal.ofBits .f32 0x44800000#32)) 0
        + Ideal.ofBits .f32 0x3727C5AC#32) * g)
    + (b - Ideal.div s (Ideal.ofBits .f32 0x44800000#32)
        * (Ideal.rsqrt (max (Ideal.div q (Ideal.ofBits .f32 0x44800000#32)
          - Ideal.div s (Ideal.ofBits .f32 0x44800000#32) * Ideal.div s (Ideal.ofBits .f32 0x44800000#32)) 0
          + Ideal.ofBits .f32 0x3727C5AC#32) * g))

theorem kNorm_eq (a : Fin 1024 → ℝ) (g : ℝ) (b : EReal) (j : Fin 1024) :
    kNorm (∑ k, (a k : EReal)) (∑ k, (a k : EReal) * (a k : EReal)) (a j) g b = (nrm a g j : EReal) + b := by
  have hp := root_pos a
  have hv : 0 < var a + eps := add_pos_of_nonneg_of_pos (var_nonneg a) eps_pos
  unfold kNorm
  rw [coe_dot, ← coe_sum, word_1024, word_eps, div_1024, div_1024, ← EReal.coe_mul, ← EReal.coe_sub,
    show (∑ k, a k) / 1024 = mean a from rfl, var_eq, ← EReal.coe_zero, max_eq_left (EReal.coe_le_coe_iff.2 (var_nonneg a)),
    ← EReal.coe_add, Ideal.rsqrt_coe, if_neg (not_lt.2 hv.le), if_neg hv.ne', ← EReal.coe_mul, ← EReal.coe_mul, ← EReal.coe_mul]
  have e : nrm a g j = a j * ((Real.sqrt (var a + eps))⁻¹ * g) + -(mean a * ((Real.sqrt (var a + eps))⁻¹ * g)) := by
    unfold nrm; rw [div_eq_mul_inv]; ring
  rw [e, EReal.coe_add, EReal.coe_neg, sub_eq_add_neg, add_comm b, add_assoc]

/-- The plain normalised entry, from the mean and the sum of the squared deviations. -/
theorem plain_norm (a : Fin 1024 → ℝ) (g : ℝ) (b : EReal) (j : Fin 1024) :
    Ideal.div ((a j : EReal) - Ideal.div (∑ k, (a k : EReal)) ((1024 : ℝ) : EReal))
        (Ideal.sqrt (Ideal.div (∑ k, ((a k : EReal) - Ideal.div (∑ k, (a k : EReal)) ((1024 : ℝ) : EReal))
          * ((a k : EReal) - Ideal.div (∑ k, (a k : EReal)) ((1024 : ℝ) : EReal))) ((1024 : ℝ) : EReal) + (eps : EReal))) * (g : EReal) + b
      = (nrm a g j : EReal) + b := by
  have hp := root_pos a
  have hv : 0 < var a + eps := add_pos_of_nonneg_of_pos (var_nonneg a) eps_pos
  simp only [← coe_sum, div_1024, ← EReal.coe_sub, coe_dot]
  rw [show (∑ k, a k) / 1024 = mean a from rfl, show (∑ k, (a k - mean a) * (a k - mean a)) / 1024 = var a from rfl,
    ← EReal.coe_add, Ideal.sqrt_coe, if_neg (not_lt.2 hv.le), Ideal.div_coe hp.ne', ← EReal.coe_mul, ← EReal.coe_mul]
  unfold nrm
  rw [mul_one_div]

/-! ## The GELU -/

def erf (r : ℝ) : ℝ := 2 / Real.sqrt Real.pi * ∫ t in (0 : ℝ)..r, Real.exp (-(t ^ 2))

theorem erf_coe (r : ℝ) : Ideal.erf (r : EReal) = (erf r : EReal) := rfl

def gelu (p : ℝ) : ℝ := 1 / 2 * p * (1 + erf (p * root))

/-- The kernel's GELU, over the extended reals. -/
def kGelu (p : EReal) : EReal :=
  Ideal.ofBits .f32 0x3F000000#32 * p * (1 + Ideal.erf (p * Ideal.ofBits .f32 0x3F3504F3#32))

theorem kGelu_coe (p : ℝ) : kGelu p = (gelu p : EReal) := by
  unfold kGelu gelu
  rw [word_half, word_root, ← EReal.coe_mul, ← EReal.coe_mul, erf_coe, ← EReal.coe_one, ← EReal.coe_add, ← EReal.coe_mul]

/-- The complementary error function at the negated argument is one and the error function. -/
theorem plain_gelu (p : EReal) : Ideal.ofBits .f32 0x3F000000#32 * p * Ideal.erfc (-p * Ideal.ofBits .f32 0x3F3504F3#32) = kGelu p := by
  unfold kGelu
  rw [EReal.neg_mul, Ideal.erfc_neg]

/-! ## A layer, on a row -/

/-- The row with the attention added: its one key has all the weight. -/
def attn (h : Fin 1024 → ℝ) (wv : Fin 1024 → Fin 1024 → ℝ) (bv : Fin 1024 → ℝ) (wo : Fin 1024 → Fin 1024 → ℝ) (bo : Fin 1024 → ℝ)
    (j : Fin 1024) : ℝ := h j + dense (dense h wv bv) wo bo j

/-- The row normalised. -/
def norm (a : Fin 1024 → ℝ) (g b : Fin 1024 → ℝ) (j : Fin 1024) : ℝ := nrm a (g j) j + b j

/-- The row with the wide layer mixed back. -/
def mixed (n : Fin 1024 → ℝ) (w1 : Fin 4096 → Fin 1024 → ℝ) (b1 : Fin 4096 → ℝ) (w2 : Fin 1024 → Fin 4096 → ℝ) (b2 : Fin 1024 → ℝ)
    (j : Fin 1024) : ℝ := n j + dense (fun e => gelu (dense n w1 b1 e)) w2 b2 j

/-- The arrays of the stack as reals; those of a layer by its number. -/
structure Params where
  x : Fin 1024 → Fin 512 → ℝ
  wi : Fin 1024 → Fin 512 → ℝ
  bi : Fin 1024 → ℝ
  wq : Fin 1024 → Fin 1024 → ℝ
  bq : Fin 1024 → ℝ
  wk : Fin 1024 → Fin 1024 → ℝ
  bk : Fin 1024 → ℝ
  wv : Fin 1024 → Fin 1024 → ℝ
  bv : Fin 1024 → ℝ
  wo : Fin 1024 → Fin 1024 → ℝ
  bo : Fin 1024 → ℝ
  w1 : Fin 3 → Fin 4096 → Fin 1024 → ℝ
  b1 : Fin 3 → Fin 4096 → ℝ
  w2 : Fin 3 → Fin 1024 → Fin 4096 → ℝ
  b2 : Fin 3 → Fin 1024 → ℝ
  g1 : Fin 3 → Fin 1024 → ℝ
  be1 : Fin 3 → Fin 1024 → ℝ
  g2 : Fin 3 → Fin 1024 → ℝ
  be2 : Fin 3 → Fin 1024 → ℝ
  gf : Fin 1024 → ℝ

/-- A row after the attention of layer `l`. -/
def attended (R : Params) (l : Fin 3) (h : Fin 1024 → ℝ) : Fin 1024 → ℝ := norm (attn h R.wv R.bv R.wo R.bo) (R.g1 l) (R.be1 l)

/-- A row after layer `l`. -/
def layer (R : Params) (l : Fin 3) (h : Fin 1024 → ℝ) : Fin 1024 → ℝ :=
  norm (mixed (attended R l h) (R.w1 l) (R.b1 l) (R.w2 l) (R.b2 l)) (R.g2 l) (R.be2 l)

/-- Row `i` as it enters the first layer. -/
def row0 (R : Params) (i : Fin 1024) : Fin 1024 → ℝ := dense (R.x i) R.wi R.bi

/-- Row `i` after the three layers. -/
def row3 (R : Params) (i : Fin 1024) : Fin 1024 → ℝ := layer R 2 (layer R 1 (layer R 0 (row0 R i)))

/-- An entry of the head, over the extended reals. -/
def head (n : Fin 1024 → EReal) (w1 : Fin 4096 → Fin 1024 → EReal) (b1 : Fin 4096 → EReal) (w2 : Fin 128 → Fin 4096 → EReal)
    (b2 : Fin 128 → EReal) (j : Fin 128) : EReal :=
  ∑ e, kGelu (∑ k, n k * w1 e k + b1 e) * w2 j e + b2 j

/-- What a single key's weight is: the exponential of a number less itself. -/
theorem weight (s : ℝ) : Ideal.exp ((s : EReal) - max ⊥ (Finset.fold max ⊥ (fun _ : Fin 1 => (s : EReal)) Finset.univ)) = 1 := by
  have e : Finset.fold max ⊥ (fun _ : Fin 1 => (s : EReal)) Finset.univ = (s : EReal) := by simp
  rw [e, max_eq_right bot_le, ← EReal.coe_sub, sub_self, Ideal.exp_coe, Real.exp_zero, EReal.coe_one]

end Cert.Num

end
-- ==== Proof.KernelValue.lean ====
/- The stages of the stack on rows of reals: the kernel's folded projection, one-pass variance and column blocks
   give the layers of `Cert.Num`. -/
module

public import proofs.«01_k».proof.Proof.Closed
public import proofs.«01_k».proof.Proof.Maths

@[expose] public section

set_option maxRecDepth 16384

noncomputable section

namespace Cert.Stack

open Cert.KernelIdeal Cert.KernelIdeal.Gen
open Idealize.ShloMosaic Idealize.ShloMosaic.TcCoe
open Cert.Num

/-- A box holds the reals `f`. -/
def Rows (v : Vec Ideal S1024x1024 .f32) (f : Fin 1024 → Fin 1024 → ℝ) : Prop := ∀ i j, v (ix2 i j) = (f i j : EReal)

/-- The blocks hold the arrays of reals. -/
structure Holds (B : Blocks Ideal) (R : Params) : Prop where
  x : ∀ i k, B.x (ix2 i k) = (R.x i k : EReal)
  wi : ∀ i k, B.wi (ix2 i k) = (R.wi i k : EReal)
  bi : ∀ j, B.bi (ix2 0 j) = (R.bi j : EReal)
  wv : ∀ i k, B.wv (ix2 i k) = (R.wv i k : EReal)
  bv : ∀ j, B.bv (ix2 0 j) = (R.bv j : EReal)
  wo : ∀ i k, B.wo (ix2 i k) = (R.wo i k : EReal)
  bo : ∀ j, B.bo (ix2 0 j) = (R.bo j : EReal)
  w1 : ∀ (l : Fin 3) (j : Fin 4) (e k : Fin 1024), B.w1 l.val j.val (ix3 0 e k) = (R.w1 l ⟨1024 * j.val + e.val, by omega⟩ k : EReal)
  b1 : ∀ (l : Fin 3) (j : Fin 4) (e : Fin 1024), B.b1 l.val j.val (ix3 0 0 e) = (R.b1 l ⟨1024 * j.val + e.val, by omega⟩ : EReal)
  w2 : ∀ (l : Fin 3) (j : Fin 4) (e : Fin 256) (k : Fin 4096),
    B.w2 l.val (4 + j.val) (ix3 0 e k) = (R.w2 l ⟨256 * j.val + e.val, by omega⟩ k : EReal)
  b2 : ∀ (l : Fin 3) (j : Fin 4) (e : Fin 1024), B.b2 l.val (4 + j.val) (ix3 0 0 e) = (R.b2 l e : EReal)
  g1 : ∀ (l : Fin 3) (e : Fin 1024), B.g1 l.val 0 (ix3 0 0 e) = (R.g1 l e : EReal)
  be1 : ∀ (l : Fin 3) (e : Fin 1024), B.be1 l.val 0 (ix3 0 0 e) = (R.be1 l e : EReal)
  g2 : ∀ (l : Fin 3) (e : Fin 1024), B.g2 l.val 7 (ix3 0 0 e) = (R.g2 l e : EReal)
  be2 : ∀ (l : Fin 3) (e : Fin 1024), B.be2 l.val 7 (ix3 0 0 e) = (R.be2 l e : EReal)
  gf : ∀ j, B.gf (ix2 0 j) = (R.gf j : EReal)

variable {B : Blocks Ideal} {R : Params} (HB : Holds B R)
include HB

theorem hid_zero : Rows (hid B 0) (row0 R) := by
  intro i j
  show k0_pay3 B.x B.wi B.bi (ix2 i j) = _
  pointwise [k0_pay3]
  simp only [HB.x, HB.wi, HB.bi]
  exact coe_dense (R.x i) R.wi R.bi j

theorem wvo_at (d j : Fin 1024) : wvo B (ix2 d j) = ((∑ e, R.wv e d * R.wo j e : ℝ) : EReal) := by
  show k0_pay1 B.wv B.wo (ix2 d j) = _
  pointwise [k0_pay1]
  simp only [HB.wv, HB.wo]
  exact coe_dot _ _

theorem bvo_at (j : Fin 1024) : bvo B (ix2 0 j) = ((∑ e, R.bv e * R.wo j e + R.bo j : ℝ) : EReal) := by
  show k0_pay2 B.bv B.wo B.bo (ix2 0 j) = _
  pointwise [k0_pay2]
  simp only [HB.bv, HB.wo, HB.bo]
  rw [coe_dot, ← EReal.coe_add]

theorem att_rows {h : Vec Ideal S1024x1024 .f32} {f : Fin 1024 → Fin 1024 → ℝ} (hh : Rows h f) (l : Fin 3) :
    Rows (att B h l.val) (fun i => attended R l (f i)) := by
  intro i j
  have e : ∀ q : Fin 1024, h (ix2 i q) + ∑ x, h (ix2 i x) * wvo B (ix2 x q) + bvo B (ix2 0 q)
      = (attn (f i) R.wv R.bv R.wo R.bo q : EReal) := fun q => by
    simp only [hh _ _, wvo_at HB, bvo_at HB]
    rw [coe_dot, ← EReal.coe_add, ← EReal.coe_add, add_assoc]
    exact congrArg (fun z : ℝ => ((f i q + z : ℝ) : EReal)) (dense_dense _ _ _ _ _ _)
  show k0_pay8 h (wvo B) (bvo B) (B.g1 l.val 0) (B.be1 l.val 0) (ix2 i j) = _
  generalize hW : wvo B = W at e
  generalize hQ : bvo B = Q at e
  have hg := HB.g1 l j
  have hb := HB.be1 l j
  generalize B.g1 l.val 0 = G at hg
  generalize B.be1 l.val 0 = E at hb
  pointwise [k0_pay8]
  simp only [e, hg, hb]
  exact (kNorm_eq (attn (f i) R.wv R.bv R.wo R.bo) (R.g1 l j) (R.be1 l j) j).trans (EReal.coe_add _ _).symm

theorem wide_at {a : Vec Ideal S1024x1024 .f32} {f : Fin 1024 → Fin 1024 → ℝ} (ha : Rows a f) (l : Fin 3) (i : Fin 1024) (e : Fin 4096) :
    wide B a l.val (ix2 i e) = (gelu (dense (f i) (R.w1 l) (R.b1 l) e) : EReal) := by
  have hq : e.val / 1024 < 4 := by omega
  have hr : e.val % 1024 < 1024 := by omega
  show k0_pay4 a (B.w1 l.val (e.val / 1024)) (B.b1 l.val (e.val / 1024)) (ix2 i ⟨e.val % 1024, hr⟩) = _
  have hw := fun k => HB.w1 l ⟨e.val / 1024, hq⟩ ⟨e.val % 1024, hr⟩ k
  have hb := HB.b1 l ⟨e.val / 1024, hq⟩ ⟨e.val % 1024, hr⟩
  have he : (⟨1024 * (e.val / 1024) + e.val % 1024, by omega⟩ : Fin 4096) = e := Fin.ext (by dsimp only; omega)
  simp only [he] at hw hb
  generalize B.w1 l.val (e.val / 1024) = U at hw
  generalize B.b1 l.val (e.val / 1024) = V at hb
  generalize (⟨e.val % 1024, hr⟩ : Fin 1024) = r at hw hb
  pointwise [k0_pay4]
  simp only [ha _ _, hw, hb, coe_dense, Ideal.erf_def]
  exact kGelu_coe _

theorem mix_rows {a : Vec Ideal S1024x1024 .f32} {f : Fin 1024 → Fin 1024 → ℝ} (ha : Rows a f) (l : Fin 3) :
    Rows (mix B a l.val) (fun i => Cert.Num.mixed (f i) (R.w1 l) (R.b1 l) (R.w2 l) (R.b2 l)) := by
  intro i j
  have hq : j.val / 256 < 4 := by omega
  have hr : j.val % 256 < 256 := by omega
  show k0_pay5 (wide B a l.val) (B.w2 l.val (4 + j.val / 256)) (colsOf a (j.val / 256)) (rowOf (B.b2 l.val (4 + j.val / 256)) (j.val / 256))
    (ix2 i ⟨j.val % 256, hr⟩) = _
  have hj : (⟨256 * (j.val / 256) + j.val % 256, by omega⟩ : Fin 1024) = j := Fin.ext (by dsimp only; omega)
  have hj' : (⟨(256 * (j.val / 256) + j.val % 256) % 1024, Nat.mod_lt _ (by decide)⟩ : Fin 1024) = j := Fin.ext (by dsimp only; omega)
  have hw := fun k => HB.w2 l ⟨j.val / 256, hq⟩ ⟨j.val % 256, hr⟩ k
  simp only [hj] at hw
  have hb : rowOf (B.b2 l.val (4 + j.val / 256)) (j.val / 256) (ix3 0 0 ⟨j.val % 256, hr⟩) = (R.b2 l j : EReal) := by
    refine (congrArg (fun z => B.b2 l.val (4 + j.val / 256) (ix3 0 0 z)) hj').trans ?_
    exact HB.b2 l ⟨j.val / 256, hq⟩ j
  have hc : colsOf a (j.val / 256) (ix2 i ⟨j.val % 256, hr⟩) = (f i j : EReal) :=
    (congrArg (fun z => a (ix2 i z)) hj').trans (ha i j)
  have hg := wide_at HB ha l i
  generalize rowOf (B.b2 l.val (4 + j.val / 256)) (j.val / 256) = U at hb
  generalize colsOf a (j.val / 256) = C at hc
  generalize B.w2 l.val (4 + j.val / 256) = V at hw
  generalize wide B a l.val = G at hg
  generalize (⟨j.val % 256, hr⟩ : Fin 256) = r at hw hb hc
  pointwise [k0_pay5]
  simp only [hw, hb, hc, hg]
  rw [add_assoc, coe_dense (fun e => gelu (dense (f i) (R.w1 l) (R.b1 l) e)), ← EReal.coe_add]
  rfl

theorem hid_succ (l : Fin 3) {f : Fin 1024 → Fin 1024 → ℝ} (hh : Rows (hid B l.val) f) :
    Rows (hid B (l.val + 1)) (fun i => layer R l (f i)) := by
  intro i j
  show k0_pay6 (mix B (att B (hid B l.val) l.val) l.val) (B.g2 l.val 7) (B.be2 l.val 7) (ix2 i j) = _
  have hm := mix_rows HB (att_rows HB hh l) l
  have hg := HB.g2 l j
  have hb := HB.be2 l j
  generalize mix B (att B (hid B l.val) l.val) l.val = M at hm
  generalize B.g2 l.val 7 = G at hg
  generalize B.be2 l.val 7 = E at hb
  pointwise [k0_pay6]
  simp only [hm _ _, hg, hb]
  exact (kNorm_eq (Cert.Num.mixed (attended R l (f i)) (R.w1 l) (R.b1 l) (R.w2 l) (R.b2 l)) (R.g2 l j) (R.be2 l j) j).trans (EReal.coe_add _ _).symm

theorem hid_three : Rows (hid B 3) (row3 R) := hid_succ HB 2 (hid_succ HB 1 (hid_succ HB 0 (hid_zero HB)))

/-- What the stack writes: the rows after the last normalisation, whose shift is any extended real. -/
theorem out_at (i j : Fin 1024) : out B (ix2 i j) = (nrm (row3 R i) (R.gf j) j : EReal) + B.bf (ix2 0 j) := by
  show k0_pay7 (hid B 3) B.gf B.bf (ix2 i j) = _
  have hm := hid_three HB
  have hg := HB.gf j
  generalize hid B 3 = M at hm
  pointwise [k0_pay7]
  simp only [hm _ _, hg]
  exact kNorm_eq (row3 R i) (R.gf j) _ j

end Cert.Stack

end
-- ==== Proof.Given.lean ====
/- The precondition gives arrays of real numbers, and the blocks of the stack hold them. -/
module

public import proofs.«01_k».proof.Proof.Reads
public import proofs.«01_k».proof.Proof.KernelValue
public import proofs.«01_k».proof.Defs

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Num (Params)

/-- The side conditions of the precondition's operations. -/
theorem pre_facts : Cert.Pre_finite.Facts := by
  constructor <;> decide

/-- Every entry is a real number. -/
def AllReal {s : Shape} (a : Vec Ideal s .f32) : Prop := ∀ i, a i = (((a i : EReal).toReal : ℝ) : EReal)

theorem real_of_lt {s : Shape} (a : FVec Ideal s .f32) (hb : (⟨0, ![]⟩ : Shape).BroadcastsInDim s ![])
    (h : cmpf .olt (Host.absf a) (broadcastInDim s ![] hb (constant (⟨0, ![]⟩ : Shape) .f32 0x7F800000#32)) = fun _ => 1#1) : AllReal a := by
  intro i
  have hw : (Ideal.ofBits .f32 0x7F800000#32 : EReal) = ⊤ := by simp [Ideal.ofBits, Ideal.ieee]
  have hi : Ideal.cmp .olt (max (a i : EReal) (-(a i : EReal))) (Ideal.ofBits .f32 0x7F800000#32) = 1#1 := congrFun h i
  rw [hw] at hi
  have hd : BitVec.ofBool (decide (max (a i : EReal) (-(a i : EReal)) < ⊤)) = 1#1 := hi
  have hb : ∀ b : Bool, BitVec.ofBool b = 1#1 → b = true := by decide
  have hl := of_decide_eq_true (hb _ hd)
  have ht : (a i : EReal) ≠ ⊤ := fun e => absurd (lt_of_le_of_lt (le_max_left _ _) hl) (by rw [e]; exact lt_irrefl _)
  have hn : (a i : EReal) ≠ ⊥ := fun e => absurd (lt_of_le_of_lt (le_max_right _ _) hl) (by rw [e, EReal.neg_bot]; exact lt_irrefl _)
  exact (EReal.coe_toReal ht hn).symm

/-- A conjunction holds everywhere just when both sides do. -/
theorem both {s : Shape} (p q : IVec s 1) (h : andi p q = fun _ => 1#1) : p = (fun _ => 1#1) ∧ q = fun _ => 1#1 := by
  have k : ∀ a b : BitVec 1, a &&& b = 1#1 → a = 1#1 ∧ b = 1#1 := by decide
  exact ⟨funext fun i => (k _ _ (congrFun h i)).1, funext fun i => (k _ _ (congrFun h i)).2⟩

variable (m : (ℓ : Loc nD τ sig) → Buf (Elt Ideal) ℓ) (c : Dev nD)

/-- The arrays of reals. -/
def params : Params where
  x i k := (p0 m c (ix2 i k) : EReal).toReal
  wi i k := (p1 m c (ix2 i k) : EReal).toReal
  bi j := (p2 m c (ix1 j) : EReal).toReal
  wq i k := (p3 m c (ix2 i k) : EReal).toReal
  bq j := (p4 m c (ix1 j) : EReal).toReal
  wk i k := (p5 m c (ix2 i k) : EReal).toReal
  bk j := (p6 m c (ix1 j) : EReal).toReal
  wv i k := (p7 m c (ix2 i k) : EReal).toReal
  bv j := (p8 m c (ix1 j) : EReal).toReal
  wo i k := (p9 m c (ix2 i k) : EReal).toReal
  bo j := (p10 m c (ix1 j) : EReal).toReal
  w1 l e k := (p11 m c (ix3 l e k) : EReal).toReal
  b1 l e := (p12 m c (ix2 l e) : EReal).toReal
  w2 l e k := (p13 m c (ix3 l e k) : EReal).toReal
  b2 l e := (p14 m c (ix2 l e) : EReal).toReal
  g1 l e := (p15 m c (ix2 l e) : EReal).toReal
  be1 l e := (p16 m c (ix2 l e) : EReal).toReal
  g2 l e := (p17 m c (ix2 l e) : EReal).toReal
  be2 l e := (p18 m c (ix2 l e) : EReal).toReal
  gf j := (p19 m c (ix1 j) : EReal).toReal

/-- Every argument but the last five has real entries. -/
structure Real : Prop where
  x : AllReal (p0 m c)
  wi : AllReal (p1 m c)
  bi : AllReal (p2 m c)
  wq : AllReal (p3 m c)
  bq : AllReal (p4 m c)
  wk : AllReal (p5 m c)
  bk : AllReal (p6 m c)
  wv : AllReal (p7 m c)
  bv : AllReal (p8 m c)
  wo : AllReal (p9 m c)
  bo : AllReal (p10 m c)
  w1 : AllReal (p11 m c)
  b1 : AllReal (p12 m c)
  w2 : AllReal (p13 m c)
  b2 : AllReal (p14 m c)
  g1 : AllReal (p15 m c)
  be1 : AllReal (p16 m c)
  g2 : AllReal (p17 m c)
  be2 : AllReal (p18 m c)
  gf : AllReal (p19 m c)

theorem real_of_pre [Cert.Pre_finite.Facts] (h : Cert.Pre_KernelIdeal_finite m) : Real m c := by
  obtain ⟨a0, a1, a2, h11, h12, h13, a6⟩ := h c
  obtain ⟨h0, h1⟩ := both _ _ a0
  obtain ⟨a1, h9⟩ := both _ _ a1
  obtain ⟨a1, h7⟩ := both _ _ a1
  obtain ⟨h3, h5⟩ := both _ _ a1
  obtain ⟨a2, h19⟩ := both _ _ a2
  obtain ⟨a2, h10⟩ := both _ _ a2
  obtain ⟨a2, h8⟩ := both _ _ a2
  obtain ⟨a2, h6⟩ := both _ _ a2
  obtain ⟨h2, h4⟩ := both _ _ a2
  obtain ⟨a6, h18⟩ := both _ _ a6
  obtain ⟨a6, h17⟩ := both _ _ a6
  obtain ⟨a6, h16⟩ := both _ _ a6
  obtain ⟨h14, h15⟩ := both _ _ a6
  exact ⟨real_of_lt _ _ h0, real_of_lt _ _ h1, real_of_lt _ _ h2, real_of_lt _ _ h3, real_of_lt _ _ h4, real_of_lt _ _ h5, real_of_lt _ _ h6, real_of_lt _ _ h7, real_of_lt _ _ h8, real_of_lt _ _ h9, real_of_lt _ _ h10, real_of_lt _ _ h11, real_of_lt _ _ h12, real_of_lt _ _ h13, real_of_lt _ _ h14, real_of_lt _ _ h15, real_of_lt _ _ h16, real_of_lt _ _ h17, real_of_lt _ _ h18, real_of_lt _ _ h19⟩

variable {m c}

theorem holds (h : Real m c) : Holds (blk (atStack m) c) (params m c) where
  x i k := (blk_x m c i k).trans (h.x _)
  wi i k := (blk_wi m c i k).trans (h.wi _)
  bi j := (blk_bi m c j).trans (h.bi _)
  wv i k := (blk_wv m c i k).trans (h.wv _)
  bv j := (blk_bv m c j).trans (h.bv _)
  wo i k := (blk_wo m c i k).trans (h.wo _)
  bo j := (blk_bo m c j).trans (h.bo _)
  w1 l j e k := (blk_w1 m c l j e k).trans (h.w1 _)
  b1 l j e := (blk_b1 m c l j e).trans (h.b1 _)
  w2 l j e k := (blk_w2 m c l j e k).trans (h.w2 _)
  b2 l j e := (blk_b2 m c l j e).trans (h.b2 _)
  g1 l e := (blk_g1 m c l e).trans (h.g1 _)
  be1 l e := (blk_be1 m c l e).trans (h.be1 _)
  g2 l e := (blk_g2 m c l e).trans (h.g2 _)
  be2 l e := (blk_be2 m c l e).trans (h.be2 _)
  gf j := (blk_gf m c j).trans (h.gf _)

end Cert.Stack

end
-- ==== Proof.Head.lean ====
/- The head: its blocks as entries of what it reads, its result as the entries of `Cert.Num.head`. -/
module

public import proofs.«01_k».proof.Proof.Reads
public import proofs.«01_k».proof.Proof.Maths
public import Idealize.ShloMosaic.PureOps.Ideal

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Num (kGelu head)

section

variable {F : FTy → Type} [FloatOps F]

variable (m : (ℓ : Loc nD τ sig) → Buf (Elt F) ℓ) (c : Dev nD)

theorem idx_head : ∀ t : Fin cfg1.N, (win1_0.index t = ![t.val / 2, 0] ∧ win1_1.index t = ![t.val % 2, 0])
    ∧ (win1_2.index t = ![0, t.val % 2] ∧ win1_3.index t = ![0, t.val % 2]) ∧ win1_4.index t = ![0, 0] ∧ win1_5.index t = ![t.val / 2, 0] := by
  decide +kernel

theorem half_lt (t : Fin cfg1.N) (e : Fin 2048) : 2048 * (t.val % 2) + e.val < 4096 := by omega

theorem row_lt (t : Fin cfg1.N) (i : Fin 512) : 512 * (t.val / 2) + i.val < 1024 := by
  have : t.val < 4 := t.isLt
  omega

theorem hblk_0 (t : Fin cfg1.N) (i : Fin 512) (k : Fin 1024) :
    hblk (atHead m) c 0 t (ix2 i k) = (stackArr m c : Vec F S1024x1024 .f32) (ix2 ⟨512 * (t.val / 2) + i.val, row_lt t i⟩ k) := by
  have e := (idx_head t).1.1
  rw [← atHead_stack]
  blk_ext [hblk, e]

theorem hblk_1 (t : Fin cfg1.N) (e : Fin 2048) (k : Fin 1024) :
    hblk (atHead m) c 1 t (ix2 e k) = p21 m c (ix2 ⟨2048 * (t.val % 2) + e.val, half_lt t e⟩ k) := by
  have e := (idx_head t).1.2
  rw [← host_arg21, ← atHead_of m c main_arg21 (by decide)]
  blk_ext [hblk, e]

theorem hblk_2 (t : Fin cfg1.N) (e : Fin 2048) :
    hblk (atHead m) c 2 t (ix2 0 e) = p22 m c (ix1 ⟨2048 * (t.val % 2) + e.val, half_lt t e⟩) := by
  have i := (idx_head t).2.1.1
  have h : hblk (atHead m) c 2 t (ix2 0 e) = (atStack m c main_v11 : Vec F S1x4096 .f32) (ix2 0 ⟨2048 * (t.val % 2) + e.val, half_lt t e⟩) := by
    rw [← atHead_of m c main_v11 (by decide)]
    blk_ext [hblk, i]
  rw [h, host_11]
  pointwise

theorem hblk_3 (t : Fin cfg1.N) (j : Fin 128) (e : Fin 2048) :
    hblk (atHead m) c 3 t (ix2 j e) = p23 m c (ix2 j ⟨2048 * (t.val % 2) + e.val, half_lt t e⟩) := by
  have i := (idx_head t).2.1.2
  rw [← host_arg23, ← atHead_of m c main_arg23 (by decide)]
  blk_ext [hblk, i]

theorem hblk_4 (t : Fin cfg1.N) (j : Fin 128) : hblk (atHead m) c 4 t (ix2 0 j) = p24 m c (ix1 j) := by
  have i := (idx_head t).2.2.1
  have h : hblk (atHead m) c 4 t (ix2 0 j) = (atStack m c main_v12 : Vec F S1x128 .f32) (ix2 0 j) := by
    rw [← atHead_of m c main_v12 (by decide)]
    blk_ext [hblk, i]
  rw [h, host_12]
  pointwise

end

/-- One half's share of an entry. -/
theorem part_at (x : Vec Ideal S512x1024 .f32) (w1 : Vec Ideal S2048x1024 .f32) (b1 : Vec Ideal S1x2048 .f32) (w2 : Vec Ideal S128x2048 .f32)
    (i : Fin 512) (j : Fin 128) : (k1_pay1 x w1 b1 w2 : Vec Ideal S512x128 .f32) (ix2 i j)
      = ∑ e, kGelu (∑ k, x (ix2 i k) * w1 (ix2 e k) + b1 (ix2 0 e)) * w2 (ix2 j e) := by
  pointwise [k1_pay1]
  rfl

theorem opened_at (x : Vec Ideal S512x1024 .f32) (w1 : Vec Ideal S2048x1024 .f32) (b1 : Vec Ideal S1x2048 .f32) (w2 : Vec Ideal S128x2048 .f32)
    (b2 : Vec Ideal S1x128 .f32) (i : Fin 512) (j : Fin 128) : (k1_pay2 x w1 b1 w2 b2 : Vec Ideal S512x128 .f32) (ix2 i j)
      = (k1_pay1 x w1 b1 w2 : Vec Ideal S512x128 .f32) (ix2 i j) + b2 (ix2 0 j) := by
  unfold k1_pay2
  generalize (k1_pay1 x w1 b1 w2 : Vec Ideal S512x128 .f32) = p
  pointwise

theorem added_at (x : Vec Ideal S512x1024 .f32) (w1 : Vec Ideal S2048x1024 .f32) (b1 : Vec Ideal S1x2048 .f32) (w2 : Vec Ideal S128x2048 .f32)
    (a : Vec Ideal S512x128 .f32) (i : Fin 512) (j : Fin 128) : (k1_pay3 x w1 b1 w2 a : Vec Ideal S512x128 .f32) (ix2 i j)
      = a (ix2 i j) + (k1_pay1 x w1 b1 w2 : Vec Ideal S512x128 .f32) (ix2 i j) := by
  unfold k1_pay3
  generalize (k1_pay1 x w1 b1 w2 : Vec Ideal S512x128 .f32) = p
  pointwise

end Cert.Stack

end
-- ==== Proof.HeadValue.lean ====
/- The result array of the head: what `Cert.Num.head` makes of the rows the stack leaves. -/
module

public import proofs.«01_k».proof.Proof.Head

@[expose] public section

set_option maxRecDepth 16384

noncomputable section

namespace Cert.Stack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Num (kGelu head)

variable (m : (ℓ : Loc nD τ sig) → Buf (Elt Ideal) ℓ) (c : Dev nD)

/-- Row `i`, column `k` of the array the stack leaves. -/
def left (i k : Fin 1024) : EReal := (stackArr m c : Vec Ideal S1024x1024 .f32) (ix2 i k)

/-- The head's entries, from the array the stack leaves. -/
def headAt (i : Fin 1024) (j : Fin 128) : EReal :=
  head (left m c i) (fun e k => p21 m c (ix2 e k)) (fun e => p22 m c (ix1 e)) (fun j e => p23 m c (ix2 j e)) (fun j => p24 m c (ix1 j)) j

/-- One term of an entry's sum. -/
def term (i : Fin 1024) (j : Fin 128) (e : Fin 4096) : EReal :=
  kGelu (∑ k, left m c i k * p21 m c (ix2 e k) + p22 m c (ix1 e)) * p23 m c (ix2 j e)

theorem headAt_eq (i : Fin 1024) (j : Fin 128) : headAt m c i j = ∑ e, term m c i j e + p24 m c (ix1 j) := rfl

theorem share (t : Fin cfg1.N) (i : Fin 512) (j : Fin 128) :
    (k1_pay1 (hblk (atHead m) c 0 t) (hblk (atHead m) c 1 t) (hblk (atHead m) c 2 t) (hblk (atHead m) c 3 t) : Vec Ideal S512x128 .f32) (ix2 i j)
      = ∑ e : Fin 2048, term m c ⟨512 * (t.val / 2) + i.val, row_lt t i⟩ j ⟨2048 * (t.val % 2) + e.val, half_lt t e⟩ := by
  refine (part_at _ _ _ _ i j).trans (Finset.sum_congr rfl fun e _ => ?_)
  unfold term left
  rw [hblk_2, hblk_3]
  simp only [hblk_0, hblk_1]

/-- The two halves of a sum. -/
theorem halves (f : Fin 4096 → EReal) (a b : ℕ) (ha : a = 0) (hb : b = 1) (h0 : ∀ e : Fin 2048, 2048 * a + e.val < 4096)
    (h1 : ∀ e : Fin 2048, 2048 * b + e.val < 4096) : ∑ e : Fin 2048, f ⟨2048 * a + e.val, h0 e⟩ + ∑ e : Fin 2048, f ⟨2048 * b + e.val, h1 e⟩ = ∑ e, f e := by
  subst ha hb
  rw [Fin.sum_univ_two_halves 2048 2048 rfl f]
  refine congrArg₂ (· + ·) (Finset.sum_congr rfl fun e _ => congrArg f (Fin.ext ?_)) (Finset.sum_congr rfl fun e _ => congrArg f (Fin.ext ?_))
  · dsimp only; omega
  · dsimp only

theorem headOut_at (t : Fin cfg1.N) (h : t.val % 2 = 1) (i : Fin 512) (j : Fin 128) :
    headOut (atHead m) c t (ix2 i j) = headAt m c ⟨512 * (t.val / 2) + i.val, row_lt t i⟩ j := by
  have hp : (prev t).val = t.val - 1 := rfl
  have h0 : (prev t).val % 2 = 0 := by omega
  have hd : (⟨512 * ((prev t).val / 2) + i.val, row_lt (prev t) i⟩ : Fin 1024) = ⟨512 * (t.val / 2) + i.val, row_lt t i⟩ :=
    Fin.ext (by dsimp only; omega)
  unfold headOut opened
  rw [if_neg (by omega)]
  refine (added_at _ _ _ _ _ i j).trans ?_
  rw [opened_at, share, share, hblk_4, hd, headAt_eq, add_right_comm]
  exact congrArg (· + _) (halves (term m c ⟨512 * (t.val / 2) + i.val, row_lt t i⟩ j) _ _ h0 h _ _)

/-- The result array, entry by entry. -/
def result : Vec Ideal S1024x128 .f32 := fun y => headAt m c (y 0) (y 1)

theorem headArr_eq : headArr m c = result m c := by
  refine (dat1 (atHead m) c).arrAt_eq_of_covers 5 _ (by decide +kernel) fun t hf y => ?_
  have e := (idx_head t).2.2.2
  have h1 : t.val % 2 = 1 := (flush1_5 t).1 hf
  have hy : y = ix2 (n0 := 512) (n1 := 128) (y 0) (y 1) := by
    funext a
    fin_cases a <;> rfl
  blk_simp [e]
  rw [after1_5]
  refine (congrArg (headOut (atHead m) c t) hy).trans ((headOut_at m c t h1 (y 0) (y 1)).trans ?_)
  refine congrArg₂ (headAt m c) (Fin.ext ?_) (Fin.ext ?_)
  · blk_simp [e]
    dsimp only
    omega
  · blk_simp [e]

end Cert.Stack

end
-- ==== Proof.RefStages.lean ====
/- The stages of the reference as functions of the rows that enter them. -/
module

public import proofs.«01_k».proof.Proof.Gen.ReferenceIdeal

@[expose] public section

set_option maxRecDepth 16384

noncomputable section

namespace Cert.Plain

open Idealize.ShloMosaic Idealize.ShloMosaic.TcCoe Idealize.SL.Sem
open Cert.ReferenceIdeal Cert.ReferenceIdeal.Gen

variable {F : FTy → Type} [FloatOps F]

/-- The rows entering the first layer. -/
def rIn (x : FVec F S1024x512 .f32) (wi : FVec F S1024x512 .f32) (bi : FVec F S1024 .f32) : FVec F S1024x1x1024 .f32 :=
  broadcastInDim S1024x1x1024 ![0, 2] bcast_S1024x1024_S1024x1x1024_0_2 (addf (Host.dotGeneral dot_S1024x512_S512x1024_S1024x1024_1_0_0_1_n_n none x (transpose S512x1024 [1, 0] wi transposes_S1024x512_S512x1024_1_0)) (broadcastInDim S1024x1024 ![0, 1] bcast_S1x1024_S1024x1024_0_1 (broadcastInDim S1x1024 ![1] bcast_S1024_S1x1024_1 bi)))

/-- The values, by head. -/
def rVal (h : FVec F S1024x1x1024 .f32) (wv : FVec F S1024x1024 .f32) (bv : FVec F S1024 .f32) : FVec F S1024x16x1x64 .f32 :=
  transpose S1024x16x1x64 [0, 2, 1, 3] (shapeCast _ (addf (Host.dotGeneral dot_S1024x1x1024_S1024x1024_S1024x1x1024_2_0_01_1_n_n none h (transpose S1024x1024 [1, 0] wv transposes_S1024x1024_S1024x1024_1_0)) (broadcastInDim S1024x1x1024 ![0, 1, 2] bcast_S1x1x1024_S1024x1x1024_0_1_2 (broadcastInDim S1x1x1024 ![2] bcast_S1024_S1x1x1024_2 bv))) shapeCasts_S1024x1x1024_S1024x1x16x64) transposes_S1024x1x16x64_S1024x16x1x64_0_2_1_3

/-- The scores, by head. -/
def rSco (h : FVec F S1024x1x1024 .f32) (wq : FVec F S1024x1024 .f32) (bq : FVec F S1024 .f32) (wk : FVec F S1024x1024 .f32) (bk : FVec F S1024 .f32) : FVec F S1024x16x1x1 .f32 :=
  mulf (Host.dotGeneral dot_S1024x16x1x64_S1024x16x1x64_S1024x16x1x1_3_3_2_2_01_01 none (transpose S1024x16x1x64 [0, 2, 1, 3] (shapeCast _ (addf (Host.dotGeneral dot_S1024x1x1024_S1024x1024_S1024x1x1024_2_0_01_1_n_n none h (transpose S1024x1024 [1, 0] wq transposes_S1024x1024_S1024x1024_1_0)) (broadcastInDim S1024x1x1024 ![0, 1, 2] bcast_S1x1x1024_S1024x1x1024_0_1_2 (broadcastInDim S1x1x1024 ![2] bcast_S1024_S1x1x1024_2 bq))) shapeCasts_S1024x1x1024_S1024x1x16x64) transposes_S1024x1x16x64_S1024x16x1x64_0_2_1_3) (transpose S1024x16x1x64 [0, 2, 1, 3] (shapeCast _ (addf (Host.dotGeneral dot_S1024x1x1024_S1024x1024_S1024x1x1024_2_0_01_1_n_n none h (transpose S1024x1024 [1, 0] wk transposes_S1024x1024_S1024x1024_1_0)) (broadcastInDim S1024x1x1024 ![0, 1, 2] bcast_S1x1x1024_S1024x1x1024_0_1_2 (broadcastInDim S1x1x1024 ![2] bcast_S1024_S1x1x1024_2 bk))) shapeCasts_S1024x1x1024_S1024x1x16x64) transposes_S1024x1x16x64_S1024x16x1x64_0_2_1_3)) (broadcastInDim S1024x16x1x1 ![] bcast_S_S1024x16x1x1 (constant S_ .f32 0x3E000000#32))

/-- The exponentials of the scores less their maximum. -/
def rExp (s : FVec F S1024x16x1x1 .f32) : FVec F S1024x16x1x1 .f32 :=
  Host.exp (subf s (broadcastInDim S1024x16x1x1 ![0, 1, 2] bcast_S1024x16x1_S1024x16x1x1_0_1_2 (maximumf (broadcastInDim S1024x16x1 ![] bcast_S_S1024x16x1 (constant S_ .f32 0xFF800000#32)) (Host.reduce FloatOps.maximumf s (constant S_ .f32 0xFF800000#32) reducesTo_S1024x16x1x1_S1024x16x1_d3 h_S_))))

/-- The rows with the attention added. -/
def rAtt (h : FVec F S1024x1x1024 .f32) (e : FVec F S1024x16x1x1 .f32) (v : FVec F S1024x16x1x64 .f32) (wo : FVec F S1024x1024 .f32) (bo : FVec F S1024 .f32) : FVec F S1024x1x1024 .f32 :=
  addf h (addf (Host.dotGeneral dot_S1024x1x1024_S1024x1024_S1024x1x1024_2_0_01_1_n_n none (shapeCast _ (transpose S1024x1x16x64 [0, 2, 1, 3] (Host.dynamicUpdateSlice (Host.divf (broadcastInDim S1024x16x1x64 ![0, 1, 3] bcast_S1024x16x64_S1024x16x1x64_0_1_3 (Host.reduceAdd v (constant S_ .f32 0x00000000#32) reducesTo_S1024x16x1x64_S1024x16x64_d2 h_S_)) (broadcastInDim S1024x16x1x64 ![] bcast_S_S1024x16x1x64 (constant S_ .f32 0x3F800000#32))) (Host.dotGeneral dot_S1024x16x1x1_S1024x16x1x64_S1024x16x1x64_3_2_2_3_01_01 none (Host.divf e (broadcastInDim S1024x16x1x1 ![0, 1, 2] bcast_S1024x16x1_S1024x16x1x1_0_1_2 (Host.reduceAdd e (constant S_ .f32 0x00000000#32) reducesTo_S1024x16x1x1_S1024x16x1_d3 h_S_))) v) (fun k => (((![constantI S_ 32 0#32, constantI S_ 32 0#32, constantI S_ 32 0#32, constantI S_ 32 0#32] : Fin 4 → (⟨S_, .i32⟩ : BufTy).Contents (Elt F))) k (Shape.Idx.first h_S_)).toInt) updateFits_S1024x16x1x64_S1024x16x1x64) transposes_S1024x16x1x64_S1024x1x16x64_0_2_1_3) shapeCasts_S1024x1x16x64_S1024x1x1024) (transpose S1024x1024 [1, 0] wo transposes_S1024x1024_S1024x1024_1_0)) (broadcastInDim S1024x1x1024 ![0, 1, 2] bcast_S1x1x1024_S1024x1x1024_0_1_2 (broadcastInDim S1x1x1024 ![2] bcast_S1024_S1x1x1024_2 bo)))

/-- The deviations from the mean. -/
def rDev (a : FVec F S1024x1x1024 .f32) : FVec F S1024x1x1024 .f32 :=
  subf a (broadcastInDim S1024x1x1024 ![0, 1, 2] bcast_S1024x1x1_S1024x1x1024_0_1_2 (Host.divf (broadcastInDim S1024x1x1 ![0, 1] bcast_S1024x1_S1024x1x1_0_1 (Host.reduceAdd a (constant S_ .f32 0x00000000#32) reducesTo_S1024x1x1024_S1024x1_d2 h_S_)) (broadcastInDim S1024x1x1 ![] bcast_S_S1024x1x1 (constant S_ .f32 0x44800000#32))))

/-- The number of entries of a row. -/
def rCnt : FVec F S_ .f32 :=
  subf (constant S_ .f32 0x44800000#32) (sitofp .f32 (constantI S_ 32 0#32))

/-- The normalised rows. -/
def rNorm (a : FVec F S1024x1x1024 .f32) (g : FVec F S1024 .f32) (b : FVec F S1024 .f32) : FVec F S1024x1x1024 .f32 :=
  addf (mulf (Host.divf (subf a (broadcastInDim S1024x1x1024 ![0, 1, 2] bcast_S1024x1x1_S1024x1x1024_0_1_2 (Host.divf (broadcastInDim S1024x1x1 ![0, 1] bcast_S1024x1_S1024x1x1_0_1 (Host.reduceAdd a (constant S_ .f32 0x00000000#32) reducesTo_S1024x1x1024_S1024x1_d2 h_S_)) (broadcastInDim S1024x1x1 ![] bcast_S_S1024x1x1 (constant S_ .f32 0x44800000#32))))) (broadcastInDim S1024x1x1024 ![0, 1, 2] bcast_S1024x1x1_S1024x1x1024_0_1_2 (Host.sqrt (addf (select (broadcastInDim S1024x1x1 ![] bcast_S_S1024x1x1 (cmpf .ogt (rCnt (F := F)) (constant S_ .f32 0x00000000#32))) (Host.divf (broadcastInDim S1024x1x1 ![0, 1] bcast_S1024x1_S1024x1x1_0_1 (Host.reduceAdd (mulf (rDev a) (rDev a)) (constant S_ .f32 0x00000000#32) reducesTo_S1024x1x1024_S1024x1_d2 h_S_)) (broadcastInDim S1024x1x1 ![] bcast_S_S1024x1x1 (rCnt (F := F)))) (broadcastInDim S1024x1x1 ![] bcast_S_S1024x1x1 (id (constant S_ .f32 0x7FC00000#32)))) (broadcastInDim S1024x1x1 ![] bcast_S_S1024x1x1 (constant S_ .f32 0x3727C5AC#32)))))) (broadcastInDim S1024x1x1024 ![0, 1, 2] bcast_S1x1x1024_S1024x1x1024_0_1_2 (broadcastInDim S1x1x1024 ![2] bcast_S1024_S1x1x1024_2 g))) (broadcastInDim S1024x1x1024 ![0, 1, 2] bcast_S1x1x1024_S1024x1x1024_0_1_2 (broadcastInDim S1x1x1024 ![2] bcast_S1024_S1x1x1024_2 b))

/-- The wide layer before its GELU. -/
def rPre (n : FVec F S1024x1x1024 .f32) (w : FVec F S4096x1024 .f32) (b : FVec F S4096 .f32) : FVec F S1024x1x4096 .f32 :=
  addf (Host.dotGeneral dot_S1024x1x1024_S1024x4096_S1024x1x4096_2_0_01_1_n_n none n (transpose S1024x4096 [1, 0] w transposes_S4096x1024_S1024x4096_1_0)) (broadcastInDim S1024x1x4096 ![0, 1, 2] bcast_S1x1x4096_S1024x1x4096_0_1_2 (broadcastInDim S1x1x4096 ![2] bcast_S4096_S1x1x4096_2 b))

/-- The rows with the wide layer mixed back. -/
def rMix (n : FVec F S1024x1x1024 .f32) (p : FVec F S1024x1x4096 .f32) (w : FVec F S1024x4096 .f32) (b : FVec F S1024 .f32) : FVec F S1024x1x1024 .f32 :=
  addf n (addf (Host.dotGeneral dot_S1024x1x4096_S4096x1024_S1024x1x1024_2_0_01_1_n_n none (mulf (mulf (broadcastInDim S1024x1x4096 ![] bcast_S_S1024x1x4096 (constant S_ .f32 0x3F000000#32)) p) (Host.erfc (mulf (Host.negf p) (broadcastInDim S1024x1x4096 ![] bcast_S_S1024x1x4096 (constant S_ .f32 0x3F3504F3#32))))) (transpose S4096x1024 [1, 0] w transposes_S1024x4096_S4096x1024_1_0)) (broadcastInDim S1024x1x1024 ![0, 1, 2] bcast_S1x1x1024_S1024x1x1024_0_1_2 (broadcastInDim S1x1x1024 ![2] bcast_S1024_S1x1x1024_2 b)))

/-- A layer. -/
def rLayer (h : FVec F S1024x1x1024 .f32) (wq : FVec F S1024x1024 .f32) (bq : FVec F S1024 .f32) (wk : FVec F S1024x1024 .f32) (bk : FVec F S1024 .f32) (wv : FVec F S1024x1024 .f32) (bv : FVec F S1024 .f32) (wo : FVec F S1024x1024 .f32) (bo : FVec F S1024 .f32) (g1 : FVec F S1024 .f32) (be1 : FVec F S1024 .f32) (w1 : FVec F S4096x1024 .f32) (b1 : FVec F S4096 .f32) (w2 : FVec F S1024x4096 .f32) (b2 : FVec F S1024 .f32) (g2 : FVec F S1024 .f32) (be2 : FVec F S1024 .f32) : FVec F S1024x1x1024 .f32 :=
  let n := rNorm (rAtt h (rExp (rSco h wq bq wk bk)) (rVal h wv bv) wo bo) g1 be1
  rNorm (rMix n (rPre n w1 b1) w2 b2) g2 be2

/-- The head before its GELU. -/
def rPreHead (n : FVec F S1024x1x1024 .f32) (w : FVec F S4096x1024 .f32) (b : FVec F S4096 .f32) : FVec F S1024x4096 .f32 :=
  addf (Host.dotGeneral dot_S1024x1024_S1024x4096_S1024x4096_1_0_0_1_n_n none (shapeCast _ n shapeCasts_S1024x1x1024_S1024x1024) (transpose S1024x4096 [1, 0] w transposes_S4096x1024_S1024x4096_1_0)) (broadcastInDim S1024x4096 ![0, 1] bcast_S1x4096_S1024x4096_0_1 (broadcastInDim S1x4096 ![1] bcast_S4096_S1x4096_1 b))

/-- The result. -/
def rOut (p : FVec F S1024x4096 .f32) (w : FVec F S128x4096 .f32) (b : FVec F S128 .f32) : FVec F S1024x128 .f32 :=
  addf (Host.dotGeneral dot_S1024x4096_S4096x128_S1024x128_1_0_0_1_n_n none (mulf (mulf (broadcastInDim S1024x4096 ![] bcast_S_S1024x4096 (constant S_ .f32 0x3F000000#32)) p) (Host.erfc (mulf (Host.negf p) (broadcastInDim S1024x4096 ![] bcast_S_S1024x4096 (constant S_ .f32 0x3F3504F3#32))))) (transpose S4096x128 [1, 0] w transposes_S128x4096_S4096x128_1_0)) (broadcastInDim S1024x128 ![0, 1] bcast_S1x128_S1024x128_0_1 (broadcastInDim S1x128 ![1] bcast_S128_S1x128_1 b))

end Cert.Plain

end
-- ==== Proof.RefChain.lean ====
/- The composed terms of the reference are its stages, layer after layer. -/
module

public import proofs.«01_k».proof.Proof.RefStages
public import proofs.«01_k».proof.Proof.Gen.ReferenceIdeal.Run

@[expose] public section

set_option maxRecDepth 16384

noncomputable section

namespace Cert.Plain

open Idealize.ShloMosaic Idealize.ShloMosaic.TcCoe Idealize.SL.Sem
open Cert.ReferenceIdeal Cert.ReferenceIdeal.Gen Cert.ReferenceIdeal.Value
open Idealize.ShloMosaic.StableHlo

variable {F : FTy → Type} [FloatOps F]

/-- The argument arrays. -/
def a0 (V0 : Valuation τ sig (Elt F)) : FVec F S1024x512 .f32 := V0 (Proc.devRef .tc main_arg0)
def a1 (V0 : Valuation τ sig (Elt F)) : FVec F S1024x512 .f32 := V0 (Proc.devRef .tc main_arg1)
def a2 (V0 : Valuation τ sig (Elt F)) : FVec F S1024 .f32 := V0 (Proc.devRef .tc main_arg2)
def a3 (V0 : Valuation τ sig (Elt F)) : FVec F S1024x1024 .f32 := V0 (Proc.devRef .tc main_arg3)
def a4 (V0 : Valuation τ sig (Elt F)) : FVec F S1024 .f32 := V0 (Proc.devRef .tc main_arg4)
def a5 (V0 : Valuation τ sig (Elt F)) : FVec F S1024x1024 .f32 := V0 (Proc.devRef .tc main_arg5)
def a6 (V0 : Valuation τ sig (Elt F)) : FVec F S1024 .f32 := V0 (Proc.devRef .tc main_arg6)
def a7 (V0 : Valuation τ sig (Elt F)) : FVec F S1024x1024 .f32 := V0 (Proc.devRef .tc main_arg7)
def a8 (V0 : Valuation τ sig (Elt F)) : FVec F S1024 .f32 := V0 (Proc.devRef .tc main_arg8)
def a9 (V0 : Valuation τ sig (Elt F)) : FVec F S1024x1024 .f32 := V0 (Proc.devRef .tc main_arg9)
def a10 (V0 : Valuation τ sig (Elt F)) : FVec F S1024 .f32 := V0 (Proc.devRef .tc main_arg10)
def a11 (V0 : Valuation τ sig (Elt F)) : FVec F S3x4096x1024 .f32 := V0 (Proc.devRef .tc main_arg11)
def a12 (V0 : Valuation τ sig (Elt F)) : FVec F S3x4096 .f32 := V0 (Proc.devRef .tc main_arg12)
def a13 (V0 : Valuation τ sig (Elt F)) : FVec F S3x1024x4096 .f32 := V0 (Proc.devRef .tc main_arg13)
def a14 (V0 : Valuation τ sig (Elt F)) : FVec F S3x1024 .f32 := V0 (Proc.devRef .tc main_arg14)
def a15 (V0 : Valuation τ sig (Elt F)) : FVec F S3x1024 .f32 := V0 (Proc.devRef .tc main_arg15)
def a16 (V0 : Valuation τ sig (Elt F)) : FVec F S3x1024 .f32 := V0 (Proc.devRef .tc main_arg16)
def a17 (V0 : Valuation τ sig (Elt F)) : FVec F S3x1024 .f32 := V0 (Proc.devRef .tc main_arg17)
def a18 (V0 : Valuation τ sig (Elt F)) : FVec F S3x1024 .f32 := V0 (Proc.devRef .tc main_arg18)
def a19 (V0 : Valuation τ sig (Elt F)) : FVec F S1024 .f32 := V0 (Proc.devRef .tc main_arg19)
def a20 (V0 : Valuation τ sig (Elt F)) : FVec F S1024 .f32 := V0 (Proc.devRef .tc main_arg20)
def a21 (V0 : Valuation τ sig (Elt F)) : FVec F S4096x1024 .f32 := V0 (Proc.devRef .tc main_arg21)
def a22 (V0 : Valuation τ sig (Elt F)) : FVec F S4096 .f32 := V0 (Proc.devRef .tc main_arg22)
def a23 (V0 : Valuation τ sig (Elt F)) : FVec F S128x4096 .f32 := V0 (Proc.devRef .tc main_arg23)
def a24 (V0 : Valuation τ sig (Elt F)) : FVec F S128 .f32 := V0 (Proc.devRef .tc main_arg24)

theorem in_eq (V0 : Valuation τ sig (Elt F)) : res_main_v5 V0 = rIn (a0 V0) (a1 V0) (a2 V0) := rfl

theorem att_eq0 (V0 : Valuation τ sig (Elt F)) : res_main_v52 V0 = rAtt (res_main_v5 V0) (rExp (rSco (res_main_v5 V0) (a3 V0) (a4 V0) (a5 V0) (a6 V0))) (rVal (res_main_v5 V0) (a7 V0) (a8 V0)) (a9 V0) (a10 V0) := rfl

theorem norm_eq0 (V0 : Valuation τ sig (Elt F)) : res_main_v74 V0 = rNorm (res_main_v52 V0) (shapeCast S1024 (extractStridedSlice S1x1024 ![0, 0] (a15 V0) slices_S3x1024_S1x1024_0_0) shapeCasts_S1x1024_S1024) (shapeCast S1024 (extractStridedSlice S1x1024 ![0, 0] (a16 V0) slices_S3x1024_S1x1024_0_0) shapeCasts_S1x1024_S1024) := rfl

theorem pre_eq0 (V0 : Valuation τ sig (Elt F)) : res_main_v83 V0 = rPre (res_main_v74 V0) (shapeCast S4096x1024 (extractStridedSlice S1x4096x1024 ![0, 0, 0] (a11 V0) slices_S3x4096x1024_S1x4096x1024_0_0_0) shapeCasts_S1x4096x1024_S4096x1024) (shapeCast S4096 (extractStridedSlice S1x4096 ![0, 0] (a12 V0) slices_S3x4096_S1x4096_0_0) shapeCasts_S1x4096_S4096) := rfl

theorem mix_eq0 (V0 : Valuation τ sig (Elt F)) : res_main_v100 V0 = rMix (res_main_v74 V0) (res_main_v83 V0) (shapeCast S1024x4096 (extractStridedSlice S1x1024x4096 ![0, 0, 0] (a13 V0) slices_S3x1024x4096_S1x1024x4096_0_0_0) shapeCasts_S1x1024x4096_S1024x4096) (shapeCast S1024 (extractStridedSlice S1x1024 ![0, 0] (a14 V0) slices_S3x1024_S1x1024_0_0) shapeCasts_S1x1024_S1024) := rfl

theorem layer_eq0 (V0 : Valuation τ sig (Elt F)) : res_main_v122 V0 = rLayer (res_main_v5 V0) (a3 V0) (a4 V0) (a5 V0) (a6 V0) (a7 V0) (a8 V0) (a9 V0) (a10 V0) (shapeCast S1024 (extractStridedSlice S1x1024 ![0, 0] (a15 V0) slices_S3x1024_S1x1024_0_0) shapeCasts_S1x1024_S1024) (shapeCast S1024 (extractStridedSlice S1x1024 ![0, 0] (a16 V0) slices_S3x1024_S1x1024_0_0) shapeCasts_S1x1024_S1024) (shapeCast S4096x1024 (extractStridedSlice S1x4096x1024 ![0, 0, 0] (a11 V0) slices_S3x4096x1024_S1x4096x1024_0_0_0) shapeCasts_S1x4096x1024_S4096x1024) (shapeCast S4096 (extractStridedSlice S1x4096 ![0, 0] (a12 V0) slices_S3x4096_S1x4096_0_0) shapeCasts_S1x4096_S4096) (shapeCast S1024x4096 (extractStridedSlice S1x1024x4096 ![0, 0, 0] (a13 V0) slices_S3x1024x4096_S1x1024x4096_0_0_0) shapeCasts_S1x1024x4096_S1024x4096) (shapeCast S1024 (extractStridedSlice S1x1024 ![0, 0] (a14 V0) slices_S3x1024_S1x1024_0_0) shapeCasts_S1x1024_S1024) (shapeCast S1024 (extractStridedSlice S1x1024 ![0, 0] (a17 V0) slices_S3x1024_S1x1024_0_0) shapeCasts_S1x1024_S1024) (shapeCast S1024 (extractStridedSlice S1x1024 ![0, 0] (a18 V0) slices_S3x1024_S1x1024_0_0) shapeCasts_S1x1024_S1024) := by
  unfold rLayer
  dsimp only
  rw [← att_eq0, ← norm_eq0, ← pre_eq0, ← mix_eq0]
  rfl

theorem att_eq1 (V0 : Valuation τ sig (Elt F)) : res_main_v169 V0 = rAtt (res_main_v122 V0) (rExp (rSco (res_main_v122 V0) (a3 V0) (a4 V0) (a5 V0) (a6 V0))) (rVal (res_main_v122 V0) (a7 V0) (a8 V0)) (a9 V0) (a10 V0) := rfl

theorem norm_eq1 (V0 : Valuation τ sig (Elt F)) : res_main_v191 V0 = rNorm (res_main_v169 V0) (shapeCast S1024 (extractStridedSlice S1x1024 ![1, 0] (a15 V0) slices_S3x1024_S1x1024_1_0) shapeCasts_S1x1024_S1024) (shapeCast S1024 (extractStridedSlice S1x1024 ![1, 0] (a16 V0) slices_S3x1024_S1x1024_1_0) shapeCasts_S1x1024_S1024) := rfl

theorem pre_eq1 (V0 : Valuation τ sig (Elt F)) : res_main_v200 V0 = rPre (res_main_v191 V0) (shapeCast S4096x1024 (extractStridedSlice S1x4096x1024 ![1, 0, 0] (a11 V0) slices_S3x4096x1024_S1x4096x1024_1_0_0) shapeCasts_S1x4096x1024_S4096x1024) (shapeCast S4096 (extractStridedSlice S1x4096 ![1, 0] (a12 V0) slices_S3x4096_S1x4096_1_0) shapeCasts_S1x4096_S4096) := rfl

theorem mix_eq1 (V0 : Valuation τ sig (Elt F)) : res_main_v217 V0 = rMix (res_main_v191 V0) (res_main_v200 V0) (shapeCast S1024x4096 (extractStridedSlice S1x1024x4096 ![1, 0, 0] (a13 V0) slices_S3x1024x4096_S1x1024x4096_1_0_0) shapeCasts_S1x1024x4096_S1024x4096) (shapeCast S1024 (extractStridedSlice S1x1024 ![1, 0] (a14 V0) slices_S3x1024_S1x1024_1_0) shapeCasts_S1x1024_S1024) := rfl

theorem layer_eq1 (V0 : Valuation τ sig (Elt F)) : res_main_v239 V0 = rLayer (res_main_v122 V0) (a3 V0) (a4 V0) (a5 V0) (a6 V0) (a7 V0) (a8 V0) (a9 V0) (a10 V0) (shapeCast S1024 (extractStridedSlice S1x1024 ![1, 0] (a15 V0) slices_S3x1024_S1x1024_1_0) shapeCasts_S1x1024_S1024) (shapeCast S1024 (extractStridedSlice S1x1024 ![1, 0] (a16 V0) slices_S3x1024_S1x1024_1_0) shapeCasts_S1x1024_S1024) (shapeCast S4096x1024 (extractStridedSlice S1x4096x1024 ![1, 0, 0] (a11 V0) slices_S3x4096x1024_S1x4096x1024_1_0_0) shapeCasts_S1x4096x1024_S4096x1024) (shapeCast S4096 (extractStridedSlice S1x4096 ![1, 0] (a12 V0) slices_S3x4096_S1x4096_1_0) shapeCasts_S1x4096_S4096) (shapeCast S1024x4096 (extractStridedSlice S1x1024x4096 ![1, 0, 0] (a13 V0) slices_S3x1024x4096_S1x1024x4096_1_0_0) shapeCasts_S1x1024x4096_S1024x4096) (shapeCast S1024 (extractStridedSlice S1x1024 ![1, 0] (a14 V0) slices_S3x1024_S1x1024_1_0) shapeCasts_S1x1024_S1024) (shapeCast S1024 (extractStridedSlice S1x1024 ![1, 0] (a17 V0) slices_S3x1024_S1x1024_1_0) shapeCasts_S1x1024_S1024) (shapeCast S1024 (extractStridedSlice S1x1024 ![1, 0] (a18 V0) slices_S3x1024_S1x1024_1_0) shapeCasts_S1x1024_S1024) := by
  unfold rLayer
  dsimp only
  rw [← att_eq1, ← norm_eq1, ← pre_eq1, ← mix_eq1]
  rfl

theorem att_eq2 (V0 : Valuation τ sig (Elt F)) : res_main_v286 V0 = rAtt (res_main_v239 V0) (rExp (rSco (res_main_v239 V0) (a3 V0) (a4 V0) (a5 V0) (a6 V0))) (rVal (res_main_v239 V0) (a7 V0) (a8 V0)) (a9 V0) (a10 V0) := rfl

theorem norm_eq2 (V0 : Valuation τ sig (Elt F)) : res_main_v308 V0 = rNorm (res_main_v286 V0) (shapeCast S1024 (extractStridedSlice S1x1024 ![2, 0] (a15 V0) slices_S3x1024_S1x1024_2_0) shapeCasts_S1x1024_S1024) (shapeCast S1024 (extractStridedSlice S1x1024 ![2, 0] (a16 V0) slices_S3x1024_S1x1024_2_0) shapeCasts_S1x1024_S1024) := rfl

theorem pre_eq2 (V0 : Valuation τ sig (Elt F)) : res_main_v317 V0 = rPre (res_main_v308 V0) (shapeCast S4096x1024 (extractStridedSlice S1x4096x1024 ![2, 0, 0] (a11 V0) slices_S3x4096x1024_S1x4096x1024_2_0_0) shapeCasts_S1x4096x1024_S4096x1024) (shapeCast S4096 (extractStridedSlice S1x4096 ![2, 0] (a12 V0) slices_S3x4096_S1x4096_2_0) shapeCasts_S1x4096_S4096) := rfl

theorem mix_eq2 (V0 : Valuation τ sig (Elt F)) : res_main_v334 V0 = rMix (res_main_v308 V0) (res_main_v317 V0) (shapeCast S1024x4096 (extractStridedSlice S1x1024x4096 ![2, 0, 0] (a13 V0) slices_S3x1024x4096_S1x1024x4096_2_0_0) shapeCasts_S1x1024x4096_S1024x4096) (shapeCast S1024 (extractStridedSlice S1x1024 ![2, 0] (a14 V0) slices_S3x1024_S1x1024_2_0) shapeCasts_S1x1024_S1024) := rfl

theorem layer_eq2 (V0 : Valuation τ sig (Elt F)) : res_main_v356 V0 = rLayer (res_main_v239 V0) (a3 V0) (a4 V0) (a5 V0) (a6 V0) (a7 V0) (a8 V0) (a9 V0) (a10 V0) (shapeCast S1024 (extractStridedSlice S1x1024 ![2, 0] (a15 V0) slices_S3x1024_S1x1024_2_0) shapeCasts_S1x1024_S1024) (shapeCast S1024 (extractStridedSlice S1x1024 ![2, 0] (a16 V0) slices_S3x1024_S1x1024_2_0) shapeCasts_S1x1024_S1024) (shapeCast S4096x1024 (extractStridedSlice S1x4096x1024 ![2, 0, 0] (a11 V0) slices_S3x4096x1024_S1x4096x1024_2_0_0) shapeCasts_S1x4096x1024_S4096x1024) (shapeCast S4096 (extractStridedSlice S1x4096 ![2, 0] (a12 V0) slices_S3x4096_S1x4096_2_0) shapeCasts_S1x4096_S4096) (shapeCast S1024x4096 (extractStridedSlice S1x1024x4096 ![2, 0, 0] (a13 V0) slices_S3x1024x4096_S1x1024x4096_2_0_0) shapeCasts_S1x1024x4096_S1024x4096) (shapeCast S1024 (extractStridedSlice S1x1024 ![2, 0] (a14 V0) slices_S3x1024_S1x1024_2_0) shapeCasts_S1x1024_S1024) (shapeCast S1024 (extractStridedSlice S1x1024 ![2, 0] (a17 V0) slices_S3x1024_S1x1024_2_0) shapeCasts_S1x1024_S1024) (shapeCast S1024 (extractStridedSlice S1x1024 ![2, 0] (a18 V0) slices_S3x1024_S1x1024_2_0) shapeCasts_S1x1024_S1024) := by
  unfold rLayer
  dsimp only
  rw [← att_eq2, ← norm_eq2, ← pre_eq2, ← mix_eq2]
  rfl

theorem preHead_eq (V0 : Valuation τ sig (Elt F)) : res_main_v380 V0 = rPreHead (rNorm (res_main_v356 V0) (a19 V0) (a20 V0)) (a21 V0) (a22 V0) := rfl

end Cert.Plain

end
-- ==== Proof.RefValue.lean ====
/- The stages of the reference on rows of reals: each is the stage of `Cert.Num`, entry by entry. -/
module

public import proofs.«01_k».proof.Proof.RefStages
public import proofs.«01_k».proof.Proof.Maths
public import Idealize.ShloMosaic.Lib.WordCmp

@[expose] public section

set_option maxRecDepth 16384

noncomputable section

namespace Cert.Plain

open Idealize.ShloMosaic Idealize.ShloMosaic.TcCoe Idealize.SL.Sem
open Cert.ReferenceIdeal Cert.ReferenceIdeal.Gen
open Cert.Num

/-- A box of one key holds the reals `f`. -/
def Rows (v : FVec Ideal S1024x1x1024 .f32) (f : Fin 1024 → Fin 1024 → ℝ) : Prop := ∀ i j, v (ix3 i 0 j) = (f i j : EReal)

/-- An update as large as what it updates replaces it. -/
theorem update_all {s : Shape} {α : Type} (x u : s.Idx → α) (start : Fin s.rank → Int) (h : s.Slices (fun _ => 0) s)
    (hs : ∀ a, start a = 0) : Host.dynamicUpdateSlice x u start h = u := by
  rw [WordCmp.dynamicUpdateSlice_eq_update x u start h (fun _ => 0) h (fun a => by rw [hs a]; rfl)]
  funext i
  unfold updateSlice
  rw [dif_pos (fun a => ⟨Nat.zero_le _, by have := (i a).isLt; simpa using this⟩)]
  exact congrArg u (funext fun a => Fin.ext (Nat.sub_zero _))

theorem zeros (k : Fin 4) : ((![constantI S_ 32 0#32, constantI S_ 32 0#32, constantI S_ 32 0#32, constantI S_ 32 0#32] :
    Fin 4 → (⟨S_, .i32⟩ : BufTy).Contents (Elt Ideal)) k (Shape.Idx.first h_S_)).toInt = 0 := by
  fin_cases k <;> rfl

theorem rIn_rows {x wi : FVec Ideal S1024x512 .f32} {bi : FVec Ideal S1024 .f32} {fx fw : Fin 1024 → Fin 512 → ℝ} {fb : Fin 1024 → ℝ}
    (hx : ∀ i k, x (ix2 i k) = (fx i k : EReal)) (hw : ∀ j k, wi (ix2 j k) = (fw j k : EReal)) (hb : ∀ j, bi (ix1 j) = (fb j : EReal)) :
    Rows (rIn x wi bi) (fun i => dense (fx i) fw fb) := by
  intro i j
  pointwise [rIn]
  simp only [hx, hw, hb]
  exact coe_dense _ _ _ _

/-- Column `64 p + j`. -/
def col (p : Fin 16) (j : Fin 64) : Fin 1024 := ⟨p.val * 64 + j.val, by have := p.isLt; have := j.isLt; omega⟩

theorem col_mk (p : Fin 16) (j : Fin 64) (hc : p.val * 64 + j.val < 1024) : (⟨p.val * 64 + j.val, hc⟩ : Fin 1024) = col p j := rfl

section

variable {h : FVec Ideal S1024x1x1024 .f32} {f : Fin 1024 → Fin 1024 → ℝ} (hh : Rows h f)
include hh

theorem rVal_at {w : FVec Ideal S1024x1024 .f32} {b : FVec Ideal S1024 .f32} {fw : Fin 1024 → Fin 1024 → ℝ} {fb : Fin 1024 → ℝ}
    (hw : ∀ j k, w (ix2 j k) = (fw j k : EReal)) (hb : ∀ j, b (ix1 j) = (fb j : EReal)) (i : Fin 1024) (p : Fin 16) (j : Fin 64) :
    rVal h w b (ix4 i p 0 j) = (dense (f i) fw fb (col p j) : EReal) := by
  pointwise [rVal]
  simp only [hh _ _, hw, hb]
  exact coe_dense (f i) fw fb (col p j)

theorem rSco_at {wq wk : FVec Ideal S1024x1024 .f32} {bq bk : FVec Ideal S1024 .f32} {fq fk : Fin 1024 → Fin 1024 → ℝ} {gq gk : Fin 1024 → ℝ}
    (hq : ∀ j k, wq (ix2 j k) = (fq j k : EReal)) (hbq : ∀ j, bq (ix1 j) = (gq j : EReal))
    (hk : ∀ j k, wk (ix2 j k) = (fk j k : EReal)) (hbk : ∀ j, bk (ix1 j) = (gk j : EReal)) (i : Fin 1024) (p : Fin 16) :
    ∃ s : ℝ, rSco h wq bq wk bk (ix4 i p 0 0) = (s : EReal) := by
  refine ⟨(∑ x : Fin 64, dense (f i) fq gq (col p x) * dense (f i) fk gk (col p x)) * (1 / 8), ?_⟩
  pointwise [rSco]
  simp only [hh _ _, hq, hk, hbq, hbk, word_eighth]
  simp only [col_mk, coe_dense]
  rw [coe_dot, ← EReal.coe_mul]

omit hh in
theorem rExp_at {s : FVec Ideal S1024x16x1x1 .f32} (hs : ∀ (i : Fin 1024) (p : Fin 16), ∃ r : ℝ, s (ix4 i p 0 0) = (r : EReal))
    (i : Fin 1024) (p : Fin 16) : rExp s (ix4 i p 0 0) = 1 := by
  obtain ⟨r, hr⟩ := hs i p
  have hx : ∀ x : Fin 1, s (ix4 i p 0 x) = (r : EReal) := fun x => by rw [Subsingleton.elim x 0]; exact hr
  pointwise [rExp]
  simp only [hx, word_bot]
  exact weight r

theorem rAtt_rows {e : FVec Ideal S1024x16x1x1 .f32} {v : FVec Ideal S1024x16x1x64 .f32} {wo : FVec Ideal S1024x1024 .f32} {bo : FVec Ideal S1024 .f32}
    {u : Fin 1024 → Fin 1024 → ℝ} {fo : Fin 1024 → Fin 1024 → ℝ} {go : Fin 1024 → ℝ}
    (he : ∀ (i : Fin 1024) (p : Fin 16), e (ix4 i p 0 0) = 1) (hv : ∀ (i : Fin 1024) (p : Fin 16) (j : Fin 64), v (ix4 i p 0 j) = (u i (col p j) : EReal))
    (ho : ∀ j k, wo (ix2 j k) = (fo j k : EReal)) (hb : ∀ j, bo (ix1 j) = (go j : EReal)) :
    Rows (rAtt h e v wo bo) (fun i j => f i j + dense (u i) fo go j) := by
  intro i j
  unfold rAtt
  rw [update_all _ _ _ _ zeros]
  have he' : ∀ (p : Fin 16) (x : Fin 1), e (ix4 i p 0 x) = 1 := fun p x => by rw [Subsingleton.elim x 0]; exact he i p
  have hv' : ∀ (p : Fin 16) (x : Fin 1) (q : Fin 64), v (ix4 i p x q) = (u i (col p q) : EReal) := fun p x q => by
    rw [Subsingleton.elim x 0]; exact hv i p q
  have hd : Ideal.div 1 1 = 1 := by
    rw [← EReal.coe_one, Ideal.div_coe one_ne_zero, ← EReal.coe_mul]; norm_num
  pointwise
  simp only [he', hv', hh _ _, ho, hb, Finset.sum_const, Finset.card_univ, Fintype.card_fin, one_smul, hd, one_mul]
  rw [EReal.coe_add, ← coe_dense]
  refine congrArg (_ + ·) (congrArg (· + _) (Finset.sum_congr rfl fun x _ => ?_))
  refine congrArg (fun k => ((u i k : ℝ) : EReal) * _) (Fin.ext ?_)
  show x.val / 64 * 64 + x.val % 64 = x.val
  omega

/-- The normalised rows; the shift may be any extended real. -/
theorem rNorm_at {g b : FVec Ideal S1024 .f32} {fg : Fin 1024 → ℝ} (hg : ∀ j, g (ix1 j) = (fg j : EReal)) (i j : Fin 1024) :
    rNorm h g b (ix3 i 0 j) = (nrm (f i) (fg j) j : EReal) + b (ix1 j) := by
  have hz : (FloatOps.sitofp .f32 (0#32 : BitVec 32) : Ideal .f32) = (0 : EReal) := by
    show (((0#32 : BitVec 32).toInt : ℝ) : EReal) = 0
    simp
  have hp : (0 : EReal) < ((1024 : ℝ) : EReal) := by exact_mod_cast (by norm_num : (0 : ℝ) < 1024)
  pointwise [rNorm, rDev, rCnt]
  simp only [hz, word_1024, sub_zero, if_pos hp, word_eps, hh _ _, hg]
  exact plain_norm (f i) (fg j) _ j

theorem rPre_at {w : FVec Ideal S4096x1024 .f32} {b : FVec Ideal S4096 .f32} {fw : Fin 4096 → Fin 1024 → ℝ} {fb : Fin 4096 → ℝ}
    (hw : ∀ j k, w (ix2 j k) = (fw j k : EReal)) (hb : ∀ j, b (ix1 j) = (fb j : EReal)) (i : Fin 1024) (j : Fin 4096) :
    rPre h w b (ix3 i 0 j) = (dense (f i) fw fb j : EReal) := by
  pointwise [rPre]
  simp only [hh _ _, hw, hb]
  exact coe_dense (f i) fw fb j

theorem rMix_rows {p : FVec Ideal S1024x1x4096 .f32} {w : FVec Ideal S1024x4096 .f32} {b : FVec Ideal S1024 .f32}
    {u : Fin 1024 → Fin 4096 → ℝ} {fw : Fin 1024 → Fin 4096 → ℝ} {fb : Fin 1024 → ℝ}
    (hp : ∀ (i : Fin 1024) (e : Fin 4096), p (ix3 i 0 e) = (u i e : EReal))
    (hw : ∀ j k, w (ix2 j k) = (fw j k : EReal)) (hb : ∀ j, b (ix1 j) = (fb j : EReal)) :
    Rows (rMix h p w b) (fun i j => f i j + dense (fun e => gelu (u i e)) fw fb j) := by
  intro i j
  pointwise [rMix]
  simp only [hp, hh _ _, hw, hb, plain_gelu, kGelu_coe]
  rw [EReal.coe_add, ← coe_dense]

end

end Cert.Plain

end
-- ==== Proof.RefEnd.lean ====
/- The reference's result, entry by entry, over arrays of reals: `Cert.Num.head` of the normalised rows. -/
module

public import proofs.«01_k».proof.Proof.RefChain
public import proofs.«01_k».proof.Proof.RefValue

@[expose] public section

set_option maxRecDepth 16384

noncomputable section

namespace Cert.Plain

open Idealize.ShloMosaic Idealize.ShloMosaic.TcCoe Idealize.SL.Sem
open Cert.ReferenceIdeal Cert.ReferenceIdeal.Gen Cert.ReferenceIdeal.Value
open Cert.Num

/-- The arguments hold the arrays of reals. -/
structure Has (V0 : Valuation τ sig (Elt Ideal)) (R : Params) : Prop where
  x : ∀ i k, a0 V0 (ix2 i k) = (R.x i k : EReal)
  wi : ∀ i k, a1 V0 (ix2 i k) = (R.wi i k : EReal)
  bi : ∀ j, a2 V0 (ix1 j) = (R.bi j : EReal)
  wq : ∀ i k, a3 V0 (ix2 i k) = (R.wq i k : EReal)
  bq : ∀ j, a4 V0 (ix1 j) = (R.bq j : EReal)
  wk : ∀ i k, a5 V0 (ix2 i k) = (R.wk i k : EReal)
  bk : ∀ j, a6 V0 (ix1 j) = (R.bk j : EReal)
  wv : ∀ i k, a7 V0 (ix2 i k) = (R.wv i k : EReal)
  bv : ∀ j, a8 V0 (ix1 j) = (R.bv j : EReal)
  wo : ∀ i k, a9 V0 (ix2 i k) = (R.wo i k : EReal)
  bo : ∀ j, a10 V0 (ix1 j) = (R.bo j : EReal)
  w1 : ∀ l e k, a11 V0 (ix3 l e k) = (R.w1 l e k : EReal)
  b1 : ∀ l e, a12 V0 (ix2 l e) = (R.b1 l e : EReal)
  w2 : ∀ l e k, a13 V0 (ix3 l e k) = (R.w2 l e k : EReal)
  b2 : ∀ l e, a14 V0 (ix2 l e) = (R.b2 l e : EReal)
  g1 : ∀ l e, a15 V0 (ix2 l e) = (R.g1 l e : EReal)
  be1 : ∀ l e, a16 V0 (ix2 l e) = (R.be1 l e : EReal)
  g2 : ∀ l e, a17 V0 (ix2 l e) = (R.g2 l e : EReal)
  be2 : ∀ l e, a18 V0 (ix2 l e) = (R.be2 l e : EReal)
  gf : ∀ j, a19 V0 (ix1 j) = (R.gf j : EReal)

/-- One layer. -/
theorem layer_rows (R : Params) (l : Fin 3) {h : FVec Ideal S1024x1x1024 .f32} {f : Fin 1024 → Fin 1024 → ℝ} (hh : Rows h f)
    {wq wk wv wo : FVec Ideal S1024x1024 .f32} {bq bk bv bo g1 be1 g2 be2 b2 : FVec Ideal S1024 .f32} {w1 : FVec Ideal S4096x1024 .f32}
    {b1 : FVec Ideal S4096 .f32} {w2 : FVec Ideal S1024x4096 .f32}
    (hq : ∀ j k, wq (ix2 j k) = (R.wq j k : EReal)) (hbq : ∀ j, bq (ix1 j) = (R.bq j : EReal))
    (hk : ∀ j k, wk (ix2 j k) = (R.wk j k : EReal)) (hbk : ∀ j, bk (ix1 j) = (R.bk j : EReal))
    (hv : ∀ j k, wv (ix2 j k) = (R.wv j k : EReal)) (hbv : ∀ j, bv (ix1 j) = (R.bv j : EReal))
    (ho : ∀ j k, wo (ix2 j k) = (R.wo j k : EReal)) (hbo : ∀ j, bo (ix1 j) = (R.bo j : EReal))
    (hg1 : ∀ j, g1 (ix1 j) = (R.g1 l j : EReal)) (hbe1 : ∀ j, be1 (ix1 j) = (R.be1 l j : EReal))
    (hw1 : ∀ e k, w1 (ix2 e k) = (R.w1 l e k : EReal)) (hb1 : ∀ e, b1 (ix1 e) = (R.b1 l e : EReal))
    (hw2 : ∀ j e, w2 (ix2 j e) = (R.w2 l j e : EReal)) (hb2 : ∀ j, b2 (ix1 j) = (R.b2 l j : EReal))
    (hg2 : ∀ j, g2 (ix1 j) = (R.g2 l j : EReal)) (hbe2 : ∀ j, be2 (ix1 j) = (R.be2 l j : EReal)) :
    Rows (rLayer h wq bq wk bk wv bv wo bo g1 be1 w1 b1 w2 b2 g2 be2) (fun i => layer R l (f i)) := by
  have ha : Rows (rAtt h (rExp (rSco h wq bq wk bk)) (rVal h wv bv) wo bo) (fun i => attn (f i) R.wv R.bv R.wo R.bo) :=
    rAtt_rows hh (rExp_at (rSco_at hh hq hbq hk hbk)) (rVal_at hh hv hbv) ho hbo
  have hn : Rows (rNorm (rAtt h (rExp (rSco h wq bq wk bk)) (rVal h wv bv) wo bo) g1 be1) (fun i => attended R l (f i)) := fun i j => by
    rw [rNorm_at ha hg1, hbe1, ← EReal.coe_add]
    rfl
  unfold rLayer
  dsimp only
  generalize rNorm (rAtt h (rExp (rSco h wq bq wk bk)) (rVal h wv bv) wo bo) g1 be1 = n at hn
  have hm : Rows (rMix n (rPre n w1 b1) w2 b2) (fun i => mixed (attended R l (f i)) (R.w1 l) (R.b1 l) (R.w2 l) (R.b2 l)) :=
    rMix_rows hn (rPre_at hn hw1 hb1) hw2 hb2
  exact fun i j => by
    rw [rNorm_at hm hg2, hbe2, ← EReal.coe_add]
    rfl

theorem vec0 (a : FVec Ideal S3x1024 .f32) (j : Fin 1024) :
    (shapeCast S1024 (extractStridedSlice S1x1024 ![0, 0] a slices_S3x1024_S1x1024_0_0) shapeCasts_S1x1024_S1024 : FVec Ideal S1024 .f32) (ix1 j) = a (ix2 0 j) := by
  pointwise

theorem bias0 (a : FVec Ideal S3x4096 .f32) (j : Fin 4096) :
    (shapeCast S4096 (extractStridedSlice S1x4096 ![0, 0] a slices_S3x4096_S1x4096_0_0) shapeCasts_S1x4096_S4096 : FVec Ideal S4096 .f32) (ix1 j) = a (ix2 0 j) := by
  pointwise

theorem wide0 (a : FVec Ideal S3x4096x1024 .f32) (i : Fin 4096) (j : Fin 1024) :
    (shapeCast S4096x1024 (extractStridedSlice S1x4096x1024 ![0, 0, 0] a slices_S3x4096x1024_S1x4096x1024_0_0_0) shapeCasts_S1x4096x1024_S4096x1024 : FVec Ideal S4096x1024 .f32) (ix2 i j) = a (ix3 0 i j) := by
  pointwise

theorem back0 (a : FVec Ideal S3x1024x4096 .f32) (i : Fin 1024) (j : Fin 4096) :
    (shapeCast S1024x4096 (extractStridedSlice S1x1024x4096 ![0, 0, 0] a slices_S3x1024x4096_S1x1024x4096_0_0_0) shapeCasts_S1x1024x4096_S1024x4096 : FVec Ideal S1024x4096 .f32) (ix2 i j) = a (ix3 0 i j) := by
  pointwise

theorem vec1 (a : FVec Ideal S3x1024 .f32) (j : Fin 1024) :
    (shapeCast S1024 (extractStridedSlice S1x1024 ![1, 0] a slices_S3x1024_S1x1024_1_0) shapeCasts_S1x1024_S1024 : FVec Ideal S1024 .f32) (ix1 j) = a (ix2 1 j) := by
  pointwise

theorem bias1 (a : FVec Ideal S3x4096 .f32) (j : Fin 4096) :
    (shapeCast S4096 (extractStridedSlice S1x4096 ![1, 0] a slices_S3x4096_S1x4096_1_0) shapeCasts_S1x4096_S4096 : FVec Ideal S4096 .f32) (ix1 j) = a (ix2 1 j) := by
  pointwise

theorem wide1 (a : FVec Ideal S3x4096x1024 .f32) (i : Fin 4096) (j : Fin 1024) :
    (shapeCast S4096x1024 (extractStridedSlice S1x4096x1024 ![1, 0, 0] a slices_S3x4096x1024_S1x4096x1024_1_0_0) shapeCasts_S1x4096x1024_S4096x1024 : FVec Ideal S4096x1024 .f32) (ix2 i j) = a (ix3 1 i j) := by
  pointwise

theorem back1 (a : FVec Ideal S3x1024x4096 .f32) (i : Fin 1024) (j : Fin 4096) :
    (shapeCast S1024x4096 (extractStridedSlice S1x1024x4096 ![1, 0, 0] a slices_S3x1024x4096_S1x1024x4096_1_0_0) shapeCasts_S1x1024x4096_S1024x4096 : FVec Ideal S1024x4096 .f32) (ix2 i j) = a (ix3 1 i j) := by
  pointwise

theorem vec2 (a : FVec Ideal S3x1024 .f32) (j : Fin 1024) :
    (shapeCast S1024 (extractStridedSlice S1x1024 ![2, 0] a slices_S3x1024_S1x1024_2_0) shapeCasts_S1x1024_S1024 : FVec Ideal S1024 .f32) (ix1 j) = a (ix2 2 j) := by
  pointwise

theorem bias2 (a : FVec Ideal S3x4096 .f32) (j : Fin 4096) :
    (shapeCast S4096 (extractStridedSlice S1x4096 ![2, 0] a slices_S3x4096_S1x4096_2_0) shapeCasts_S1x4096_S4096 : FVec Ideal S4096 .f32) (ix1 j) = a (ix2 2 j) := by
  pointwise

theorem wide2 (a : FVec Ideal S3x4096x1024 .f32) (i : Fin 4096) (j : Fin 1024) :
    (shapeCast S4096x1024 (extractStridedSlice S1x4096x1024 ![2, 0, 0] a slices_S3x4096x1024_S1x4096x1024_2_0_0) shapeCasts_S1x4096x1024_S4096x1024 : FVec Ideal S4096x1024 .f32) (ix2 i j) = a (ix3 2 i j) := by
  pointwise

theorem back2 (a : FVec Ideal S3x1024x4096 .f32) (i : Fin 1024) (j : Fin 4096) :
    (shapeCast S1024x4096 (extractStridedSlice S1x1024x4096 ![2, 0, 0] a slices_S3x1024x4096_S1x1024x4096_2_0_0) shapeCasts_S1x1024x4096_S1024x4096 : FVec Ideal S1024x4096 .f32) (ix2 i j) = a (ix3 2 i j) := by
  pointwise

variable {V0 : Valuation τ sig (Elt Ideal)} {R : Params} (H : Has V0 R)
include H

theorem rows_in : Rows (res_main_v5 V0) (row0 R) := by
  rw [in_eq]
  exact rIn_rows H.x H.wi H.bi

theorem rows_0 : Rows (res_main_v122 V0) (fun i => layer R 0 (row0 R i)) := by
  rw [layer_eq0]
  exact layer_rows R 0 (rows_in H) H.wq H.bq H.wk H.bk H.wv H.bv H.wo H.bo
    (fun j => (vec0 _ j).trans (H.g1 0 j)) (fun j => (vec0 _ j).trans (H.be1 0 j))
    (fun e k => (wide0 _ e k).trans (H.w1 0 e k)) (fun e => (bias0 _ e).trans (H.b1 0 e))
    (fun j e => (back0 _ j e).trans (H.w2 0 j e)) (fun j => (vec0 _ j).trans (H.b2 0 j))
    (fun j => (vec0 _ j).trans (H.g2 0 j)) (fun j => (vec0 _ j).trans (H.be2 0 j))

theorem rows_1 : Rows (res_main_v239 V0) (fun i => layer R 1 (layer R 0 (row0 R i))) := by
  rw [layer_eq1]
  exact layer_rows R 1 (rows_0 H) H.wq H.bq H.wk H.bk H.wv H.bv H.wo H.bo
    (fun j => (vec1 _ j).trans (H.g1 1 j)) (fun j => (vec1 _ j).trans (H.be1 1 j))
    (fun e k => (wide1 _ e k).trans (H.w1 1 e k)) (fun e => (bias1 _ e).trans (H.b1 1 e))
    (fun j e => (back1 _ j e).trans (H.w2 1 j e)) (fun j => (vec1 _ j).trans (H.b2 1 j))
    (fun j => (vec1 _ j).trans (H.g2 1 j)) (fun j => (vec1 _ j).trans (H.be2 1 j))

theorem rows_2 : Rows (res_main_v356 V0) (fun i => layer R 2 (layer R 1 (layer R 0 (row0 R i)))) := by
  rw [layer_eq2]
  exact layer_rows R 2 (rows_1 H) H.wq H.bq H.wk H.bk H.wv H.bv H.wo H.bo
    (fun j => (vec2 _ j).trans (H.g1 2 j)) (fun j => (vec2 _ j).trans (H.be1 2 j))
    (fun e k => (wide2 _ e k).trans (H.w1 2 e k)) (fun e => (bias2 _ e).trans (H.b1 2 e))
    (fun j e => (back2 _ j e).trans (H.w2 2 j e)) (fun j => (vec2 _ j).trans (H.b2 2 j))
    (fun j => (vec2 _ j).trans (H.g2 2 j)) (fun j => (vec2 _ j).trans (H.be2 2 j))

omit H in
theorem preHead_at (n : FVec Ideal S1024x1x1024 .f32) (w : FVec Ideal S4096x1024 .f32) (b : FVec Ideal S4096 .f32) (i : Fin 1024) (e : Fin 4096) :
    rPreHead n w b (ix2 i e) = ∑ k, n (ix3 i 0 k) * w (ix2 e k) + b (ix1 e) := by
  pointwise [rPreHead]

omit H in
theorem out_at (p : FVec Ideal S1024x4096 .f32) (w : FVec Ideal S128x4096 .f32) (b : FVec Ideal S128 .f32) (i : Fin 1024) (j : Fin 128) :
    rOut p w b (ix2 i j) = ∑ e, kGelu (p (ix2 i e)) * w (ix2 j e) + b (ix1 j) := by
  pointwise [rOut]
  simp only [plain_gelu]

/-- The result at row `i`, column `j`. -/
theorem result_at (i : Fin 1024) (j : Fin 128) : rOut (res_main_v380 V0) (a23 V0) (a24 V0) (ix2 i j)
    = head (fun k => (nrm (row3 R i) (R.gf k) k : EReal) + a20 V0 (ix1 k)) (fun e k => a21 V0 (ix2 e k)) (fun e => a22 V0 (ix1 e))
      (fun j e => a23 V0 (ix2 j e)) (fun j => a24 V0 (ix1 j)) j := by
  rw [out_at, preHead_eq]
  simp only [preHead_at, rNorm_at (rows_2 H) H.gf]
  rfl

end Cert.Plain

end
-- ==== Proof.Value.lean ====
/- The kernel's result is the reference's. -/
module

public import proofs.«01_k».proof.Proof.Given
public import proofs.«01_k».proof.Proof.HeadValue
public import proofs.«01_k».proof.Proof.RefEnd

@[expose] public section

set_option maxRecDepth 16384

noncomputable section

namespace Cert.Value

open Idealize.ShloMosaic Idealize.ShloMosaic.TcCoe Idealize.SL.Sem
open Cert.Stack (params Real)
open Cert.Num (head nrm row3)

variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))

/-- The two programs are given the same arguments. -/
structure Agree : Prop where
  e0 : Cert.Plain.a0 V0 = Cert.Stack.p0 m c
  e1 : Cert.Plain.a1 V0 = Cert.Stack.p1 m c
  e2 : Cert.Plain.a2 V0 = Cert.Stack.p2 m c
  e3 : Cert.Plain.a3 V0 = Cert.Stack.p3 m c
  e4 : Cert.Plain.a4 V0 = Cert.Stack.p4 m c
  e5 : Cert.Plain.a5 V0 = Cert.Stack.p5 m c
  e6 : Cert.Plain.a6 V0 = Cert.Stack.p6 m c
  e7 : Cert.Plain.a7 V0 = Cert.Stack.p7 m c
  e8 : Cert.Plain.a8 V0 = Cert.Stack.p8 m c
  e9 : Cert.Plain.a9 V0 = Cert.Stack.p9 m c
  e10 : Cert.Plain.a10 V0 = Cert.Stack.p10 m c
  e11 : Cert.Plain.a11 V0 = Cert.Stack.p11 m c
  e12 : Cert.Plain.a12 V0 = Cert.Stack.p12 m c
  e13 : Cert.Plain.a13 V0 = Cert.Stack.p13 m c
  e14 : Cert.Plain.a14 V0 = Cert.Stack.p14 m c
  e15 : Cert.Plain.a15 V0 = Cert.Stack.p15 m c
  e16 : Cert.Plain.a16 V0 = Cert.Stack.p16 m c
  e17 : Cert.Plain.a17 V0 = Cert.Stack.p17 m c
  e18 : Cert.Plain.a18 V0 = Cert.Stack.p18 m c
  e19 : Cert.Plain.a19 V0 = Cert.Stack.p19 m c
  e20 : Cert.Plain.a20 V0 = Cert.Stack.p20 m c
  e21 : Cert.Plain.a21 V0 = Cert.Stack.p21 m c
  e22 : Cert.Plain.a22 V0 = Cert.Stack.p22 m c
  e23 : Cert.Plain.a23 V0 = Cert.Stack.p23 m c
  e24 : Cert.Plain.a24 V0 = Cert.Stack.p24 m c

variable {m c V0}

theorem has (h : Real m c) (g : Agree m c V0) : Cert.Plain.Has V0 (params m c) where
  x i k := (congrFun g.e0 _).trans (h.x _)
  wi i k := (congrFun g.e1 _).trans (h.wi _)
  bi j := (congrFun g.e2 _).trans (h.bi _)
  wq i k := (congrFun g.e3 _).trans (h.wq _)
  bq j := (congrFun g.e4 _).trans (h.bq _)
  wk i k := (congrFun g.e5 _).trans (h.wk _)
  bk j := (congrFun g.e6 _).trans (h.bk _)
  wv i k := (congrFun g.e7 _).trans (h.wv _)
  bv j := (congrFun g.e8 _).trans (h.bv _)
  wo i k := (congrFun g.e9 _).trans (h.wo _)
  bo j := (congrFun g.e10 _).trans (h.bo _)
  w1 l e k := (congrFun g.e11 _).trans (h.w1 _)
  b1 l e := (congrFun g.e12 _).trans (h.b1 _)
  w2 l e k := (congrFun g.e13 _).trans (h.w2 _)
  b2 l e := (congrFun g.e14 _).trans (h.b2 _)
  g1 l e := (congrFun g.e15 _).trans (h.g1 _)
  be1 l e := (congrFun g.e16 _).trans (h.be1 _)
  g2 l e := (congrFun g.e17 _).trans (h.g2 _)
  be2 l e := (congrFun g.e18 _).trans (h.be2 _)
  gf j := (congrFun g.e19 _).trans (h.gf _)

/-- What the stack leaves, at row `i`, column `k`. -/
theorem left_at (h : Real m c) (i k : Fin 1024) :
    Cert.Stack.left m c i k = (nrm (row3 (params m c) i) ((params m c).gf k) k : EReal) + Cert.Stack.p20 m c (ix1 k) := by
  unfold Cert.Stack.left
  rw [Cert.Stack.stackArr_eq]
  refine (Cert.Stack.out_at (Cert.Stack.holds h) i k).trans ?_
  rw [Cert.Stack.blk_bf]

theorem agree (h : Real m c) (g : Agree m c V0) : Cert.Stack.result m c
    = Cert.Plain.rOut (Cert.ReferenceIdeal.Value.res_main_v380 V0) (Cert.Plain.a23 V0) (Cert.Plain.a24 V0) := by
  funext y
  have hy : y = ix2 (n0 := 1024) (n1 := 128) (y 0) (y 1) := by
    funext a
    fin_cases a <;> rfl
  refine Eq.trans ?_ ((Cert.Plain.result_at (has h g) (y 0) (y 1)).symm.trans (congrArg _ hy.symm))
  show Cert.Stack.headAt m c (y 0) (y 1) = _
  unfold Cert.Stack.headAt
  rw [show Cert.Stack.left m c (y 0) = fun k => (nrm (row3 (params m c) (y 0)) ((params m c).gf k) k : EReal) + Cert.Stack.p20 m c (ix1 k)
    from funext fun k => left_at h (y 0) k]
  rw [g.e20, g.e21, g.e22, g.e23, g.e24]

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Both programs end with the reference's array, for arguments of real entries. -/
theorem same [Cert.Pre_finite.Facts] : Cert.algebraic_KernelIdeal_ReferenceIdeal_pre_finite (hKernelIdeal := Cert.KernelIdeal.Gen.facts)
    (hReferenceIdeal := Cert.ReferenceIdeal.Gen.facts) := by
  intro m g m' g' hp hm
  refine ⟨fun c => Cert.Stack.result m c, ?_, ?_⟩
  · refine θ_run_mono (Cert.Stack.run m g) fun r h c => ?_
    obtain ⟨hr, hrest⟩ := h.1 c
    exact ⟨hr.trans (Cert.Stack.headArr_eq m c), hrest⟩
  · refine θ_run_mono (Cert.ReferenceIdeal.Value.run m' g') fun r h c => ?_
    obtain ⟨hr, hrest⟩ := h c
    obtain ⟨ha0, ha1, ha2, ha3, ha4, ha5, ha6, ha7, ha8, ha9, ha10, ha11, ha12, ha13, ha14, ha15, ha16, ha17, ha18, ha19, ha20, ha21, ha22, ha23, ha24⟩ := hm c
    exact ⟨hr.trans (Cert.Value.agree (V0 := StableHlo.launchContents m' c) (Cert.Stack.real_of_pre m c hp) ⟨ha0, ha1, ha2, ha3, ha4, ha5, ha6, ha7, ha8, ha9, ha10, ha11, ha12, ha13, ha14, ha15, ha16, ha17, ha18, ha19, ha20, ha21, ha22, ha23, ha24⟩).symm, hrest⟩

theorem claim : Cert.Claim :=
  ⟨Cert.Kernel.Gen.facts, Cert.KernelIdeal.Gen.facts, Cert.ReferenceIdeal.Gen.facts, Cert.Stack.pre_facts,
    fun m g _ => Cert.Frames.kept _ m g, fun m g _ => Cert.Frames.kept_ideal _ m g, fun m g _ => Cert.Frames.kept_ideal _ m g,
    fun m g _ => Cert.Frames.kept_reference m g, fun m g _ => Cert.Frames.kept_reference m g, trivial, @same Cert.Stack.pre_facts⟩

end Cert.Proof

end
